-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14)
      ∧ r.2.mem ((c.tc : Thread Cert.Proj.nD Cert.Proj.τ).loc Cert.Proj.main_arg15) = m ((c.tc : Thread Cert.Proj.nD Cert.Proj.τ).loc Cert.Proj.main_arg15)
      ∧ r.2.mem ((c.tc : Thread Cert.Proj.nD Cert.Proj.τ).loc Cert.Proj.main_arg16) = m ((c.tc : Thread Cert.Proj.nD Cert.Proj.τ).loc Cert.Proj.main_arg16)
      ∧ r.2.mem ((c.tc : Thread Cert.Proj.nD Cert.Proj.τ).loc Cert.Proj.main_arg17) = m ((c.tc : Thread Cert.Proj.nD Cert.Proj.τ).loc Cert.Proj.main_arg17)
      ∧ r.2.mem ((c.tc : Thread Cert.Proj.nD Cert.Proj.τ).loc Cert.Proj.main_arg18) = m ((c.tc : Thread Cert.Proj.nD Cert.Proj.τ).loc Cert.Proj.main_arg18)
      ∧ r.2.mem ((c.tc : Thread Cert.Proj.nD Cert.Proj.τ).loc Cert.Proj.main_arg19) = m ((c.tc : Thread Cert.Proj.nD Cert.Proj.τ).loc Cert.Proj.main_arg19)
      ∧ r.2.mem ((c.tc : Thread Cert.Proj.nD Cert.Proj.τ).loc Cert.Proj.main_arg20) = m ((c.tc : Thread Cert.Proj.nD Cert.Proj.τ).loc Cert.Proj.main_arg20)
      ∧ r.2.mem ((c.tc : Thread Cert.Proj.nD Cert.Proj.τ).loc Cert.Proj.main_arg21) = m ((c.tc : Thread Cert.Proj.nD Cert.Proj.τ).loc Cert.Proj.main_arg21)
      ∧ r.2.mem ((c.tc : Thread Cert.Proj.nD Cert.Proj.τ).loc Cert.Proj.main_arg22) = m ((c.tc : Thread Cert.Proj.nD Cert.Proj.τ).loc Cert.Proj.main_arg22)
      ∧ r.2.mem ((c.tc : Thread Cert.Proj.nD Cert.Proj.τ).loc Cert.Proj.main_arg23) = m ((c.tc : Thread Cert.Proj.nD Cert.Proj.τ).loc Cert.Proj.main_arg23)
      ∧ r.2.mem ((c.tc : Thread Cert.Proj.nD Cert.Proj.τ).loc Cert.Proj.main_arg24) = m ((c.tc : Thread Cert.Proj.nD Cert.Proj.τ).loc Cert.Proj.main_arg24))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
      ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
      ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
      ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17)
      ∧ r.2.mem ((c.tc : Thread Cert.ProjIdeal.nD Cert.ProjIdeal.τ).loc Cert.ProjIdeal.main_arg18) = m ((c.tc : Thread Cert.ProjIdeal.nD Cert.ProjIdeal.τ).loc Cert.ProjIdeal.main_arg18)
      ∧ r.2.mem ((c.tc : Thread Cert.ProjIdeal.nD Cert.ProjIdeal.τ).loc Cert.ProjIdeal.main_arg19) = m ((c.tc : Thread Cert.ProjIdeal.nD Cert.ProjIdeal.τ).loc Cert.ProjIdeal.main_arg19)
      ∧ r.2.mem ((c.tc : Thread Cert.ProjIdeal.nD Cert.ProjIdeal.τ).loc Cert.ProjIdeal.main_arg20) = m ((c.tc : Thread Cert.ProjIdeal.nD Cert.ProjIdeal.τ).loc Cert.ProjIdeal.main_arg20)
      ∧ r.2.mem ((c.tc : Thread Cert.ProjIdeal.nD Cert.ProjIdeal.τ).loc Cert.ProjIdeal.main_arg21) = m ((c.tc : Thread Cert.ProjIdeal.nD Cert.ProjIdeal.τ).loc Cert.ProjIdeal.main_arg21)
      ∧ r.2.mem ((c.tc : Thread Cert.ProjIdeal.nD Cert.ProjIdeal.τ).loc Cert.ProjIdeal.main_arg22) = m ((c.tc : Thread Cert.ProjIdeal.nD Cert.ProjIdeal.τ).loc Cert.ProjIdeal.main_arg22)
      ∧ r.2.mem ((c.tc : Thread Cert.ProjIdeal.nD Cert.ProjIdeal.τ).loc Cert.ProjIdeal.main_arg23) = m ((c.tc : Thread Cert.ProjIdeal.nD Cert.ProjIdeal.τ).loc Cert.ProjIdeal.main_arg23)
      ∧ r.2.mem ((c.tc : Thread Cert.ProjIdeal.nD Cert.ProjIdeal.τ).loc Cert.ProjIdeal.main_arg24) = m ((c.tc : Thread Cert.ProjIdeal.nD Cert.ProjIdeal.τ).loc Cert.ProjIdeal.main_arg24))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14)
      ∧ r.2.mem ((c.tc : Thread Cert.ProjReferenceIdeal.nD Cert.ProjReferenceIdeal.τ).loc Cert.ProjReferenceIdeal.main_arg15) = m ((c.tc : Thread Cert.ProjReferenceIdeal.nD Cert.ProjReferenceIdeal.τ).loc Cert.ProjReferenceIdeal.main_arg15)
      ∧ r.2.mem ((c.tc : Thread Cert.ProjReferenceIdeal.nD Cert.ProjReferenceIdeal.τ).loc Cert.ProjReferenceIdeal.main_arg16) = m ((c.tc : Thread Cert.ProjReferenceIdeal.nD Cert.ProjReferenceIdeal.τ).loc Cert.ProjReferenceIdeal.main_arg16)
      ∧ r.2.mem ((c.tc : Thread Cert.ProjReferenceIdeal.nD Cert.ProjReferenceIdeal.τ).loc Cert.ProjReferenceIdeal.main_arg17) = m ((c.tc : Thread Cert.ProjReferenceIdeal.nD Cert.ProjReferenceIdeal.τ).loc Cert.ProjReferenceIdeal.main_arg17)
      ∧ r.2.mem ((c.tc : Thread Cert.ProjReferenceIdeal.nD Cert.ProjReferenceIdeal.τ).loc Cert.ProjReferenceIdeal.main_arg18) = m ((c.tc : Thread Cert.ProjReferenceIdeal.nD Cert.ProjReferenceIdeal.τ).loc Cert.ProjReferenceIdeal.main_arg18)
      ∧ r.2.mem ((c.tc : Thread Cert.ProjReferenceIdeal.nD Cert.ProjReferenceIdeal.τ).loc Cert.ProjReferenceIdeal.main_arg19) = m ((c.tc : Thread Cert.ProjReferenceIdeal.nD Cert.ProjReferenceIdeal.τ).loc Cert.ProjReferenceIdeal.main_arg19)
      ∧ r.2.mem ((c.tc : Thread Cert.ProjReferenceIdeal.nD Cert.ProjReferenceIdeal.τ).loc Cert.ProjReferenceIdeal.main_arg20) = m ((c.tc : Thread Cert.ProjReferenceIdeal.nD Cert.ProjReferenceIdeal.τ).loc Cert.ProjReferenceIdeal.main_arg20)
      ∧ r.2.mem ((c.tc : Thread Cert.ProjReferenceIdeal.nD Cert.ProjReferenceIdeal.τ).loc Cert.ProjReferenceIdeal.main_arg21) = m ((c.tc : Thread Cert.ProjReferenceIdeal.nD Cert.ProjReferenceIdeal.τ).loc Cert.ProjReferenceIdeal.main_arg21)
      ∧ r.2.mem ((c.tc : Thread Cert.ProjReferenceIdeal.nD Cert.ProjReferenceIdeal.τ).loc Cert.ProjReferenceIdeal.main_arg22) = m ((c.tc : Thread Cert.ProjReferenceIdeal.nD Cert.ProjReferenceIdeal.τ).loc Cert.ProjReferenceIdeal.main_arg22)
      ∧ r.2.mem ((c.tc : Thread Cert.ProjReferenceIdeal.nD Cert.ProjReferenceIdeal.τ).loc Cert.ProjReferenceIdeal.main_arg23) = m ((c.tc : Thread Cert.ProjReferenceIdeal.nD Cert.ProjReferenceIdeal.τ).loc Cert.ProjReferenceIdeal.main_arg23)
      ∧ r.2.mem ((c.tc : Thread Cert.ProjReferenceIdeal.nD Cert.ProjReferenceIdeal.τ).loc Cert.ProjReferenceIdeal.main_arg24) = m ((c.tc : Thread Cert.ProjReferenceIdeal.nD Cert.ProjReferenceIdeal.τ).loc Cert.ProjReferenceIdeal.main_arg24))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)) →
    ∃ (v0 : (c : Dev Cert.TailIdeal.nD) → Buf (Elt Ideal) ((c.tc : Thread Cert.TailIdeal.nD Cert.TailIdeal.τ).loc Cert.TailIdeal.main_v8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v8) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v24) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)
      ∧ m' ((c.tc : Thread Cert.ProjReferenceIdeal.nD Cert.ProjReferenceIdeal.τ).loc Cert.ProjReferenceIdeal.main_arg13) = m ((c.tc : Thread Cert.ProjIdeal.nD Cert.ProjIdeal.τ).loc Cert.ProjIdeal.main_arg13)
      ∧ m' ((c.tc : Thread Cert.ProjReferenceIdeal.nD Cert.ProjReferenceIdeal.τ).loc Cert.ProjReferenceIdeal.main_arg14) = m ((c.tc : Thread Cert.ProjIdeal.nD Cert.ProjIdeal.τ).loc Cert.ProjIdeal.main_arg14)
      ∧ m' ((c.tc : Thread Cert.ProjReferenceIdeal.nD Cert.ProjReferenceIdeal.τ).loc Cert.ProjReferenceIdeal.main_arg15) = m ((c.tc : Thread Cert.ProjIdeal.nD Cert.ProjIdeal.τ).loc Cert.ProjIdeal.main_arg15)
      ∧ m' ((c.tc : Thread Cert.ProjReferenceIdeal.nD Cert.ProjReferenceIdeal.τ).loc Cert.ProjReferenceIdeal.main_arg16) = m ((c.tc : Thread Cert.ProjIdeal.nD Cert.ProjIdeal.τ).loc Cert.ProjIdeal.main_arg16)
      ∧ m' ((c.tc : Thread Cert.ProjReferenceIdeal.nD Cert.ProjReferenceIdeal.τ).loc Cert.ProjReferenceIdeal.main_arg17) = m ((c.tc : Thread Cert.ProjIdeal.nD Cert.ProjIdeal.τ).loc Cert.ProjIdeal.main_arg17)
      ∧ m' ((c.tc : Thread Cert.ProjReferenceIdeal.nD Cert.ProjReferenceIdeal.τ).loc Cert.ProjReferenceIdeal.main_arg18) = m ((c.tc : Thread Cert.ProjIdeal.nD Cert.ProjIdeal.τ).loc Cert.ProjIdeal.main_arg18)
      ∧ m' ((c.tc : Thread Cert.ProjReferenceIdeal.nD Cert.ProjReferenceIdeal.τ).loc Cert.ProjReferenceIdeal.main_arg19) = m ((c.tc : Thread Cert.ProjIdeal.nD Cert.ProjIdeal.τ).loc Cert.ProjIdeal.main_arg19)
      ∧ m' ((c.tc : Thread Cert.ProjReferenceIdeal.nD Cert.ProjReferenceIdeal.τ).loc Cert.ProjReferenceIdeal.main_arg20) = m ((c.tc : Thread Cert.ProjIdeal.nD Cert.ProjIdeal.τ).loc Cert.ProjIdeal.main_arg20)
      ∧ m' ((c.tc : Thread Cert.ProjReferenceIdeal.nD Cert.ProjReferenceIdeal.τ).loc Cert.ProjReferenceIdeal.main_arg21) = m ((c.tc : Thread Cert.ProjIdeal.nD Cert.ProjIdeal.τ).loc Cert.ProjIdeal.main_arg21)
      ∧ m' ((c.tc : Thread Cert.ProjReferenceIdeal.nD Cert.ProjReferenceIdeal.τ).loc Cert.ProjReferenceIdeal.main_arg22) = m ((c.tc : Thread Cert.ProjIdeal.nD Cert.ProjIdeal.τ).loc Cert.ProjIdeal.main_arg22)
      ∧ m' ((c.tc : Thread Cert.ProjReferenceIdeal.nD Cert.ProjReferenceIdeal.τ).loc Cert.ProjReferenceIdeal.main_arg23) = m ((c.tc : Thread Cert.ProjIdeal.nD Cert.ProjIdeal.τ).loc Cert.ProjIdeal.main_arg23)
      ∧ m' ((c.tc : Thread Cert.ProjReferenceIdeal.nD Cert.ProjReferenceIdeal.τ).loc Cert.ProjReferenceIdeal.main_arg24) = m ((c.tc : Thread Cert.ProjIdeal.nD Cert.ProjIdeal.τ).loc Cert.ProjIdeal.main_arg24)) →
    ∃ (v0 : (c : Dev Cert.ProjIdeal.nD) → Buf (Elt Ideal) ((c.tc : Thread Cert.ProjIdeal.nD Cert.ProjIdeal.τ).loc Cert.ProjIdeal.main_v70_0)) (v1 : (c : Dev Cert.ProjIdeal.nD) → Buf (Elt Ideal) ((c.tc : Thread Cert.ProjIdeal.nD Cert.ProjIdeal.τ).loc Cert.ProjIdeal.main_v70_1)) (v2 : (c : Dev Cert.ProjIdeal.nD) → Buf (Elt Ideal) ((c.tc : Thread Cert.ProjIdeal.nD Cert.ProjIdeal.τ).loc Cert.ProjIdeal.main_v70_4)) (v3 : (c : Dev Cert.ProjIdeal.nD) → Buf (Elt Ideal) ((c.tc : Thread Cert.ProjIdeal.nD Cert.ProjIdeal.τ).loc Cert.ProjIdeal.main_v70_5)) (v4 : (c : Dev Cert.ProjIdeal.nD) → Buf (Elt Ideal) ((c.tc : Thread Cert.ProjIdeal.nD Cert.ProjIdeal.τ).loc Cert.ProjIdeal.main_v70_7)) (v5 : (c : Dev Cert.ProjIdeal.nD) → Buf (Elt Ideal) ((c.tc : Thread Cert.ProjIdeal.nD Cert.ProjIdeal.τ).loc Cert.ProjIdeal.main_v70_8)) (v6 : (c : Dev Cert.ProjIdeal.nD) → Buf (Elt Ideal) ((c.tc : Thread Cert.ProjIdeal.nD Cert.ProjIdeal.τ).loc Cert.ProjIdeal.main_v70_11)) (v7 : (c : Dev Cert.ProjIdeal.nD) → Buf (Elt Ideal) ((c.tc : Thread Cert.ProjIdeal.nD Cert.ProjIdeal.τ).loc Cert.ProjIdeal.main_v70_12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v70_0) = v0 c
          ∧ r.2.mem ((c.tc : Thread Cert.ProjIdeal.nD Cert.ProjIdeal.τ).loc Cert.ProjIdeal.main_v70_1) = v1 c
          ∧ r.2.mem ((c.tc : Thread Cert.ProjIdeal.nD Cert.ProjIdeal.τ).loc Cert.ProjIdeal.main_v70_4) = v2 c
          ∧ r.2.mem ((c.tc : Thread Cert.ProjIdeal.nD Cert.ProjIdeal.τ).loc Cert.ProjIdeal.main_v70_5) = v3 c
          ∧ r.2.mem ((c.tc : Thread Cert.ProjIdeal.nD Cert.ProjIdeal.τ).loc Cert.ProjIdeal.main_v70_7) = v4 c
          ∧ r.2.mem ((c.tc : Thread Cert.ProjIdeal.nD Cert.ProjIdeal.τ).loc Cert.ProjIdeal.main_v70_8) = v5 c
          ∧ r.2.mem ((c.tc : Thread Cert.ProjIdeal.nD Cert.ProjIdeal.τ).loc Cert.ProjIdeal.main_v70_11) = v6 c
          ∧ r.2.mem ((c.tc : Thread Cert.ProjIdeal.nD Cert.ProjIdeal.τ).loc Cert.ProjIdeal.main_v70_12) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
          ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
          ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
          ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17)
          ∧ r.2.mem ((c.tc : Thread Cert.ProjIdeal.nD Cert.ProjIdeal.τ).loc Cert.ProjIdeal.main_arg18) = m ((c.tc : Thread Cert.ProjIdeal.nD Cert.ProjIdeal.τ).loc Cert.ProjIdeal.main_arg18)
          ∧ r.2.mem ((c.tc : Thread Cert.ProjIdeal.nD Cert.ProjIdeal.τ).loc Cert.ProjIdeal.main_arg19) = m ((c.tc : Thread Cert.ProjIdeal.nD Cert.ProjIdeal.τ).loc Cert.ProjIdeal.main_arg19)
          ∧ r.2.mem ((c.tc : Thread Cert.ProjIdeal.nD Cert.ProjIdeal.τ).loc Cert.ProjIdeal.main_arg20) = m ((c.tc : Thread Cert.ProjIdeal.nD Cert.ProjIdeal.τ).loc Cert.ProjIdeal.main_arg20)
          ∧ r.2.mem ((c.tc : Thread Cert.ProjIdeal.nD Cert.ProjIdeal.τ).loc Cert.ProjIdeal.main_arg21) = m ((c.tc : Thread Cert.ProjIdeal.nD Cert.ProjIdeal.τ).loc Cert.ProjIdeal.main_arg21)
          ∧ r.2.mem ((c.tc : Thread Cert.ProjIdeal.nD Cert.ProjIdeal.τ).loc Cert.ProjIdeal.main_arg22) = m ((c.tc : Thread Cert.ProjIdeal.nD Cert.ProjIdeal.τ).loc Cert.ProjIdeal.main_arg22)
          ∧ r.2.mem ((c.tc : Thread Cert.ProjIdeal.nD Cert.ProjIdeal.τ).loc Cert.ProjIdeal.main_arg23) = m ((c.tc : Thread Cert.ProjIdeal.nD Cert.ProjIdeal.τ).loc Cert.ProjIdeal.main_arg23)
          ∧ r.2.mem ((c.tc : Thread Cert.ProjIdeal.nD Cert.ProjIdeal.τ).loc Cert.ProjIdeal.main_arg24) = m ((c.tc : Thread Cert.ProjIdeal.nD Cert.ProjIdeal.τ).loc Cert.ProjIdeal.main_arg24))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v29) = v0 c
          ∧ r.2.mem ((c.tc : Thread Cert.ProjReferenceIdeal.nD Cert.ProjReferenceIdeal.τ).loc Cert.ProjReferenceIdeal.main_v77) = v1 c
          ∧ r.2.mem ((c.tc : Thread Cert.ProjReferenceIdeal.nD Cert.ProjReferenceIdeal.τ).loc Cert.ProjReferenceIdeal.main_v113) = v2 c
          ∧ r.2.mem ((c.tc : Thread Cert.ProjReferenceIdeal.nD Cert.ProjReferenceIdeal.τ).loc Cert.ProjReferenceIdeal.main_v90) = v3 c
          ∧ r.2.mem ((c.tc : Thread Cert.ProjReferenceIdeal.nD Cert.ProjReferenceIdeal.τ).loc Cert.ProjReferenceIdeal.main_v112) = v4 c
          ∧ r.2.mem ((c.tc : Thread Cert.ProjReferenceIdeal.nD Cert.ProjReferenceIdeal.τ).loc Cert.ProjReferenceIdeal.main_v92) = v5 c
          ∧ r.2.mem ((c.tc : Thread Cert.ProjReferenceIdeal.nD Cert.ProjReferenceIdeal.τ).loc Cert.ProjReferenceIdeal.main_v94) = v6 c
          ∧ r.2.mem ((c.tc : Thread Cert.ProjReferenceIdeal.nD Cert.ProjReferenceIdeal.τ).loc Cert.ProjReferenceIdeal.main_v114) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14)
          ∧ r.2.mem ((c.tc : Thread Cert.ProjReferenceIdeal.nD Cert.ProjReferenceIdeal.τ).loc Cert.ProjReferenceIdeal.main_arg15) = m' ((c.tc : Thread Cert.ProjReferenceIdeal.nD Cert.ProjReferenceIdeal.τ).loc Cert.ProjReferenceIdeal.main_arg15)
          ∧ r.2.mem ((c.tc : Thread Cert.ProjReferenceIdeal.nD Cert.ProjReferenceIdeal.τ).loc Cert.ProjReferenceIdeal.main_arg16) = m' ((c.tc : Thread Cert.ProjReferenceIdeal.nD Cert.ProjReferenceIdeal.τ).loc Cert.ProjReferenceIdeal.main_arg16)
          ∧ r.2.mem ((c.tc : Thread Cert.ProjReferenceIdeal.nD Cert.ProjReferenceIdeal.τ).loc Cert.ProjReferenceIdeal.main_arg17) = m' ((c.tc : Thread Cert.ProjReferenceIdeal.nD Cert.ProjReferenceIdeal.τ).loc Cert.ProjReferenceIdeal.main_arg17)
          ∧ r.2.mem ((c.tc : Thread Cert.ProjReferenceIdeal.nD Cert.ProjReferenceIdeal.τ).loc Cert.ProjReferenceIdeal.main_arg18) = m' ((c.tc : Thread Cert.ProjReferenceIdeal.nD Cert.ProjReferenceIdeal.τ).loc Cert.ProjReferenceIdeal.main_arg18)
          ∧ r.2.mem ((c.tc : Thread Cert.ProjReferenceIdeal.nD Cert.ProjReferenceIdeal.τ).loc Cert.ProjReferenceIdeal.main_arg19) = m' ((c.tc : Thread Cert.ProjReferenceIdeal.nD Cert.ProjReferenceIdeal.τ).loc Cert.ProjReferenceIdeal.main_arg19)
          ∧ r.2.mem ((c.tc : Thread Cert.ProjReferenceIdeal.nD Cert.ProjReferenceIdeal.τ).loc Cert.ProjReferenceIdeal.main_arg20) = m' ((c.tc : Thread Cert.ProjReferenceIdeal.nD Cert.ProjReferenceIdeal.τ).loc Cert.ProjReferenceIdeal.main_arg20)
          ∧ r.2.mem ((c.tc : Thread Cert.ProjReferenceIdeal.nD Cert.ProjReferenceIdeal.τ).loc Cert.ProjReferenceIdeal.main_arg21) = m' ((c.tc : Thread Cert.ProjReferenceIdeal.nD Cert.ProjReferenceIdeal.τ).loc Cert.ProjReferenceIdeal.main_arg21)
          ∧ r.2.mem ((c.tc : Thread Cert.ProjReferenceIdeal.nD Cert.ProjReferenceIdeal.τ).loc Cert.ProjReferenceIdeal.main_arg22) = m' ((c.tc : Thread Cert.ProjReferenceIdeal.nD Cert.ProjReferenceIdeal.τ).loc Cert.ProjReferenceIdeal.main_arg22)
          ∧ r.2.mem ((c.tc : Thread Cert.ProjReferenceIdeal.nD Cert.ProjReferenceIdeal.τ).loc Cert.ProjReferenceIdeal.main_arg23) = m' ((c.tc : Thread Cert.ProjReferenceIdeal.nD Cert.ProjReferenceIdeal.τ).loc Cert.ProjReferenceIdeal.main_arg23)
          ∧ r.2.mem ((c.tc : Thread Cert.ProjReferenceIdeal.nD Cert.ProjReferenceIdeal.τ).loc Cert.ProjReferenceIdeal.main_arg24) = m' ((c.tc : Thread Cert.ProjReferenceIdeal.nD Cert.ProjReferenceIdeal.τ).loc Cert.ProjReferenceIdeal.main_arg24))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hProj : Cert.Proj.Facts) (hProjIdeal : Cert.ProjIdeal.Facts) (hProjReferenceIdeal : Cert.ProjReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Tail (hTail := hTail)
    ∧ quiescent_TailIdeal (hTailIdeal := hTailIdeal)
    ∧ quiescent_TailReferenceIdeal (hTailReferenceIdeal := hTailReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Tail_TailIdeal
    ∧ algebraic_TailIdeal_TailReferenceIdeal (hTailIdeal := hTailIdeal) (hTailReferenceIdeal := hTailReferenceIdeal)
    ∧ preserves_Proj_ProjIdeal
    ∧ algebraic_ProjIdeal_ProjReferenceIdeal (hProjIdeal := hProjIdeal) (hProjReferenceIdeal := hProjReferenceIdeal)
-- ==== Pre_finite_scores.lean ====
abbrev S32x2048x1024 : Shape := ⟨3, ![32, 2048, 1024]⟩
abbrev S32x2048x512 : Shape := ⟨3, ![32, 2048, 512]⟩
abbrev S1x16x1024 : Shape := ⟨3, ![1, 16, 1024]⟩
abbrev S1x16x512 : Shape := ⟨3, ![1, 16, 512]⟩
abbrev S512 : Shape := ⟨1, ![512]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1x16x1024 : S_.BroadcastsInDim S1x16x1024 (![] : Fin 0 → Fin S1x16x1024.rank)
  reducesTo_S1x16x1024_S_d0_1_2 : S1x16x1024.ReducesTo [0, 1, 2] S_

variable [Facts]

def fn_part1 {F : FTy → Type} [FloatOps F] (main_arg3 : FVec F S1x16x1024 .bf16) (main_v12 : IVec S_ 1) (main_v14 : IVec S1x16x1024 1) (main_v15 : FVec F S1x16x1024 .bf16) : IVec S_ 1 :=
  let main_v16 : IVec S1x16x1024 1 := cmpf .ogt main_arg3 main_v15
  let main_v17 : IVec S1x16x1024 1 := andi main_v14 main_v16
  let main_c_6 : IVec S_ 1 := constantI S_ 1 1#1
  let main_v18 : IVec S_ 1 := (fun x v => Host.reduce IntOp.andi x v reducesTo_S1x16x1024_S_d0_1_2 h_S_) main_v17 main_c_6
  let main_v19 : IVec S_ 1 := andi main_v12 main_v18
  main_v19

def fn {F : FTy → Type} [FloatOps F] (main_arg0 : FVec F S32x2048x1024 .bf16) (main_arg1 : FVec F S32x2048x1024 .bf16) (main_arg2 : FVec F S32x2048x512 .bf16) (main_arg3 : FVec F S1x16x1024 .bf16) (main_arg4 : FVec F S1x16x512 .bf16) (main_arg5 : FVec F S512 .f32) : IVec S_ 1 :=
  let main_cst : FVec F S_ .bf16 := constant S_ .bf16 0x7F80#16
  let main_v0 : FVec F S32x2048x1024 .bf16 := broadcastInDim S32x2048x1024 ![] bcast_S_S32x2048x1024 main_cst
  let main_v1 : IVec S32x2048x1024 1 := cmpf .olt main_arg0 main_v0
  let main_cst_0 : FVec F S_ .bf16 := constant S_ .bf16 0xFF80#16
  let main_v2 : FVec F S32x2048x1024 .bf16 := broadcastInDim S32x2048x1024 ![] bcast_S_S32x2048x1024 main_cst_0
  let main_v3 : IVec S32x2048x1024 1 := cmpf .ogt main_arg0 main_v2
  let main_v4 : IVec S32x2048x1024 1 := andi main_v1 main_v3
  let main_c : IVec S_ 1 := constantI S_ 1 1#1
  let main_v5 : IVec S_ 1 := (fun x v => Host.reduce IntOp.andi x v reducesTo_S32x2048x1024_S_d0_1_2 h_S_) main_v4 main_c
  let main_cst_1 : FVec F S_ .bf16 := constant S_ .bf16 0x7F80#16
  let main_v6 : FVec F S32x2048x1024 .bf16 := broadcastInDim S32x2048x1024 ![] bcast_S_S32x2048x1024 main_cst_1
  let main_v7 : IVec S32x2048x1024 1 := cmpf .olt main_arg1 main_v6
  let main_cst_2 : FVec F S_ .bf16 := constant S_ .bf16 0xFF80#16
  let main_v8 : FVec F S32x2048x1024 .bf16 := broadcastInDim S32x2048x1024 ![] bcast_S_S32x2048x1024 main_cst_2
  let main_v9 : IVec S32x2048x1024 1 := cmpf .ogt main_arg1 main_v8
  let main_v10 : IVec S32x2048x1024 1 := andi main_v7 main_v9
  let main_c_3 : IVec S_ 1 := constantI S_ 1 1#1
  let main_v11 : IVec S_ 1 := (fun x v => Host.reduce IntOp.andi x v reducesTo_S32x2048x1024_S_d0_1_2 h_S_) main_v10 main_c_3
  let main_v12 : IVec S_ 1 := andi main_v5 main_v11
  let main_cst_4 : FVec F S_ .bf16 := constant S_ .bf16 0x7F80#16
  let main_v13 : FVec F S1x16x1024 .bf16 := broadcastInDim S1x16x1024 ![] bcast_S_S1x16x1024 main_cst_4
  let main_v14 : IVec S1x16x1024 1 := cmpf .olt main_arg3 main_v13
  let main_cst_5 : FVec F S_ .bf16 := constant S_ .bf16 0xFF80#16
  let main_v15 : FVec F S1x16x1024 .bf16 := broadcastInDim S1x16x1024 ![] bcast_S_S1x16x1024 main_cst_5
  fn_part1 (F := F) main_arg3 main_v12 main_v14 main_v15
-- ==== Kernel.lean ====
abbrev S32x2048x1024 : Shape := ⟨3, ![32, 2048, 1024]⟩
abbrev S32x2048x512 : Shape := ⟨3, ![32, 2048, 512]⟩
abbrev S1x16x1024 : Shape := ⟨3, ![1, 16, 1024]⟩
abbrev S1x16x512 : Shape := ⟨3, ![1, 16, 512]⟩
abbrev S512 : Shape := ⟨1, ![512]⟩
abbrev S1x512 : Shape := ⟨2, ![1, 512]⟩
abbrev S16x1024 : Shape := ⟨2, ![16, 1024]⟩
abbrev S_ : Shape := ⟨0, ![]⟩
abbrev S128x1024 : Shape := ⟨2, ![128, 1024]⟩
abbrev S16x512 : Shape := ⟨2, ![16, 512]⟩
abbrev S128x512 : Shape := ⟨2, ![128, 512]⟩
abbrev S1x256x1024 : Shape := ⟨3, ![1, 256, 1024]⟩
abbrev S1x2048x1024 : Shape := ⟨3, ![1, 2048, 1024]⟩
abbrev S1x2048x512 : Shape := ⟨3, ![1, 2048, 512]⟩
abbrev S1x256x512 : Shape := ⟨3, ![1, 256, 512]⟩
abbrev S256x128 : Shape := ⟨2, ![256, 128]⟩
abbrev S256x256 : Shape := ⟨2, ![256, 256]⟩
abbrev S1x256x128 : Shape := ⟨3, ![1, 256, 128]⟩
abbrev S256x1 : Shape := ⟨2, ![256, 1]⟩
abbrev S128x128 : Shape := ⟨2, ![128, 128]⟩
abbrev S256 : Shape := ⟨1, ![256]⟩
abbrev S256x512 : Shape := ⟨2, ![256, 512]⟩

abbrev nBuf : Space → Nat
  | .hbm => 16
  | .vmem => 11
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x512, .bf16⟩
  | .hbm, ⟨3, _⟩ => ⟨S1x16x1024, .bf16⟩
  | .hbm, ⟨4, _⟩ => ⟨S1x16x512, .bf16⟩
  | .hbm, ⟨5, _⟩ => ⟨S512, .f32⟩
  | .hbm, ⟨6, _⟩ => ⟨S1x512, .f32⟩
  | .hbm, ⟨7, _⟩ => ⟨S16x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S16x512, .bf16⟩
  | .hbm, ⟨12, _⟩ => ⟨S_, .i32⟩
  | .hbm, ⟨13, _⟩ => ⟨S_, .bf16⟩
  | .hbm, ⟨14, _⟩ => ⟨S128x512, .bf16⟩
  | .hbm, ⟨15, _⟩ => ⟨S32x2048x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x512, .bf16⟩
  | .local _ .vmem, ⟨5, _⟩ => ⟨S1x2048x512, .bf16⟩
  | .local _ .vmem, ⟨6, _⟩ => ⟨S128x1024, .bf16⟩
  | .local _ .vmem, ⟨7, _⟩ => ⟨S128x512, .bf16⟩
  | .local _ .vmem, ⟨8, _⟩ => ⟨S1x512, .f32⟩
  | .local _ .vmem, ⟨9, _⟩ => ⟨S1x256x512, .bf16⟩
  | .local _ .vmem, ⟨10, _⟩ => ⟨S1x256x512, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 8], ![false, false]⟩

@[reducible] def k0_t1_loop (i : grid0.Coords) : Scf.Loop 32 :=
  let c0_i32_24 : BitVec 32 := 0#32
  let arg1 : BitVec 32 := BitVec.ofNat 32 (i 1).val
  let v83 : BitVec 32 := Scalar.subi arg1 c0_i32_24
  let c1_i32_25 : BitVec 32 := 1#32
  let v85 : BitVec 32 := Scalar.divsi v83 c1_i32_25
  let v86 : BitVec 32 := Scalar.muli v85 c1_i32_25
  let v87 : BitVec 32 := Scalar.addi c0_i32_24 v86
  let c1_i32_26 : BitVec 32 := 1#32
  ⟨c0_i32_24, v87, c1_i32_26⟩
def k0_mult1 (i : grid0.Coords) (k0_t1 : Fin (k0_t1_loop i).trips) : BitVec 32 :=
  let c0_i32_24 : BitVec 32 := 0#32
  let c1_i32_26 : BitVec 32 := 1#32
  let arg9 : BitVec 32 := Scf.iv c0_i32_24 c1_i32_26 k0_t1
  let c256_i32_245 : BitVec 32 := 256#32
  let v614 : BitVec 32 := Scalar.muli arg9 c256_i32_245
  v614
def k0_off1 (i : grid0.Coords) (k0_t1 : Fin (k0_t1_loop i).trips) : Fin 3 → Nat :=
  let c0_246 : Index := 0#32
  let c0_i32_24 : BitVec 32 := 0#32
  let c1_i32_26 : BitVec 32 := 1#32
  let arg9 : BitVec 32 := Scf.iv c0_i32_24 c1_i32_26 k0_t1
  let c256_i32_245 : BitVec 32 := 256#32
  let v614 : BitVec 32 := Scalar.muli arg9 c256_i32_245
  let v615 : BitVec 32 := v614
  let v616 : Index := Scalar.indexCast v615
  let c0_247 : Index := 0#32
  ![0, v616.toNat, 0]
def k0_off2 (i : grid0.Coords) (k0_t1 : Fin (k0_t1_loop i).trips) : Fin 3 → Nat :=
  let c0_248 : Index := 0#32
  let c0_i32_24 : BitVec 32 := 0#32
  let c1_i32_26 : BitVec 32 := 1#32
  let arg9 : BitVec 32 := Scf.iv c0_i32_24 c1_i32_26 k0_t1
  let c256_i32_245 : BitVec 32 := 256#32
  let v614 : BitVec 32 := Scalar.muli arg9 c256_i32_245
  let v615 : BitVec 32 := v614
  let v619 : Index := Scalar.indexCast v615
  let c0_249 : Index := 0#32
  ![0, v619.toNat, 0]
@[reducible] def k0_t2_loop (i : grid0.Coords) : Scf.Loop 32 :=
  let c0_i32_24 : BitVec 32 := 0#32
  let arg1 : BitVec 32 := BitVec.ofNat 32 (i 1).val
  let v83 : BitVec 32 := Scalar.subi arg1 c0_i32_24
  let c1_i32_25 : BitVec 32 := 1#32
  let v85 : BitVec 32 := Scalar.divsi v83 c1_i32_25
  let v86 : BitVec 32 := Scalar.muli v85 c1_i32_25
  let v87 : BitVec 32 := Scalar.addi c0_i32_24 v86
  let v84 : BitVec 32 := Scalar.addi c0_i32_24 v83
  let c1_i32_27 : BitVec 32 := 1#32
  ⟨v87, v84, c1_i32_27⟩
def k0_mult2 (i : grid0.Coords) (k0_t2 : Fin (k0_t2_loop i).trips) : BitVec 32 :=
  let c0_i32_24 : BitVec 32 := 0#32
  let arg1 : BitVec 32 := BitVec.ofNat 32 (i 1).val
  let v83 : BitVec 32 := Scalar.subi arg1 c0_i32_24
  let c1_i32_25 : BitVec 32 := 1#32
  let v85 : BitVec 32 := Scalar.divsi v83 c1_i32_25
  let v86 : BitVec 32 := Scalar.muli v85 c1_i32_25
  let v87 : BitVec 32 := Scalar.addi c0_i32_24 v86
  let c1_i32_27 : BitVec 32 := 1#32
  let arg9 : BitVec 32 := Scf.iv v87 c1_i32_27 k0_t2
  let c256_i32_245 : BitVec 32 := 256#32
  let v614 : BitVec 32 := Scalar.muli arg9 c256_i32_245
  v614
def k0_off3 (i : grid0.Coords) (k0_t2 : Fin (k0_t2_loop i).trips) : Fin 3 → Nat :=
  let c0_246 : Index := 0#32
  let c0_i32_24 : BitVec 32 := 0#32
  let arg1 : BitVec 32 := BitVec.ofNat 32 (i 1).val
  let v83 : BitVec 32 := Scalar.subi arg1 c0_i32_24
  let c1_i32_25 : BitVec 32 := 1#32
  let v85 : BitVec 32 := Scalar.divsi v83 c1_i32_25
  let v86 : BitVec 32 := Scalar.muli v85 c1_i32_25
  let v87 : BitVec 32 := Scalar.addi c0_i32_24 v86
  let c1_i32_27 : BitVec 32 := 1#32
  let arg9 : BitVec 32 := Scf.iv v87 c1_i32_27 k0_t2
  let c256_i32_245 : BitVec 32 := 256#32
  let v614 : BitVec 32 := Scalar.muli arg9 c256_i32_245
  let v615 : BitVec 32 := v614
  let v616 : Index := Scalar.indexCast v615
  let c0_247 : Index := 0#32
  ![0, v616.toNat, 0]
def k0_off4 (i : grid0.Coords) (k0_t2 : Fin (k0_t2_loop i).trips) : Fin 3 → Nat :=
  let c0_248 : Index := 0#32
  let c0_i32_24 : BitVec 32 := 0#32
  let arg1 : BitVec 32 := BitVec.ofNat 32 (i 1).val
  let v83 : BitVec 32 := Scalar.subi arg1 c0_i32_24
  let c1_i32_25 : BitVec 32 := 1#32
  let v85 : BitVec 32 := Scalar.divsi v83 c1_i32_25
  let v86 : BitVec 32 := Scalar.muli v85 c1_i32_25
  let v87 : BitVec 32 := Scalar.addi c0_i32_24 v86
  let c1_i32_27 : BitVec 32 := 1#32
  let arg9 : BitVec 32 := Scf.iv v87 c1_i32_27 k0_t2
  let c256_i32_245 : BitVec 32 := 256#32
  let v614 : BitVec 32 := Scalar.muli arg9 c256_i32_245
  let v615 : BitVec 32 := v614
  let v619 : Index := Scalar.indexCast v615
  let c0_249 : Index := 0#32
  ![0, v619.toNat, 0]
def k0_mult3 (i : grid0.Coords) : BitVec 32 :=
  let arg1 : BitVec 32 := BitVec.ofNat 32 (i 1).val
  let c256_i32 : BitVec 32 := 256#32
  let v90 : BitVec 32 := Scalar.muli arg1 c256_i32
  v90
def k0_off5 (i : grid0.Coords) : Fin 3 → Nat :=
  let c0_28 : Index := 0#32
  let arg1 : BitVec 32 := BitVec.ofNat 32 (i 1).val
  let c256_i32 : BitVec 32 := 256#32
  let v90 : BitVec 32 := Scalar.muli arg1 c256_i32
  let v91 : BitVec 32 := v90
  let v92 : Index := Scalar.indexCast v91
  let c0_29 : Index := 0#32
  ![0, v92.toNat, 0]
def k0_off6 (i : grid0.Coords) : Fin 3 → Nat :=
  let c0_30 : Index := 0#32
  let arg1 : BitVec 32 := BitVec.ofNat 32 (i 1).val
  let c256_i32 : BitVec 32 := 256#32
  let v90 : BitVec 32 := Scalar.muli arg1 c256_i32
  let v91 : BitVec 32 := v90
  let v95 : Index := Scalar.indexCast v91
  let c0_31 : Index := 0#32
  ![0, v95.toNat, 0]
@[reducible] def k0_t3_loop (i : grid0.Coords) : Scf.Loop 32 :=
  let c0_i32_51 : BitVec 32 := 0#32
  let arg1 : BitVec 32 := BitVec.ofNat 32 (i 1).val
  let v147 : BitVec 32 := Scalar.subi arg1 c0_i32_51
  let c1_i32_52 : BitVec 32 := 1#32
  let v149 : BitVec 32 := Scalar.divsi v147 c1_i32_52
  let v150 : BitVec 32 := Scalar.muli v149 c1_i32_52
  let v151 : BitVec 32 := Scalar.addi c0_i32_51 v150
  let c1_i32_53 : BitVec 32 := 1#32
  ⟨c0_i32_51, v151, c1_i32_53⟩
def k0_mult4 (i : grid0.Coords) (k0_t3 : Fin (k0_t3_loop i).trips) : BitVec 32 :=
  let c0_i32_51 : BitVec 32 := 0#32
  let c1_i32_53 : BitVec 32 := 1#32
  let arg9 : BitVec 32 := Scf.iv c0_i32_51 c1_i32_53 k0_t3
  let c256_i32_245 : BitVec 32 := 256#32
  let v614 : BitVec 32 := Scalar.muli arg9 c256_i32_245
  v614
def k0_off7 (i : grid0.Coords) (k0_t3 : Fin (k0_t3_loop i).trips) : Fin 3 → Nat :=
  let c0_246 : Index := 0#32
  let c0_i32_51 : BitVec 32 := 0#32
  let c1_i32_53 : BitVec 32 := 1#32
  let arg9 : BitVec 32 := Scf.iv c0_i32_51 c1_i32_53 k0_t3
  let c256_i32_245 : BitVec 32 := 256#32
  let v614 : BitVec 32 := Scalar.muli arg9 c256_i32_245
  let v615 : BitVec 32 := v614
  let v616 : Index := Scalar.indexCast v615
  let c128_247 : Index := 128#32
  ![0, v616.toNat, 128]
def k0_off8 (i : grid0.Coords) (k0_t3 : Fin (k0_t3_loop i).trips) : Fin 3 → Nat :=
  let c0_248 : Index := 0#32
  let c0_i32_51 : BitVec 32 := 0#32
  let c1_i32_53 : BitVec 32 := 1#32
  let arg9 : BitVec 32 := Scf.iv c0_i32_51 c1_i32_53 k0_t3
  let c256_i32_245 : BitVec 32 := 256#32
  let v614 : BitVec 32 := Scalar.muli arg9 c256_i32_245
  let v615 : BitVec 32 := v614
  let v619 : Index := Scalar.indexCast v615
  let c0_249 : Index := 0#32
  ![0, v619.toNat, 0]
@[reducible] def k0_t4_loop (i : grid0.Coords) : Scf.Loop 32 :=
  let c0_i32_51 : BitVec 32 := 0#32
  let arg1 : BitVec 32 := BitVec.ofNat 32 (i 1).val
  let v147 : BitVec 32 := Scalar.subi arg1 c0_i32_51
  let c1_i32_52 : BitVec 32 := 1#32
  let v149 : BitVec 32 := Scalar.divsi v147 c1_i32_52
  let v150 : BitVec 32 := Scalar.muli v149 c1_i32_52
  let v151 : BitVec 32 := Scalar.addi c0_i32_51 v150
  let v148 : BitVec 32 := Scalar.addi c0_i32_51 v147
  let c1_i32_54 : BitVec 32 := 1#32
  ⟨v151, v148, c1_i32_54⟩
def k0_mult5 (i : grid0.Coords) (k0_t4 : Fin (k0_t4_loop i).trips) : BitVec 32 :=
  let c0_i32_51 : BitVec 32 := 0#32
  let arg1 : BitVec 32 := BitVec.ofNat 32 (i 1).val
  let v147 : BitVec 32 := Scalar.subi arg1 c0_i32_51
  let c1_i32_52 : BitVec 32 := 1#32
  let v149 : BitVec 32 := Scalar.divsi v147 c1_i32_52
  let v150 : BitVec 32 := Scalar.muli v149 c1_i32_52
  let v151 : BitVec 32 := Scalar.addi c0_i32_51 v150
  let c1_i32_54 : BitVec 32 := 1#32
  let arg9 : BitVec 32 := Scf.iv v151 c1_i32_54 k0_t4
  let c256_i32_245 : BitVec 32 := 256#32
  let v614 : BitVec 32 := Scalar.muli arg9 c256_i32_245
  v614
def k0_off9 (i : grid0.Coords) (k0_t4 : Fin (k0_t4_loop i).trips) : Fin 3 → Nat :=
  let c0_246 : Index := 0#32
  let c0_i32_51 : BitVec 32 := 0#32
  let arg1 : BitVec 32 := BitVec.ofNat 32 (i 1).val
  let v147 : BitVec 32 := Scalar.subi arg1 c0_i32_51
  let c1_i32_52 : BitVec 32 := 1#32
  let v149 : BitVec 32 := Scalar.divsi v147 c1_i32_52
  let v150 : BitVec 32 := Scalar.muli v149 c1_i32_52
  let v151 : BitVec 32 := Scalar.addi c0_i32_51 v150
  let c1_i32_54 : BitVec 32 := 1#32
  let arg9 : BitVec 32 := Scf.iv v151 c1_i32_54 k0_t4
  let c256_i32_245 : BitVec 32 := 256#32
  let v614 : BitVec 32 := Scalar.muli arg9 c256_i32_245
  let v615 : BitVec 32 := v614
  let v616 : Index := Scalar.indexCast v615
  let c128_247 : Index := 128#32
  ![0, v616.toNat, 128]
def k0_off10 (i : grid0.Coords) (k0_t4 : Fin (k0_t4_loop i).trips) : Fin 3 → Nat :=
  let c0_248 : Index := 0#32
  let c0_i32_51 : BitVec 32 := 0#32
  let arg1 : BitVec 32 := BitVec.ofNat 32 (i 1).val
  let v147 : BitVec 32 := Scalar.subi arg1 c0_i32_51
  let c1_i32_52 : BitVec 32 := 1#32
  let v149 : BitVec 32 := Scalar.divsi v147 c1_i32_52
  let v150 : BitVec 32 := Scalar.muli v149 c1_i32_52
  let v151 : BitVec 32 := Scalar.addi c0_i32_51 v150
  let c1_i32_54 : BitVec 32 := 1#32
  let arg9 : BitVec 32 := Scf.iv v151 c1_i32_54 k0_t4
  let c256_i32_245 : BitVec 32 := 256#32
  let v614 : BitVec 32 := Scalar.muli arg9 c256_i32_245
  let v615 : BitVec 32 := v614
  let v619 : Index := Scalar.indexCast v615
  let c0_249 : Index := 0#32
  ![0, v619.toNat, 0]
def k0_mult6 (i : grid0.Coords) : BitVec 32 :=
  let arg1 : BitVec 32 := BitVec.ofNat 32 (i 1).val
  let c256_i32_55 : BitVec 32 := 256#32
  let v154 : BitVec 32 := Scalar.muli arg1 c256_i32_55
  v154
def k0_off11 (i : grid0.Coords) : Fin 3 → Nat :=
  let c0_56 : Index := 0#32
  let arg1 : BitVec 32 := BitVec.ofNat 32 (i 1).val
  let c256_i32_55 : BitVec 32 := 256#32
  let v154 : BitVec 32 := Scalar.muli arg1 c256_i32_55
  let v155 : BitVec 32 := v154
  let v156 : Index := Scalar.indexCast v155
  let c128_57 : Index := 128#32
  ![0, v156.toNat, 128]
@[reducible] def k0_t5_loop (i : grid0.Coords) : Scf.Loop 32 :=
  let c0_i32_79 : BitVec 32 := 0#32
  let arg1 : BitVec 32 := BitVec.ofNat 32 (i 1).val
  let v211 : BitVec 32 := Scalar.subi arg1 c0_i32_79
  let c1_i32_80 : BitVec 32 := 1#32
  let v213 : BitVec 32 := Scalar.divsi v211 c1_i32_80
  let v214 : BitVec 32 := Scalar.muli v213 c1_i32_80
  let v215 : BitVec 32 := Scalar.addi c0_i32_79 v214
  let c1_i32_81 : BitVec 32 := 1#32
  ⟨c0_i32_79, v215, c1_i32_81⟩
def k0_mult7 (i : grid0.Coords) (k0_t5 : Fin (k0_t5_loop i).trips) : BitVec 32 :=
  let c0_i32_79 : BitVec 32 := 0#32
  let c1_i32_81 : BitVec 32 := 1#32
  let arg9 : BitVec 32 := Scf.iv c0_i32_79 c1_i32_81 k0_t5
  let c256_i32_245 : BitVec 32 := 256#32
  let v614 : BitVec 32 := Scalar.muli arg9 c256_i32_245
  v614
def k0_off12 (i : grid0.Coords) (k0_t5 : Fin (k0_t5_loop i).trips) : Fin 3 → Nat :=
  let c0_246 : Index := 0#32
  let c0_i32_79 : BitVec 32 := 0#32
  let c1_i32_81 : BitVec 32 := 1#32
  let arg9 : BitVec 32 := Scf.iv c0_i32_79 c1_i32_81 k0_t5
  let c256_i32_245 : BitVec 32 := 256#32
  let v614 : BitVec 32 := Scalar.muli arg9 c256_i32_245
  let v615 : BitVec 32 := v614
  let v616 : Index := Scalar.indexCast v615
  let c256_247 : Index := 256#32
  ![0, v616.toNat, 256]
def k0_off13 (i : grid0.Coords) (k0_t5 : Fin (k0_t5_loop i).trips) : Fin 3 → Nat :=
  let c0_248 : Index := 0#32
  let c0_i32_79 : BitVec 32 := 0#32
  let c1_i32_81 : BitVec 32 := 1#32
  let arg9 : BitVec 32 := Scf.iv c0_i32_79 c1_i32_81 k0_t5
  let c256_i32_245 : BitVec 32 := 256#32
  let v614 : BitVec 32 := Scalar.muli arg9 c256_i32_245
  let v615 : BitVec 32 := v614
  let v619 : Index := Scalar.indexCast v615
  let c128_249 : Index := 128#32
  ![0, v619.toNat, 128]
@[reducible] def k0_t6_loop (i : grid0.Coords) : Scf.Loop 32 :=
  let c0_i32_79 : BitVec 32 := 0#32
  let arg1 : BitVec 32 := BitVec.ofNat 32 (i 1).val
  let v211 : BitVec 32 := Scalar.subi arg1 c0_i32_79
  let c1_i32_80 : BitVec 32 := 1#32
  let v213 : BitVec 32 := Scalar.divsi v211 c1_i32_80
  let v214 : BitVec 32 := Scalar.muli v213 c1_i32_80
  let v215 : BitVec 32 := Scalar.addi c0_i32_79 v214
  let v212 : BitVec 32 := Scalar.addi c0_i32_79 v211
  let c1_i32_82 : BitVec 32 := 1#32
  ⟨v215, v212, c1_i32_82⟩
def k0_mult8 (i : grid0.Coords) (k0_t6 : Fin (k0_t6_loop i).trips) : BitVec 32 :=
  let c0_i32_79 : BitVec 32 := 0#32
  let arg1 : BitVec 32 := BitVec.ofNat 32 (i 1).val
  let v211 : BitVec 32 := Scalar.subi arg1 c0_i32_79
  let c1_i32_80 : BitVec 32 := 1#32
  let v213 : BitVec 32 := Scalar.divsi v211 c1_i32_80
  let v214 : BitVec 32 := Scalar.muli v213 c1_i32_80
  let v215 : BitVec 32 := Scalar.addi c0_i32_79 v214
  let c1_i32_82 : BitVec 32 := 1#32
  let arg9 : BitVec 32 := Scf.iv v215 c1_i32_82 k0_t6
  let c256_i32_245 : BitVec 32 := 256#32
  let v614 : BitVec 32 := Scalar.muli arg9 c256_i32_245
  v614
def k0_off14 (i : grid0.Coords) (k0_t6 : Fin (k0_t6_loop i).trips) : Fin 3 → Nat :=
  let c0_246 : Index := 0#32
  let c0_i32_79 : BitVec 32 := 0#32
  let arg1 : BitVec 32 := BitVec.ofNat 32 (i 1).val
  let v211 : BitVec 32 := Scalar.subi arg1 c0_i32_79
  let c1_i32_80 : BitVec 32 := 1#32
  let v213 : BitVec 32 := Scalar.divsi v211 c1_i32_80
  let v214 : BitVec 32 := Scalar.muli v213 c1_i32_80
  let v215 : BitVec 32 := Scalar.addi c0_i32_79 v214
  let c1_i32_82 : BitVec 32 := 1#32
  let arg9 : BitVec 32 := Scf.iv v215 c1_i32_82 k0_t6
  let c256_i32_245 : BitVec 32 := 256#32
  let v614 : BitVec 32 := Scalar.muli arg9 c256_i32_245
  let v615 : BitVec 32 := v614
  let v616 : Index := Scalar.indexCast v615
  let c256_247 : Index := 256#32
  ![0, v616.toNat, 256]
def k0_off15 (i : grid0.Coords) (k0_t6 : Fin (k0_t6_loop i).trips) : Fin 3 → Nat :=
  let c0_248 : Index := 0#32
  let c0_i32_79 : BitVec 32 := 0#32
  let arg1 : BitVec 32 := BitVec.ofNat 32 (i 1).val
  let v211 : BitVec 32 := Scalar.subi arg1 c0_i32_79
  let c1_i32_80 : BitVec 32 := 1#32
  let v213 : BitVec 32 := Scalar.divsi v211 c1_i32_80
  let v214 : BitVec 32 := Scalar.muli v213 c1_i32_80
  let v215 : BitVec 32 := Scalar.addi c0_i32_79 v214
  let c1_i32_82 : BitVec 32 := 1#32
  let arg9 : BitVec 32 := Scf.iv v215 c1_i32_82 k0_t6
  let c256_i32_245 : BitVec 32 := 256#32
  let v614 : BitVec 32 := Scalar.muli arg9 c256_i32_245
  let v615 : BitVec 32 := v614
  let v619 : Index := Scalar.indexCast v615
  let c128_249 : Index := 128#32
  ![0, v619.toNat, 128]
def k0_mult9 (i : grid0.Coords) : BitVec 32 :=
  let arg1 : BitVec 32 := BitVec.ofNat 32 (i 1).val
  let c256_i32_83 : BitVec 32 := 256#32
  let v218 : BitVec 32 := Scalar.muli arg1 c256_i32_83
  v218
def k0_off16 (i : grid0.Coords) : Fin 3 → Nat :=
  let c0_84 : Index := 0#32
  let arg1 : BitVec 32 := BitVec.ofNat 32 (i 1).val
  let c256_i32_83 : BitVec 32 := 256#32
  let v218 : BitVec 32 := Scalar.muli arg1 c256_i32_83
  let v219 : BitVec 32 := v218
  let v220 : Index := Scalar.indexCast v219
  let c256_85 : Index := 256#32
  ![0, v220.toNat, 256]
def k0_off17 (i : grid0.Coords) : Fin 3 → Nat :=
  let c0_86 : Index := 0#32
  let arg1 : BitVec 32 := BitVec.ofNat 32 (i 1).val
  let c256_i32_83 : BitVec 32 := 256#32
  let v218 : BitVec 32 := Scalar.muli arg1 c256_i32_83
  let v219 : BitVec 32 := v218
  let v223 : Index := Scalar.indexCast v219
  let c128_87 : Index := 128#32
  ![0, v223.toNat, 128]
@[reducible] def k0_t7_loop (i : grid0.Coords) : Scf.Loop 32 :=
  let c0_i32_107 : BitVec 32 := 0#32
  let arg1 : BitVec 32 := BitVec.ofNat 32 (i 1).val
  let v275 : BitVec 32 := Scalar.subi arg1 c0_i32_107
  let c1_i32_108 : BitVec 32 := 1#32
  let v277 : BitVec 32 := Scalar.divsi v275 c1_i32_108
  let v278 : BitVec 32 := Scalar.muli v277 c1_i32_108
  let v279 : BitVec 32 := Scalar.addi c0_i32_107 v278
  let c1_i32_109 : BitVec 32 := 1#32
  ⟨c0_i32_107, v279, c1_i32_109⟩
def k0_mult10 (i : grid0.Coords) (k0_t7 : Fin (k0_t7_loop i).trips) : BitVec 32 :=
  let c0_i32_107 : BitVec 32 := 0#32
  let c1_i32_109 : BitVec 32 := 1#32
  let arg9 : BitVec 32 := Scf.iv c0_i32_107 c1_i32_109 k0_t7
  let c256_i32_245 : BitVec 32 := 256#32
  let v614 : BitVec 32 := Scalar.muli arg9 c256_i32_245
  v614
def k0_off18 (i : grid0.Coords) (k0_t7 : Fin (k0_t7_loop i).trips) : Fin 3 → Nat :=
  let c0_246 : Index := 0#32
  let c0_i32_107 : BitVec 32 := 0#32
  let c1_i32_109 : BitVec 32 := 1#32
  let arg9 : BitVec 32 := Scf.iv c0_i32_107 c1_i32_109 k0_t7
  let c256_i32_245 : BitVec 32 := 256#32
  let v614 : BitVec 32 := Scalar.muli arg9 c256_i32_245
  let v615 : BitVec 32 := v614
  let v616 : Index := Scalar.indexCast v615
  let c384_247 : Index := 384#32
  ![0, v616.toNat, 384]
def k0_off19 (i : grid0.Coords) (k0_t7 : Fin (k0_t7_loop i).trips) : Fin 3 → Nat :=
  let c0_248 : Index := 0#32
  let c0_i32_107 : BitVec 32 := 0#32
  let c1_i32_109 : BitVec 32 := 1#32
  let arg9 : BitVec 32 := Scf.iv c0_i32_107 c1_i32_109 k0_t7
  let c256_i32_245 : BitVec 32 := 256#32
  let v614 : BitVec 32 := Scalar.muli arg9 c256_i32_245
  let v615 : BitVec 32 := v614
  let v619 : Index := Scalar.indexCast v615
  let c128_249 : Index := 128#32
  ![0, v619.toNat, 128]
@[reducible] def k0_t8_loop (i : grid0.Coords) : Scf.Loop 32 :=
  let c0_i32_107 : BitVec 32 := 0#32
  let arg1 : BitVec 32 := BitVec.ofNat 32 (i 1).val
  let v275 : BitVec 32 := Scalar.subi arg1 c0_i32_107
  let c1_i32_108 : BitVec 32 := 1#32
  let v277 : BitVec 32 := Scalar.divsi v275 c1_i32_108
  let v278 : BitVec 32 := Scalar.muli v277 c1_i32_108
  let v279 : BitVec 32 := Scalar.addi c0_i32_107 v278
  let v276 : BitVec 32 := Scalar.addi c0_i32_107 v275
  let c1_i32_110 : BitVec 32 := 1#32
  ⟨v279, v276, c1_i32_110⟩
def k0_mult11 (i : grid0.Coords) (k0_t8 : Fin (k0_t8_loop i).trips) : BitVec 32 :=
  let c0_i32_107 : BitVec 32 := 0#32
  let arg1 : BitVec 32 := BitVec.ofNat 32 (i 1).val
  let v275 : BitVec 32 := Scalar.subi arg1 c0_i32_107
  let c1_i32_108 : BitVec 32 := 1#32
  let v277 : BitVec 32 := Scalar.divsi v275 c1_i32_108
  let v278 : BitVec 32 := Scalar.muli v277 c1_i32_108
  let v279 : BitVec 32 := Scalar.addi c0_i32_107 v278
  let c1_i32_110 : BitVec 32 := 1#32
  let arg9 : BitVec 32 := Scf.iv v279 c1_i32_110 k0_t8
  let c256_i32_245 : BitVec 32 := 256#32
  let v614 : BitVec 32 := Scalar.muli arg9 c256_i32_245
  v614
def k0_off20 (i : grid0.Coords) (k0_t8 : Fin (k0_t8_loop i).trips) : Fin 3 → Nat :=
  let c0_246 : Index := 0#32
  let c0_i32_107 : BitVec 32 := 0#32
  let arg1 : BitVec 32 := BitVec.ofNat 32 (i 1).val
  let v275 : BitVec 32 := Scalar.subi arg1 c0_i32_107
  let c1_i32_108 : BitVec 32 := 1#32
  let v277 : BitVec 32 := Scalar.divsi v275 c1_i32_108
  let v278 : BitVec 32 := Scalar.muli v277 c1_i32_108
  let v279 : BitVec 32 := Scalar.addi c0_i32_107 v278
  let c1_i32_110 : BitVec 32 := 1#32
  let arg9 : BitVec 32 := Scf.iv v279 c1_i32_110 k0_t8
  let c256_i32_245 : BitVec 32 := 256#32
  let v614 : BitVec 32 := Scalar.muli arg9 c256_i32_245
  let v615 : BitVec 32 := v614
  let v616 : Index := Scalar.indexCast v615
  let c384_247 : Index := 384#32
  ![0, v616.toNat, 384]
def k0_off21 (i : grid0.Coords) (k0_t8 : Fin (k0_t8_loop i).trips) : Fin 3 → Nat :=
  let c0_248 : Index := 0#32
  let c0_i32_107 : BitVec 32 := 0#32
  let arg1 : BitVec 32 := BitVec.ofNat 32 (i 1).val
  let v275 : BitVec 32 := Scalar.subi arg1 c0_i32_107
  let c1_i32_108 : BitVec 32 := 1#32
  let v277 : BitVec 32 := Scalar.divsi v275 c1_i32_108
  let v278 : BitVec 32 := Scalar.muli v277 c1_i32_108
  let v279 : BitVec 32 := Scalar.addi c0_i32_107 v278
  let c1_i32_110 : BitVec 32 := 1#32
  let arg9 : BitVec 32 := Scf.iv v279 c1_i32_110 k0_t8
  let c256_i32_245 : BitVec 32 := 256#32
  let v614 : BitVec 32 := Scalar.muli arg9 c256_i32_245
  let v615 : BitVec 32 := v614
  let v619 : Index := Scalar.indexCast v615
  let c128_249 : Index := 128#32
  ![0, v619.toNat, 128]
def k0_mult12 (i : grid0.Coords) : BitVec 32 :=
  let arg1 : BitVec 32 := BitVec.ofNat 32 (i 1).val
  let c256_i32_111 : BitVec 32 := 256#32
  let v282 : BitVec 32 := Scalar.muli arg1 c256_i32_111
  v282
def k0_off22 (i : grid0.Coords) : Fin 3 → Nat :=
  let c0_112 : Index := 0#32
  let arg1 : BitVec 32 := BitVec.ofNat 32 (i 1).val
  let c256_i32_111 : BitVec 32 := 256#32
  let v282 : BitVec 32 := Scalar.muli arg1 c256_i32_111
  let v283 : BitVec 32 := v282
  let v284 : Index := Scalar.indexCast v283
  let c384_113 : Index := 384#32
  ![0, v284.toNat, 384]
@[reducible] def k0_t9_loop (i : grid0.Coords) : Scf.Loop 32 :=
  let c0_i32_135 : BitVec 32 := 0#32
  let arg1 : BitVec 32 := BitVec.ofNat 32 (i 1).val
  let v339 : BitVec 32 := Scalar.subi arg1 c0_i32_135
  let c1_i32_136 : BitVec 32 := 1#32
  let v341 : BitVec 32 := Scalar.divsi v339 c1_i32_136
  let v342 : BitVec 32 := Scalar.muli v341 c1_i32_136
  let v343 : BitVec 32 := Scalar.addi c0_i32_135 v342
  let c1_i32_137 : BitVec 32 := 1#32
  ⟨c0_i32_135, v343, c1_i32_137⟩
def k0_mult13 (i : grid0.Coords) (k0_t9 : Fin (k0_t9_loop i).trips) : BitVec 32 :=
  let c0_i32_135 : BitVec 32 := 0#32
  let c1_i32_137 : BitVec 32 := 1#32
  let arg9 : BitVec 32 := Scf.iv c0_i32_135 c1_i32_137 k0_t9
  let c256_i32_245 : BitVec 32 := 256#32
  let v614 : BitVec 32 := Scalar.muli arg9 c256_i32_245
  v614
def k0_off23 (i : grid0.Coords) (k0_t9 : Fin (k0_t9_loop i).trips) : Fin 3 → Nat :=
  let c0_246 : Index := 0#32
  let c0_i32_135 : BitVec 32 := 0#32
  let c1_i32_137 : BitVec 32 := 1#32
  let arg9 : BitVec 32 := Scf.iv c0_i32_135 c1_i32_137 k0_t9
  let c256_i32_245 : BitVec 32 := 256#32
  let v614 : BitVec 32 := Scalar.muli arg9 c256_i32_245
  let v615 : BitVec 32 := v614
  let v616 : Index := Scalar.indexCast v615
  let c512_247 : Index := 512#32
  ![0, v616.toNat, 512]
def k0_off24 (i : grid0.Coords) (k0_t9 : Fin (k0_t9_loop i).trips) : Fin 3 → Nat :=
  let c0_248 : Index := 0#32
  let c0_i32_135 : BitVec 32 := 0#32
  let c1_i32_137 : BitVec 32 := 1#32
  let arg9 : BitVec 32 := Scf.iv c0_i32_135 c1_i32_137 k0_t9
  let c256_i32_245 : BitVec 32 := 256#32
  let v614 : BitVec 32 := Scalar.muli arg9 c256_i32_245
  let v615 : BitVec 32 := v614
  let v619 : Index := Scalar.indexCast v615
  let c256_249 : Index := 256#32
  ![0, v619.toNat, 256]
@[reducible] def k0_t10_loop (i : grid0.Coords) : Scf.Loop 32 :=
  let c0_i32_135 : BitVec 32 := 0#32
  let arg1 : BitVec 32 := BitVec.ofNat 32 (i 1).val
  let v339 : BitVec 32 := Scalar.subi arg1 c0_i32_135
  let c1_i32_136 : BitVec 32 := 1#32
  let v341 : BitVec 32 := Scalar.divsi v339 c1_i32_136
  let v342 : BitVec 32 := Scalar.muli v341 c1_i32_136
  let v343 : BitVec 32 := Scalar.addi c0_i32_135 v342
  let v340 : BitVec 32 := Scalar.addi c0_i32_135 v339
  let c1_i32_138 : BitVec 32 := 1#32
  ⟨v343, v340, c1_i32_138⟩
def k0_mult14 (i : grid0.Coords) (k0_t10 : Fin (k0_t10_loop i).trips) : BitVec 32 :=
  let c0_i32_135 : BitVec 32 := 0#32
  let arg1 : BitVec 32 := BitVec.ofNat 32 (i 1).val
  let v339 : BitVec 32 := Scalar.subi arg1 c0_i32_135
  let c1_i32_136 : BitVec 32 := 1#32
  let v341 : BitVec 32 := Scalar.divsi v339 c1_i32_136
  let v342 : BitVec 32 := Scalar.muli v341 c1_i32_136
  let v343 : BitVec 32 := Scalar.addi c0_i32_135 v342
  let c1_i32_138 : BitVec 32 := 1#32
  let arg9 : BitVec 32 := Scf.iv v343 c1_i32_138 k0_t10
  let c256_i32_245 : BitVec 32 := 256#32
  let v614 : BitVec 32 := Scalar.muli arg9 c256_i32_245
  v614
def k0_off25 (i : grid0.Coords) (k0_t10 : Fin (k0_t10_loop i).trips) : Fin 3 → Nat :=
  let c0_246 : Index := 0#32
  let c0_i32_135 : BitVec 32 := 0#32
  let arg1 : BitVec 32 := BitVec.ofNat 32 (i 1).val
  let v339 : BitVec 32 := Scalar.subi arg1 c0_i32_135
  let c1_i32_136 : BitVec 32 := 1#32
  let v341 : BitVec 32 := Scalar.divsi v339 c1_i32_136
  let v342 : BitVec 32 := Scalar.muli v341 c1_i32_136
  let v343 : BitVec 32 := Scalar.addi c0_i32_135 v342
  let c1_i32_138 : BitVec 32 := 1#32
  let arg9 : BitVec 32 := Scf.iv v343 c1_i32_138 k0_t10
  let c256_i32_245 : BitVec 32 := 256#32
  let v614 : BitVec 32 := Scalar.muli arg9 c256_i32_245
  let v615 : BitVec 32 := v614
  let v616 : Index := Scalar.indexCast v615
  let c512_247 : Index := 512#32
  ![0, v616.toNat, 512]
def k0_off26 (i : grid0.Coords) (k0_t10 : Fin (k0_t10_loop i).trips) : Fin 3 → Nat :=
  let c0_248 : Index := 0#32
  let c0_i32_135 : BitVec 32 := 0#32
  let arg1 : BitVec 32 := BitVec.ofNat 32 (i 1).val
  let v339 : BitVec 32 := Scalar.subi arg1 c0_i32_135
  let c1_i32_136 : BitVec 32 := 1#32
  let v341 : BitVec 32 := Scalar.divsi v339 c1_i32_136
  let v342 : BitVec 32 := Scalar.muli v341 c1_i32_136
  let v343 : BitVec 32 := Scalar.addi c0_i32_135 v342
  let c1_i32_138 : BitVec 32 := 1#32
  let arg9 : BitVec 32 := Scf.iv v343 c1_i32_138 k0_t10
  let c256_i32_245 : BitVec 32 := 256#32
  let v614 : BitVec 32 := Scalar.muli arg9 c256_i32_245
  let v615 : BitVec 32 := v614
  let v619 : Index := Scalar.indexCast v615
  let c256_249 : Index := 256#32
  ![0, v619.toNat, 256]
def k0_mult15 (i : grid0.Coords) : BitVec 32 :=
  let arg1 : BitVec 32 := BitVec.ofNat 32 (i 1).val
  let c256_i32_139 : BitVec 32 := 256#32
  let v346 : BitVec 32 := Scalar.muli arg1 c256_i32_139
  v346
def k0_off27 (i : grid0.Coords) : Fin 3 → Nat :=
  let c0_140 : Index := 0#32
  let arg1 : BitVec 32 := BitVec.ofNat 32 (i 1).val
  let c256_i32_139 : BitVec 32 := 256#32
  let v346 : BitVec 32 := Scalar.muli arg1 c256_i32_139
  let v347 : BitVec 32 := v346
  let v348 : Index := Scalar.indexCast v347
  let c512_141 : Index := 512#32
  ![0, v348.toNat, 512]
def k0_off28 (i : grid0.Coords) : Fin 3 → Nat :=
  let c0_142 : Index := 0#32
  let arg1 : BitVec 32 := BitVec.ofNat 32 (i 1).val
  let c256_i32_139 : BitVec 32 := 256#32
  let v346 : BitVec 32 := Scalar.muli arg1 c256_i32_139
  let v347 : BitVec 32 := v346
  let v351 : Index := Scalar.indexCast v347
  let c256_143 : Index := 256#32
  ![0, v351.toNat, 256]
@[reducible] def k0_t11_loop (i : grid0.Coords) : Scf.Loop 32 :=
  let c0_i32_163 : BitVec 32 := 0#32
  let arg1 : BitVec 32 := BitVec.ofNat 32 (i 1).val
  let v403 : BitVec 32 := Scalar.subi arg1 c0_i32_163
  let c1_i32_164 : BitVec 32 := 1#32
  let v405 : BitVec 32 := Scalar.divsi v403 c1_i32_164
  let v406 : BitVec 32 := Scalar.muli v405 c1_i32_164
  let v407 : BitVec 32 := Scalar.addi c0_i32_163 v406
  let c1_i32_165 : BitVec 32 := 1#32
  ⟨c0_i32_163, v407, c1_i32_165⟩
def k0_mult16 (i : grid0.Coords) (k0_t11 : Fin (k0_t11_loop i).trips) : BitVec 32 :=
  let c0_i32_163 : BitVec 32 := 0#32
  let c1_i32_165 : BitVec 32 := 1#32
  let arg9 : BitVec 32 := Scf.iv c0_i32_163 c1_i32_165 k0_t11
  let c256_i32_245 : BitVec 32 := 256#32
  let v614 : BitVec 32 := Scalar.muli arg9 c256_i32_245
  v614
def k0_off29 (i : grid0.Coords) (k0_t11 : Fin (k0_t11_loop i).trips) : Fin 3 → Nat :=
  let c0_246 : Index := 0#32
  let c0_i32_163 : BitVec 32 := 0#32
  let c1_i32_165 : BitVec 32 := 1#32
  let arg9 : BitVec 32 := Scf.iv c0_i32_163 c1_i32_165 k0_t11
  let c256_i32_245 : BitVec 32 := 256#32
  let v614 : BitVec 32 := Scalar.muli arg9 c256_i32_245
  let v615 : BitVec 32 := v614
  let v616 : Index := Scalar.indexCast v615
  let c640_247 : Index := 640#32
  ![0, v616.toNat, 640]
def k0_off30 (i : grid0.Coords) (k0_t11 : Fin (k0_t11_loop i).trips) : Fin 3 → Nat :=
  let c0_248 : Index := 0#32
  let c0_i32_163 : BitVec 32 := 0#32
  let c1_i32_165 : BitVec 32 := 1#32
  let arg9 : BitVec 32 := Scf.iv c0_i32_163 c1_i32_165 k0_t11
  let c256_i32_245 : BitVec 32 := 256#32
  let v614 : BitVec 32 := Scalar.muli arg9 c256_i32_245
  let v615 : BitVec 32 := v614
  let v619 : Index := Scalar.indexCast v615
  let c256_249 : Index := 256#32
  ![0, v619.toNat, 256]
@[reducible] def k0_t12_loop (i : grid0.Coords) : Scf.Loop 32 :=
  let c0_i32_163 : BitVec 32 := 0#32
  let arg1 : BitVec 32 := BitVec.ofNat 32 (i 1).val
  let v403 : BitVec 32 := Scalar.subi arg1 c0_i32_163
  let c1_i32_164 : BitVec 32 := 1#32
  let v405 : BitVec 32 := Scalar.divsi v403 c1_i32_164
  let v406 : BitVec 32 := Scalar.muli v405 c1_i32_164
  let v407 : BitVec 32 := Scalar.addi c0_i32_163 v406
  let v404 : BitVec 32 := Scalar.addi c0_i32_163 v403
  let c1_i32_166 : BitVec 32 := 1#32
  ⟨v407, v404, c1_i32_166⟩
def k0_mult17 (i : grid0.Coords) (k0_t12 : Fin (k0_t12_loop i).trips) : BitVec 32 :=
  let c0_i32_163 : BitVec 32 := 0#32
  let arg1 : BitVec 32 := BitVec.ofNat 32 (i 1).val
  let v403 : BitVec 32 := Scalar.subi arg1 c0_i32_163
  let c1_i32_164 : BitVec 32 := 1#32
  let v405 : BitVec 32 := Scalar.divsi v403 c1_i32_164
  let v406 : BitVec 32 := Scalar.muli v405 c1_i32_164
  let v407 : BitVec 32 := Scalar.addi c0_i32_163 v406
  let c1_i32_166 : BitVec 32 := 1#32
  let arg9 : BitVec 32 := Scf.iv v407 c1_i32_166 k0_t12
  let c256_i32_245 : BitVec 32 := 256#32
  let v614 : BitVec 32 := Scalar.muli arg9 c256_i32_245
  v614
def k0_off31 (i : grid0.Coords) (k0_t12 : Fin (k0_t12_loop i).trips) : Fin 3 → Nat :=
  let c0_246 : Index := 0#32
  let c0_i32_163 : BitVec 32 := 0#32
  let arg1 : BitVec 32 := BitVec.ofNat 32 (i 1).val
  let v403 : BitVec 32 := Scalar.subi arg1 c0_i32_163
  let c1_i32_164 : BitVec 32 := 1#32
  let v405 : BitVec 32 := Scalar.divsi v403 c1_i32_164
  let v406 : BitVec 32 := Scalar.muli v405 c1_i32_164
  let v407 : BitVec 32 := Scalar.addi c0_i32_163 v406
  let c1_i32_166 : BitVec 32 := 1#32
  let arg9 : BitVec 32 := Scf.iv v407 c1_i32_166 k0_t12
  let c256_i32_245 : BitVec 32 := 256#32
  let v614 : BitVec 32 := Scalar.muli arg9 c256_i32_245
  let v615 : BitVec 32 := v614
  let v616 : Index := Scalar.indexCast v615
  let c640_247 : Index := 640#32
  ![0, v616.toNat, 640]
def k0_off32 (i : grid0.Coords) (k0_t12 : Fin (k0_t12_loop i).trips) : Fin 3 → Nat :=
  let c0_248 : Index := 0#32
  let c0_i32_163 : BitVec 32 := 0#32
  let arg1 : BitVec 32 := BitVec.ofNat 32 (i 1).val
  let v403 : BitVec 32 := Scalar.subi arg1 c0_i32_163
  let c1_i32_164 : BitVec 32 := 1#32
  let v405 : BitVec 32 := Scalar.divsi v403 c1_i32_164
  let v406 : BitVec 32 := Scalar.muli v405 c1_i32_164
  let v407 : BitVec 32 := Scalar.addi c0_i32_163 v406
  let c1_i32_166 : BitVec 32 := 1#32
  let arg9 : BitVec 32 := Scf.iv v407 c1_i32_166 k0_t12
  let c256_i32_245 : BitVec 32 := 256#32
  let v614 : BitVec 32 := Scalar.muli arg9 c256_i32_245
  let v615 : BitVec 32 := v614
  let v619 : Index := Scalar.indexCast v615
  let c256_249 : Index := 256#32
  ![0, v619.toNat, 256]
def k0_mult18 (i : grid0.Coords) : BitVec 32 :=
  let arg1 : BitVec 32 := BitVec.ofNat 32 (i 1).val
  let c256_i32_167 : BitVec 32 := 256#32
  let v410 : BitVec 32 := Scalar.muli arg1 c256_i32_167
  v410
def k0_off33 (i : grid0.Coords) : Fin 3 → Nat :=
  let c0_168 : Index := 0#32
  let arg1 : BitVec 32 := BitVec.ofNat 32 (i 1).val
  let c256_i32_167 : BitVec 32 := 256#32
  let v410 : BitVec 32 := Scalar.muli arg1 c256_i32_167
  let v411 : BitVec 32 := v410
  let v412 : Index := Scalar.indexCast v411
  let c640_169 : Index := 640#32
  ![0, v412.toNat, 640]
@[reducible] def k0_t13_loop (i : grid0.Coords) : Scf.Loop 32 :=
  let c0_i32_191 : BitVec 32 := 0#32
  let arg1 : BitVec 32 := BitVec.ofNat 32 (i 1).val
  let v467 : BitVec 32 := Scalar.subi arg1 c0_i32_191
  let c1_i32_192 : BitVec 32 := 1#32
  let v469 : BitVec 32 := Scalar.divsi v467 c1_i32_192
  let v470 : BitVec 32 := Scalar.muli v469 c1_i32_192
  let v471 : BitVec 32 := Scalar.addi c0_i32_191 v470
  let c1_i32_193 : BitVec 32 := 1#32
  ⟨c0_i32_191, v471, c1_i32_193⟩
def k0_mult19 (i : grid0.Coords) (k0_t13 : Fin (k0_t13_loop i).trips) : BitVec 32 :=
  let c0_i32_191 : BitVec 32 := 0#32
  let c1_i32_193 : BitVec 32 := 1#32
  let arg9 : BitVec 32 := Scf.iv c0_i32_191 c1_i32_193 k0_t13
  let c256_i32_245 : BitVec 32 := 256#32
  let v614 : BitVec 32 := Scalar.muli arg9 c256_i32_245
  v614
def k0_off34 (i : grid0.Coords) (k0_t13 : Fin (k0_t13_loop i).trips) : Fin 3 → Nat :=
  let c0_246 : Index := 0#32
  let c0_i32_191 : BitVec 32 := 0#32
  let c1_i32_193 : BitVec 32 := 1#32
  let arg9 : BitVec 32 := Scf.iv c0_i32_191 c1_i32_193 k0_t13
  let c256_i32_245 : BitVec 32 := 256#32
  let v614 : BitVec 32 := Scalar.muli arg9 c256_i32_245
  let v615 : BitVec 32 := v614
  let v616 : Index := Scalar.indexCast v615
  let c768_247 : Index := 768#32
  ![0, v616.toNat, 768]
def k0_off35 (i : grid0.Coords) (k0_t13 : Fin (k0_t13_loop i).trips) : Fin 3 → Nat :=
  let c0_248 : Index := 0#32
  let c0_i32_191 : BitVec 32 := 0#32
  let c1_i32_193 : BitVec 32 := 1#32
  let arg9 : BitVec 32 := Scf.iv c0_i32_191 c1_i32_193 k0_t13
  let c256_i32_245 : BitVec 32 := 256#32
  let v614 : BitVec 32 := Scalar.muli arg9 c256_i32_245
  let v615 : BitVec 32 := v614
  let v619 : Index := Scalar.indexCast v615
  let c384_249 : Index := 384#32
  ![0, v619.toNat, 384]
@[reducible] def k0_t14_loop (i : grid0.Coords) : Scf.Loop 32 :=
  let c0_i32_191 : BitVec 32 := 0#32
  let arg1 : BitVec 32 := BitVec.ofNat 32 (i 1).val
  let v467 : BitVec 32 := Scalar.subi arg1 c0_i32_191
  let c1_i32_192 : BitVec 32 := 1#32
  let v469 : BitVec 32 := Scalar.divsi v467 c1_i32_192
  let v470 : BitVec 32 := Scalar.muli v469 c1_i32_192
  let v471 : BitVec 32 := Scalar.addi c0_i32_191 v470
  let v468 : BitVec 32 := Scalar.addi c0_i32_191 v467
  let c1_i32_194 : BitVec 32 := 1#32
  ⟨v471, v468, c1_i32_194⟩
def k0_mult20 (i : grid0.Coords) (k0_t14 : Fin (k0_t14_loop i).trips) : BitVec 32 :=
  let c0_i32_191 : BitVec 32 := 0#32
  let arg1 : BitVec 32 := BitVec.ofNat 32 (i 1).val
  let v467 : BitVec 32 := Scalar.subi arg1 c0_i32_191
  let c1_i32_192 : BitVec 32 := 1#32
  let v469 : BitVec 32 := Scalar.divsi v467 c1_i32_192
  let v470 : BitVec 32 := Scalar.muli v469 c1_i32_192
  let v471 : BitVec 32 := Scalar.addi c0_i32_191 v470
  let c1_i32_194 : BitVec 32 := 1#32
  let arg9 : BitVec 32 := Scf.iv v471 c1_i32_194 k0_t14
  let c256_i32_245 : BitVec 32 := 256#32
  let v614 : BitVec 32 := Scalar.muli arg9 c256_i32_245
  v614
def k0_off36 (i : grid0.Coords) (k0_t14 : Fin (k0_t14_loop i).trips) : Fin 3 → Nat :=
  let c0_246 : Index := 0#32
  let c0_i32_191 : BitVec 32 := 0#32
  let arg1 : BitVec 32 := BitVec.ofNat 32 (i 1).val
  let v467 : BitVec 32 := Scalar.subi arg1 c0_i32_191
  let c1_i32_192 : BitVec 32 := 1#32
  let v469 : BitVec 32 := Scalar.divsi v467 c1_i32_192
  let v470 : BitVec 32 := Scalar.muli v469 c1_i32_192
  let v471 : BitVec 32 := Scalar.addi c0_i32_191 v470
  let c1_i32_194 : BitVec 32 := 1#32
  let arg9 : BitVec 32 := Scf.iv v471 c1_i32_194 k0_t14
  let c256_i32_245 : BitVec 32 := 256#32
  let v614 : BitVec 32 := Scalar.muli arg9 c256_i32_245
  let v615 : BitVec 32 := v614
  let v616 : Index := Scalar.indexCast v615
  let c768_247 : Index := 768#32
  ![0, v616.toNat, 768]
def k0_off37 (i : grid0.Coords) (k0_t14 : Fin (k0_t14_loop i).trips) : Fin 3 → Nat :=
  let c0_248 : Index := 0#32
  let c0_i32_191 : BitVec 32 := 0#32
  let arg1 : BitVec 32 := BitVec.ofNat 32 (i 1).val
  let v467 : BitVec 32 := Scalar.subi arg1 c0_i32_191
  let c1_i32_192 : BitVec 32 := 1#32
  let v469 : BitVec 32 := Scalar.divsi v467 c1_i32_192
  let v470 : BitVec 32 := Scalar.muli v469 c1_i32_192
  let v471 : BitVec 32 := Scalar.addi c0_i32_191 v470
  let c1_i32_194 : BitVec 32 := 1#32
  let arg9 : BitVec 32 := Scf.iv v471 c1_i32_194 k0_t14
  let c256_i32_245 : BitVec 32 := 256#32
  let v614 : BitVec 32 := Scalar.muli arg9 c256_i32_245
  let v615 : BitVec 32 := v614
  let v619 : Index := Scalar.indexCast v615
  let c384_249 : Index := 384#32
  ![0, v619.toNat, 384]
def k0_mult21 (i : grid0.Coords) : BitVec 32 :=
  let arg1 : BitVec 32 := BitVec.ofNat 32 (i 1).val
  let c256_i32_195 : BitVec 32 := 256#32
  let v474 : BitVec 32 := Scalar.muli arg1 c256_i32_195
  v474
def k0_off38 (i : grid0.Coords) : Fin 3 → Nat :=
  let c0_196 : Index := 0#32
  let arg1 : BitVec 32 := BitVec.ofNat 32 (i 1).val
  let c256_i32_195 : BitVec 32 := 256#32
  let v474 : BitVec 32 := Scalar.muli arg1 c256_i32_195
  let v475 : BitVec 32 := v474
  let v476 : Index := Scalar.indexCast v475
  let c768_197 : Index := 768#32
  ![0, v476.toNat, 768]
def k0_off39 (i : grid0.Coords) : Fin 3 → Nat :=
  let c0_198 : Index := 0#32
  let arg1 : BitVec 32 := BitVec.ofNat 32 (i 1).val
  let c256_i32_195 : BitVec 32 := 256#32
  let v474 : BitVec 32 := Scalar.muli arg1 c256_i32_195
  let v475 : BitVec 32 := v474
  let v479 : Index := Scalar.indexCast v475
  let c384_199 : Index := 384#32
  ![0, v479.toNat, 384]
@[reducible] def k0_t15_loop (i : grid0.Coords) : Scf.Loop 32 :=
  let c0_i32_219 : BitVec 32 := 0#32
  let arg1 : BitVec 32 := BitVec.ofNat 32 (i 1).val
  let v531 : BitVec 32 := Scalar.subi arg1 c0_i32_219
  let c1_i32_220 : BitVec 32 := 1#32
  let v533 : BitVec 32 := Scalar.divsi v531 c1_i32_220
  let v534 : BitVec 32 := Scalar.muli v533 c1_i32_220
  let v535 : BitVec 32 := Scalar.addi c0_i32_219 v534
  let c1_i32_221 : BitVec 32 := 1#32
  ⟨c0_i32_219, v535, c1_i32_221⟩
def k0_mult22 (i : grid0.Coords) (k0_t15 : Fin (k0_t15_loop i).trips) : BitVec 32 :=
  let c0_i32_219 : BitVec 32 := 0#32
  let c1_i32_221 : BitVec 32 := 1#32
  let arg9 : BitVec 32 := Scf.iv c0_i32_219 c1_i32_221 k0_t15
  let c256_i32_245 : BitVec 32 := 256#32
  let v614 : BitVec 32 := Scalar.muli arg9 c256_i32_245
  v614
def k0_off40 (i : grid0.Coords) (k0_t15 : Fin (k0_t15_loop i).trips) : Fin 3 → Nat :=
  let c0_246 : Index := 0#32
  let c0_i32_219 : BitVec 32 := 0#32
  let c1_i32_221 : BitVec 32 := 1#32
  let arg9 : BitVec 32 := Scf.iv c0_i32_219 c1_i32_221 k0_t15
  let c256_i32_245 : BitVec 32 := 256#32
  let v614 : BitVec 32 := Scalar.muli arg9 c256_i32_245
  let v615 : BitVec 32 := v614
  let v616 : Index := Scalar.indexCast v615
  let c896_247 : Index := 896#32
  ![0, v616.toNat, 896]
def k0_off41 (i : grid0.Coords) (k0_t15 : Fin (k0_t15_loop i).trips) : Fin 3 → Nat :=
  let c0_248 : Index := 0#32
  let c0_i32_219 : BitVec 32 := 0#32
  let c1_i32_221 : BitVec 32 := 1#32
  let arg9 : BitVec 32 := Scf.iv c0_i32_219 c1_i32_221 k0_t15
  let c256_i32_245 : BitVec 32 := 256#32
  let v614 : BitVec 32 := Scalar.muli arg9 c256_i32_245
  let v615 : BitVec 32 := v614
  let v619 : Index := Scalar.indexCast v615
  let c384_249 : Index := 384#32
  ![0, v619.toNat, 384]
@[reducible] def k0_t16_loop (i : grid0.Coords) : Scf.Loop 32 :=
  let c0_i32_219 : BitVec 32 := 0#32
  let arg1 : BitVec 32 := BitVec.ofNat 32 (i 1).val
  let v531 : BitVec 32 := Scalar.subi arg1 c0_i32_219
  let c1_i32_220 : BitVec 32 := 1#32
  let v533 : BitVec 32 := Scalar.divsi v531 c1_i32_220
  let v534 : BitVec 32 := Scalar.muli v533 c1_i32_220
  let v535 : BitVec 32 := Scalar.addi c0_i32_219 v534
  let v532 : BitVec 32 := Scalar.addi c0_i32_219 v531
  let c1_i32_222 : BitVec 32 := 1#32
  ⟨v535, v532, c1_i32_222⟩
def k0_mult23 (i : grid0.Coords) (k0_t16 : Fin (k0_t16_loop i).trips) : BitVec 32 :=
  let c0_i32_219 : BitVec 32 := 0#32
  let arg1 : BitVec 32 := BitVec.ofNat 32 (i 1).val
  let v531 : BitVec 32 := Scalar.subi arg1 c0_i32_219
  let c1_i32_220 : BitVec 32 := 1#32
  let v533 : BitVec 32 := Scalar.divsi v531 c1_i32_220
  let v534 : BitVec 32 := Scalar.muli v533 c1_i32_220
  let v535 : BitVec 32 := Scalar.addi c0_i32_219 v534
  let c1_i32_222 : BitVec 32 := 1#32
  let arg9 : BitVec 32 := Scf.iv v535 c1_i32_222 k0_t16
  let c256_i32_245 : BitVec 32 := 256#32
  let v614 : BitVec 32 := Scalar.muli arg9 c256_i32_245
  v614
def k0_off42 (i : grid0.Coords) (k0_t16 : Fin (k0_t16_loop i).trips) : Fin 3 → Nat :=
  let c0_246 : Index := 0#32
  let c0_i32_219 : BitVec 32 := 0#32
  let arg1 : BitVec 32 := BitVec.ofNat 32 (i 1).val
  let v531 : BitVec 32 := Scalar.subi arg1 c0_i32_219
  let c1_i32_220 : BitVec 32 := 1#32
  let v533 : BitVec 32 := Scalar.divsi v531 c1_i32_220
  let v534 : BitVec 32 := Scalar.muli v533 c1_i32_220
  let v535 : BitVec 32 := Scalar.addi c0_i32_219 v534
  let c1_i32_222 : BitVec 32 := 1#32
  let arg9 : BitVec 32 := Scf.iv v535 c1_i32_222 k0_t16
  let c256_i32_245 : BitVec 32 := 256#32
  let v614 : BitVec 32 := Scalar.muli arg9 c256_i32_245
  let v615 : BitVec 32 := v614
  let v616 : Index := Scalar.indexCast v615
  let c896_247 : Index := 896#32
  ![0, v616.toNat, 896]
def k0_off43 (i : grid0.Coords) (k0_t16 : Fin (k0_t16_loop i).trips) : Fin 3 → Nat :=
  let c0_248 : Index := 0#32
  let c0_i32_219 : BitVec 32 := 0#32
  let arg1 : BitVec 32 := BitVec.ofNat 32 (i 1).val
  let v531 : BitVec 32 := Scalar.subi arg1 c0_i32_219
  let c1_i32_220 : BitVec 32 := 1#32
  let v533 : BitVec 32 := Scalar.divsi v531 c1_i32_220
  let v534 : BitVec 32 := Scalar.muli v533 c1_i32_220
  let v535 : BitVec 32 := Scalar.addi c0_i32_219 v534
  let c1_i32_222 : BitVec 32 := 1#32
  let arg9 : BitVec 32 := Scf.iv v535 c1_i32_222 k0_t16
  let c256_i32_245 : BitVec 32 := 256#32
  let v614 : BitVec 32 := Scalar.muli arg9 c256_i32_245
  let v615 : BitVec 32 := v614
  let v619 : Index := Scalar.indexCast v615
  let c384_249 : Index := 384#32
  ![0, v619.toNat, 384]
def k0_mult24 (i : grid0.Coords) : BitVec 32 :=
  let arg1 : BitVec 32 := BitVec.ofNat 32 (i 1).val
  let c256_i32_223 : BitVec 32 := 256#32
  let v538 : BitVec 32 := Scalar.muli arg1 c256_i32_223
  v538
def k0_off44 (i : grid0.Coords) : Fin 3 → Nat :=
  let c0_224 : Index := 0#32
  let arg1 : BitVec 32 := BitVec.ofNat 32 (i 1).val
  let c256_i32_223 : BitVec 32 := 256#32
  let v538 : BitVec 32 := Scalar.muli arg1 c256_i32_223
  let v539 : BitVec 32 := v538
  let v540 : Index := Scalar.indexCast v539
  let c896_225 : Index := 896#32
  ![0, v540.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x1024 : Shape := ⟨3, ![32, 2048, 1024]⟩
abbrev S32x2048x512 : Shape := ⟨3, ![32, 2048, 512]⟩
abbrev S1x16x1024 : Shape := ⟨3, ![1, 16, 1024]⟩
abbrev S1x16x512 : Shape := ⟨3, ![1, 16, 512]⟩
abbrev S512 : Shape := ⟨1, ![512]⟩
abbrev S32x2048x8x128 : Shape := ⟨4, ![32, 2048, 8, 128]⟩
abbrev S32x16x1024 : Shape := ⟨3, ![32, 16, 1024]⟩
abbrev S32x2064x1024 : Shape := ⟨3, ![32, 2064, 1024]⟩
abbrev S32x16x512 : Shape := ⟨3, ![32, 16, 512]⟩
abbrev S32x2064x512 : Shape := ⟨3, ![32, 2064, 512]⟩
abbrev S32x2064x8x128 : Shape := ⟨4, ![32, 2064, 8, 128]⟩
abbrev S32x2064x8x64 : Shape := ⟨4, ![32, 2064, 8, 64]⟩
abbrev S_ : Shape := ⟨0, ![]⟩
abbrev S16 : Shape := ⟨1, ![16]⟩
abbrev S2048 : Shape := ⟨1, ![2048]⟩
abbrev S2064 : Shape := ⟨1, ![2064]⟩
abbrev S32x8x2048x2064 : Shape := ⟨4, ![32, 8, 2048, 2064]⟩
abbrev S1x2064 : Shape := ⟨2, ![1, 2064]⟩
abbrev S2048x1 : Shape := ⟨2, ![2048, 1]⟩
abbrev S2048x2064 : Shape := ⟨2, ![2048, 2064]⟩
abbrev S1x1x2048x2064 : Shape := ⟨4, ![1, 1, 2048, 2064]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x8x64 : Shape := ⟨4, ![32, 2048, 8, 64]⟩
abbrev S32x2048 : Shape := ⟨2, ![32, 2048]⟩
abbrev S32x2048x1 : Shape := ⟨3, ![32, 2048, 1]⟩
abbrev S1x1x512 : Shape := ⟨3, ![1, 1, 512]⟩

abbrev nBuf : Space → Nat
  | .hbm => 105
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x512, .bf16⟩
  | .hbm, ⟨3, _⟩ => ⟨S1x16x1024, .bf16⟩
  | .hbm, ⟨4, _⟩ => ⟨S1x16x512, .bf16⟩
  | .hbm, ⟨5, _⟩ => ⟨S512, .f32⟩
  | .hbm, ⟨6, _⟩ => ⟨S32x2048x1024, .f32⟩
  | .hbm, ⟨7, _⟩ => ⟨S32x2048x8x128, .f32⟩
  | .hbm, ⟨8, _⟩ => ⟨S1x16x1024, .f32⟩
  | .hbm, ⟨9, _⟩ => ⟨S32x16x1024, .f32⟩
  | .hbm, ⟨10, _⟩ => ⟨S32x2048x1024, .f32⟩
  | .hbm, ⟨11, _⟩ => ⟨S32x2064x1024, .f32⟩
  | .hbm, ⟨12, _⟩ => ⟨S1x16x512, .f32⟩
  | .hbm, ⟨13, _⟩ => ⟨S32x16x512, .f32⟩
  | .hbm, ⟨14, _⟩ => ⟨S32x2048x512, .f32⟩
  | .hbm, ⟨15, _⟩ => ⟨S32x2064x512, .f32⟩
  | .hbm, ⟨16, _⟩ => ⟨S32x2064x8x128, .f32⟩
  | .hbm, ⟨17, _⟩ => ⟨S32x2064x8x64, .f32⟩
  | .hbm, ⟨18, _⟩ => ⟨S_, .i32⟩
  | .hbm, ⟨19, _⟩ => ⟨S16, .i32⟩
  | .hbm, ⟨20, _⟩ => ⟨S2048, .i32⟩
  | .hbm, ⟨21, _⟩ => ⟨S_, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2064, .i32⟩
  | .hbm, ⟨40, _⟩ => ⟨S2048, .i32⟩
  | .hbm, ⟨41, _⟩ => ⟨S_, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S32x8x2048x2064, .f32⟩
  | .hbm, ⟨60, _⟩ => ⟨S1x2064, .i32⟩
  | .hbm, ⟨61, _⟩ => ⟨S2048x1, .i32⟩
  | .hbm, ⟨62, _⟩ => ⟨S2048x2064, .i32⟩
  | .hbm, ⟨63, _⟩ => ⟨S2048x2064, .i32⟩
  | .hbm, ⟨64, _⟩ => ⟨S2048x2064, .i1⟩
  | .hbm, ⟨65, _⟩ => ⟨S1x1x2048x2064, .i1⟩
  | .hbm, ⟨66, _⟩ => ⟨S_, .f32⟩
  | .hbm, ⟨67, _⟩ => ⟨S_, .f32⟩
  | .hbm, ⟨68, _⟩ => ⟨S32x8x2048x2064, .i1⟩
  | .hbm, ⟨69, _⟩ => ⟨S32x8x2048x2064, .f32⟩
  | .hbm, ⟨70, _⟩ => ⟨S32x8x2048x2064, .f32⟩
  | .hbm, ⟨71, _⟩ => ⟨S_, .f32⟩
  | .hbm, ⟨72, _⟩ => ⟨S32x8x2048, .f32⟩
  | .hbm, ⟨73, _⟩ => ⟨S_, .f32⟩
  | .hbm, ⟨74, _⟩ => ⟨S32x8x2048, .f32⟩
  | .hbm, ⟨75, _⟩ => ⟨S32x8x2048, .f32⟩
  | .hbm, ⟨76, _⟩ => ⟨S32x8x2048x1, .f32⟩
  | .hbm, ⟨77, _⟩ => ⟨S32x8x2048x2064, .f32⟩
  | .hbm, ⟨78, _⟩ => ⟨S32x8x2048x2064, .f32⟩
  | .hbm, ⟨79, _⟩ => ⟨S32x8x2048x2064, .f32⟩
  | .hbm, ⟨80, _⟩ => ⟨S_, .f32⟩
  | .hbm, ⟨81, _⟩ => ⟨S32x8x2048, .f32⟩
  | .hbm, ⟨82, _⟩ => ⟨S32x8x2048x1, .f32⟩
  | .hbm, ⟨83, _⟩ => ⟨S32x8x2048x2064, .f32⟩
  | .hbm, ⟨84, _⟩ => ⟨S32x8x2048x2064, .f32⟩
  | .hbm, ⟨85, _⟩ => ⟨S32x8x64x2048, .f32⟩
  | .hbm, ⟨86, _⟩ => ⟨S32x2048x8x64, .f32⟩
  | .hbm, ⟨87, _⟩ => ⟨S32x2048x512, .f32⟩
  | .hbm, ⟨88, _⟩ => ⟨S32x2048x512, .f32⟩
  | .hbm, ⟨89, _⟩ => ⟨S_, .f32⟩
  | .hbm, ⟨90, _⟩ => ⟨S32x2048, .f32⟩
  | .hbm, ⟨91, _⟩ => ⟨S32x2048x1, .f32⟩
  | .hbm, ⟨92, _⟩ => ⟨S_, .f32⟩
  | .hbm, ⟨93, _⟩ => ⟨S32x2048x1, .f32⟩
  | .hbm, ⟨94, _⟩ => ⟨S32x2048x1, .f32⟩
  | .hbm, ⟨95, _⟩ => ⟨S_, .f32⟩
  | .hbm, ⟨96, _⟩ => ⟨S32x2048x1, .f32⟩
  | .hbm, ⟨97, _⟩ => ⟨S32x2048x1, .f32⟩
  | .hbm, ⟨98, _⟩ => ⟨S32x2048x1, .f32⟩
  | .hbm, ⟨99, _⟩ => ⟨S32x2048x512, .f32⟩
  | .hbm, ⟨100, _⟩ => ⟨S32x2048x512, .f32⟩
  | .hbm, ⟨101, _⟩ => ⟨S1x1x512, .f32⟩
  | .hbm, ⟨102, _⟩ => ⟨S32x2048x512, .f32⟩
  | .hbm, ⟨103, _⟩ => ⟨S32x2048x512, .f32⟩
  | .hbm, ⟨104, _⟩ => ⟨S32x2048x512, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v25 : Ref sig .tc := ⟨.hbm, 70, rfl⟩
abbrev main_cst_2 : Ref sig .tc := ⟨.hbm, 71, rfl⟩
abbrev main_v26 : Ref sig .tc := ⟨.hbm, 72, rfl⟩
abbrev main_cst_3 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_4 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_5 : Ref sig .tc := ⟨.hbm, 89, rfl⟩
abbrev main_v41 : Ref sig .tc := ⟨.hbm, 90, rfl⟩
abbrev main_v42 : Ref sig .tc := ⟨.hbm, 91, rfl⟩
abbrev main_cst_6 : Ref sig .tc := ⟨.hbm, 92, rfl⟩
abbrev main_v43 : Ref sig .tc := ⟨.hbm, 93, rfl⟩
abbrev main_v44 : Ref sig .tc := ⟨.hbm, 94, rfl⟩
abbrev main_cst_7 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩

abbrev nD : Nat := 1
abbrev τ : Topo := Topo.v7x

variable {F : FTy → Type} [FloatOps F]
-- ==== Tail.lean ====
abbrev S32x2048x1024 : Shape := ⟨3, ![32, 2048, 1024]⟩
abbrev S32x2048x512 : Shape := ⟨3, ![32, 2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S65536x1024 : Shape := ⟨2, ![65536, 1024]⟩
abbrev S65536x512 : Shape := ⟨2, ![65536, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S65536x1024, .f32⟩
  | .hbm, ⟨14, _⟩ => ⟨S65536x512, .bf16⟩
  | .hbm, ⟨15, _⟩ => ⟨S65536x512, .bf16⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== TailReferenceIdeal.lean ====
abbrev S32x2048x1024 : Shape := ⟨3, ![32, 2048, 1024]⟩
abbrev S32x2048x512 : Shape := ⟨3, ![32, 2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32x2048x512, .f32⟩
  | .hbm, ⟨9, _⟩ => ⟨S32x2048x512, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S_, .f32⟩
  | .hbm, ⟨33, _⟩ => ⟨S32x2048x2816, .f32⟩
  | .hbm, ⟨34, _⟩ => ⟨S32x2048x2816, .f32⟩
  | .hbm, ⟨35, _⟩ => ⟨S_, .f32⟩
  | .hbm, ⟨36, _⟩ => ⟨S32x2048x2816, .f32⟩
  | .hbm, ⟨37, _⟩ => ⟨S32x2048x2816, .f32⟩
  | .hbm, ⟨38, _⟩ => ⟨S32x2048x2816, .f32⟩
  | .hbm, ⟨39, _⟩ => ⟨S32x2048x2816, .f32⟩
  | .hbm, ⟨40, _⟩ => ⟨S32x2048x2816, .f32⟩
  | .hbm, ⟨41, _⟩ => ⟨S32x2048x1024, .f32⟩
  | .hbm, ⟨42, _⟩ => ⟨S32x2048x1024, .f32⟩
  | .hbm, ⟨43, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Proj.lean ====
abbrev S32x32x1024 : Shape := ⟨3, ![32, 32, 1024]⟩
abbrev S32x1792 : Shape := ⟨2, ![32, 1792]⟩
abbrev S1024 : Shape := ⟨1, ![1024]⟩
abbrev S1024x2208 : Shape := ⟨2, ![1024, 2208]⟩
abbrev S1x256 : Shape := ⟨2, ![1, 256]⟩
abbrev S256x1024 : Shape := ⟨2, ![256, 1024]⟩
abbrev S1x1024 : Shape := ⟨2, ![1, 1024]⟩
abbrev S256x256 : Shape := ⟨2, ![256, 256]⟩
abbrev S128 : Shape := ⟨1, ![128]⟩
abbrev S32 : Shape := ⟨1, ![32]⟩
abbrev S128x1024 : Shape := ⟨2, ![128, 1024]⟩
abbrev S1792 : Shape := ⟨1, ![1792]⟩
abbrev S512 : Shape := ⟨1, ![512]⟩
abbrev S64x512 : Shape := ⟨2, ![64, 512]⟩
abbrev S1024x32 : Shape := ⟨2, ![1024, 32]⟩
abbrev S1024x416 : Shape := ⟨2, ![1024, 416]⟩
abbrev S_ : Shape := ⟨0, ![]⟩
abbrev S32x1 : Shape := ⟨2, ![32, 1]⟩
abbrev S1024x448 : Shape := ⟨2, ![1024, 448]⟩
abbrev S1024x64 : Shape := ⟨2, ![1024, 64]⟩
abbrev S1024x512 : Shape := ⟨2, ![1024, 512]⟩
abbrev S1024x1792 : Shape := ⟨2, ![1024, 1792]⟩
abbrev S1024x2304 : Shape := ⟨2, ![1024, 2304]⟩
abbrev S128x8x128 : Shape := ⟨3, ![128, 8, 128]⟩
abbrev S128x8x64 : Shape := ⟨3, ![128, 8, 64]⟩
abbrev S128x512 : Shape := ⟨2, ![128, 512]⟩
abbrev S96 : Shape := ⟨1, ![96]⟩
abbrev S1x128 : Shape := ⟨2, ![1, 128]⟩
abbrev S1x1792 : Shape := ⟨2, ![1, 1792]⟩
abbrev S1x512 : Shape := ⟨2, ![1, 512]⟩
abbrev S32x1x1792 : Shape := ⟨3, ![32, 1, 1792]⟩
abbrev S16 : Shape := ⟨1, ![16]⟩
abbrev S1x16 : Shape := ⟨2, ![1, 16]⟩
abbrev S32x16 : Shape := ⟨2, ![32, 16]⟩
abbrev S32x32 : Shape := ⟨2, ![32, 32]⟩
abbrev S32x64 : Shape := ⟨2, ![32, 64]⟩
abbrev S32x128 : Shape := ⟨2, ![32, 128]⟩
abbrev S32x96 : Shape := ⟨2, ![32, 96]⟩
abbrev S32x32x128 : Shape := ⟨3, ![32, 32, 128]⟩
abbrev S32x32x32 : Shape := ⟨3, ![32, 32, 32]⟩
abbrev S32x32x512 : Shape := ⟨3, ![32, 32, 512]⟩
abbrev S1x32x1024 : Shape := ⟨3, ![1, 32, 1024]⟩
abbrev S1x1x1792 : Shape := ⟨3, ![1, 1, 1792]⟩
abbrev S1x32x128 : Shape := ⟨3, ![1, 32, 128]⟩
abbrev S1x32x32 : Shape := ⟨3, ![1, 32, 32]⟩
abbrev S1x32x512 : Shape := ⟨3, ![1, 32, 512]⟩
abbrev S32x1024 : Shape := ⟨2, ![32, 1024]⟩
abbrev S32x2304 : Shape := ⟨2, ![32, 2304]⟩
abbrev S32x256 : Shape := ⟨2, ![32, 256]⟩
abbrev S32x512 : Shape := ⟨2, ![32, 512]⟩

abbrev nBuf : Space → Nat
  | .hbm => 125
  | .vmem => 59
  | .smem => 0
  | _ => 0

abbrev bufTy : (tb : Table) → Fin (tcTables nBuf tb) → BufTy
  | .hbm, ⟨0, _⟩ => ⟨S32x32x1024, .f32⟩
  | .hbm, ⟨1, _⟩ => ⟨S32x1792, .f32⟩
  | .hbm, ⟨2, _⟩ => ⟨S1024, .f32⟩
  | .hbm, ⟨3, _⟩ => ⟨S1024x2208, .f32⟩
  | .hbm, ⟨4, _⟩ => ⟨S1x256, .f32⟩
  | .hbm, ⟨5, _⟩ => ⟨S256x1024, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S256x256, .bf16⟩
  | .hbm, ⟨10, _⟩ => ⟨S128, .f32⟩
  | .hbm, ⟨11, _⟩ => ⟨S32, .f32⟩
  | .hbm, ⟨12, _⟩ => ⟨S128x1024, .bf16⟩
  | .hbm, ⟨13, _⟩ => ⟨S1x1024, .f32⟩
  | .hbm, ⟨14, _⟩ => ⟨S256x256, .bf16⟩
  | .hbm, ⟨15, _⟩ => ⟨S128x1024, .bf16⟩
  | .hbm, ⟨16, _⟩ => ⟨S128x1024, .f32⟩
  | .hbm, ⟨17, _⟩ => ⟨S1792, .f32⟩
  | .hbm, ⟨18, _⟩ => ⟨S512, .f32⟩
  | .hbm, ⟨19, _⟩ => ⟨S64x512, .f32⟩
  | .hbm, ⟨20, _⟩ => ⟨S512, .f32⟩
  | .hbm, ⟨21, _⟩ => ⟨S64x512, .f32⟩
  | .hbm, ⟨22, _⟩ => ⟨S512, .f32⟩
  | .hbm, ⟨23, _⟩ => ⟨S512, .f32⟩
  | .hbm, ⟨24, _⟩ => ⟨S256x256, .bf16⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S1024x32, .f32⟩
  | .hbm, ⟨29, _⟩ => ⟨S1024x416, .f32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S32x1, .i32⟩
  | .hbm, ⟨35, _⟩ => ⟨S1024x32, .f32⟩
  | .hbm, ⟨36, _⟩ => ⟨S1024x448, .f32⟩
  | .hbm, ⟨37, _⟩ => ⟨S_, .f32⟩
  | .hbm, ⟨38, _⟩ => ⟨S1024x64, .f32⟩
  | .hbm, ⟨39, _⟩ => ⟨S1024x512, .f32⟩
  | .hbm, ⟨40, _⟩ => ⟨S1024x1792, .f32⟩
  | .hbm, ⟨41, _⟩ => ⟨S1024x2304, .f32⟩
  | .hbm, ⟨42, _⟩ => ⟨S1024x2304, .bf16⟩
  | .hbm, ⟨43, _⟩ => ⟨S128x8x128, .f32⟩
  | .hbm, ⟨44, _⟩ => ⟨S128x8x64, .f32⟩
  | .hbm, ⟨45, _⟩ => ⟨S128x512, .f32⟩
  | .hbm, ⟨46, _⟩ => ⟨S128x512, .bf16⟩
  | .hbm, ⟨47, _⟩ => ⟨S_, .f32⟩
  | .hbm, ⟨48, _⟩ => ⟨S96, .f32⟩
  | .hbm, ⟨49, _⟩ => ⟨S128, .f32⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S32x1, .i32⟩
  | .hbm, ⟨55, _⟩ => ⟨S32, .f32⟩
  | .hbm, ⟨56, _⟩ => ⟨S_, .f32⟩
  | .hbm, ⟨57, _⟩ => ⟨S96, .f32⟩
  | .hbm, ⟨58, _⟩ => ⟨S128, .f32⟩
  | .hbm, ⟨59, _⟩ => ⟨S_, .f32⟩
  | .hbm, ⟨60, _⟩ => ⟨S64x512, .f32⟩
  | .hbm, ⟨61, _⟩ => ⟨S128x512, .f32⟩
  | .hbm, ⟨62, _⟩ => ⟨S128x512, .bf16⟩
  | .hbm, ⟨63, _⟩ => ⟨S_, .f32⟩
  | .hbm, ⟨64, _⟩ => ⟨S64x512, .f32⟩
  | .hbm, ⟨65, _⟩ => ⟨S128x512, .f32⟩
  | .hbm, ⟨66, _⟩ => ⟨S128x512, .bf16⟩
  | .hbm, ⟨67, _⟩ => ⟨S1x1024, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x1792, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S32x1x1792, .f32⟩
  | .hbm, ⟨77, _⟩ => ⟨S32, .i32⟩
  | .hbm, ⟨78, _⟩ => ⟨S_, .i32⟩
  | .hbm, ⟨79, _⟩ => ⟨S32, .i32⟩
  | .hbm, ⟨80, _⟩ => ⟨S32, .i32⟩
  | .hbm, ⟨81, _⟩ => ⟨S16, .f32⟩
  | .hbm, ⟨82, _⟩ => ⟨S16, .f32⟩
  | .hbm, ⟨83, _⟩ => ⟨S_, .f32⟩
  | .hbm, ⟨84, _⟩ => ⟨S16, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S32, .f32⟩
  | .hbm, ⟨90, _⟩ => ⟨S32x1, .f32⟩
  | .hbm, ⟨91, _⟩ => ⟨S1x16, .f32⟩
  | .hbm, ⟨92, _⟩ => ⟨S32x16, .f32⟩
  | .hbm, ⟨93, _⟩ => ⟨S32x16, .f32⟩
  | .hbm, ⟨94, _⟩ => ⟨S32x16, .f32⟩
  | .hbm, ⟨95, _⟩ => ⟨S32x16, .f32⟩
  | .hbm, ⟨96, _⟩ => ⟨S32x16, .f32⟩
  | .hbm, ⟨97, _⟩ => ⟨S32x32, .f32⟩
  | .hbm, ⟨98, _⟩ => ⟨S32x16, .f32⟩
  | .hbm, ⟨99, _⟩ => ⟨S32x32, .f32⟩
  | .hbm, ⟨100, _⟩ => ⟨S_, .f32⟩
  | .hbm, ⟨101, _⟩ => ⟨S32x32, .f32⟩
  | .hbm, ⟨102, _⟩ => ⟨S_, .f32⟩
  | .hbm, ⟨103, _⟩ => ⟨S32x64, .f32⟩
  | .hbm, ⟨104, _⟩ => ⟨S32x128, .f32⟩
  | .hbm, ⟨105, _⟩ => ⟨S_, .f32⟩
  | .hbm, ⟨106, _⟩ => ⟨S32x64, .f32⟩
  | .hbm, ⟨107, _⟩ => ⟨S32x128, .f32⟩
  | .hbm, ⟨108, _⟩ => ⟨S_, .f32⟩
  | .hbm, ⟨109, _⟩ => ⟨S32x96, .f32⟩
  | .hbm, ⟨110, _⟩ => ⟨S32x128, .f32⟩
  | .hbm, ⟨111, _⟩ => ⟨S32x128, .f32⟩
  | .hbm, ⟨112, _⟩ => ⟨S32x32x128, .f32⟩
  | .hbm, ⟨113, _⟩ => ⟨S32x32x32, .f32⟩
  | .hbm, ⟨114, _⟩ => ⟨S32x32x1024, .bf16⟩
  | .hbm, ⟨115, _⟩ => ⟨S32x32x1024, .bf16⟩
  | .hbm, ⟨116, _⟩ => ⟨S32x32x512, .bf16⟩
  | .hbm, ⟨117, _⟩ => ⟨S32x32x512, .f32⟩
  | .hbm, ⟨118, _⟩ => ⟨S32x32x512, .f32⟩
  | .hbm, ⟨119, _⟩ => ⟨S32x32x512, .f32⟩
  | .hbm, ⟨120, _⟩ => ⟨S32x32x512, .f32⟩
  | .hbm, ⟨121, _⟩ => ⟨S32x32x512, .f32⟩
  | .hbm, ⟨122, _⟩ => ⟨S32x32x512, .f32⟩
  | .hbm, ⟨123, _⟩ => ⟨S32x32x128, .f32⟩
  | .hbm, ⟨124, _⟩ => ⟨S32x1x1792, .f32⟩
  | .local _ .vmem, ⟨0, _⟩ => ⟨S1x32x1024, .f32⟩
  | .local _ .vmem, ⟨1, _⟩ => ⟨S1x32x1024, .f32⟩
  | .local _ .vmem, ⟨2, _⟩ => ⟨S1x1x1792, .f32⟩
  | .local _ .vmem, ⟨3, _⟩ => ⟨S1x1x1792, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S1x1024, .f32⟩
  | .local _ .vmem, ⟨9, _⟩ => ⟨S1024x2304, .bf16⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S256x256, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x1024, .bf16⟩
  | .local _ .vmem, ⟨20, _⟩ => ⟨S1x1024, .f32⟩
  | .local _ .vmem, ⟨21, _⟩ => ⟨S256x256, .bf16⟩
  | .local _ .vmem, ⟨22, _⟩ => ⟨S128x1024, .bf16⟩
  | .local _ .vmem, ⟨23, _⟩ => ⟨S128x512, .bf16⟩
  | .local _ .vmem, ⟨24, _⟩ => ⟨S1x1792, .f32⟩
  | .local _ .vmem, ⟨25, _⟩ => ⟨S1x512, .f32⟩
  | .local _ .vmem, ⟨26, _⟩ => ⟨S128x512, .bf16⟩
  | .local _ .vmem, ⟨27, _⟩ => ⟨S1x512, .f32⟩
  | .local _ .vmem, ⟨28, _⟩ => ⟨S128x512, .bf16⟩
  | .local _ .vmem, ⟨29, _⟩ => ⟨S1x512, .f32⟩
  | .local _ .vmem, ⟨30, _⟩ => ⟨S1x512, .f32⟩
  | .local _ .vmem, ⟨31, _⟩ => ⟨S256x256, .bf16⟩
  | .local _ .vmem, ⟨32, _⟩ => ⟨S1x32x128, .f32⟩
  | .local _ .vmem, ⟨33, _⟩ => ⟨S1x32x128, .f32⟩
  | .local _ .vmem, ⟨34, _⟩ => ⟨S1x32x32, .f32⟩
  | .local _ .vmem, ⟨35, _⟩ => ⟨S1x32x32, .f32⟩
  | .local _ .vmem, ⟨36, _⟩ => ⟨S1x32x1024, .bf16⟩
  | .local _ .vmem, ⟨37, _⟩ => ⟨S1x32x1024, .bf16⟩
  | .local _ .vmem, ⟨38, _⟩ => ⟨S1x32x1024, .bf16⟩
  | .local _ .vmem, ⟨39, _⟩ => ⟨S1x32x1024, .bf16⟩
  | .local _ .vmem, ⟨40, _⟩ => ⟨S1x32x512, .bf16⟩
  | .local _ .vmem, ⟨41, _⟩ => ⟨S1x32x512, .bf16⟩
  | .local _ .vmem, ⟨42, _⟩ => ⟨S1x32x512, .f32⟩
  | .local _ .vmem, ⟨43, _⟩ => ⟨S1x32x512, .f32⟩
  | .local _ .vmem, ⟨44, _⟩ => ⟨S1x32x512, .f32⟩
  | .local _ .vmem, ⟨45, _⟩ => ⟨S1x32x512, .f32⟩
  | .local _ .vmem, ⟨46, _⟩ => ⟨S1x32x512, .f32⟩
  | .local _ .vmem, ⟨47, _⟩ => ⟨S1x32x512, .f32⟩
  | .local _ .vmem, ⟨48, _⟩ => ⟨S1x32x512, .f32⟩
  | .local _ .vmem, ⟨49, _⟩ => ⟨S1x32x512, .f32⟩
  | .local _ .vmem, ⟨50, _⟩ => ⟨S1x32x512, .f32⟩
  | .local _ .vmem, ⟨51, _⟩ => ⟨S1x32x512, .f32⟩
  | .local _ .vmem, ⟨52, _⟩ => ⟨S1x32x512, .f32⟩
  | .local _ .vmem, ⟨53, _⟩ => ⟨S1x32x512, .f32⟩
  | .local _ .vmem, ⟨54, _⟩ => ⟨S1x32x128, .f32⟩
  | .local _ .vmem, ⟨55, _⟩ => ⟨S1x32x128, .f32⟩
  | .local _ .vmem, ⟨56, _⟩ => ⟨S1x1x1792, .f32⟩
  | .local _ .vmem, ⟨57, _⟩ => ⟨S1x1x1792, .f32⟩
  | .local _ .vmem, ⟨58, _⟩ => ⟨S1x1792, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_c_0 : Ref sig .tc := ⟨.hbm, 26, rfl⟩
abbrev main_c_1 : Ref sig .tc := ⟨.hbm, 27, rfl⟩
abbrev main_v0 : Ref sig .tc := ⟨.hbm, 28, rfl⟩
abbrev main_v1 : Ref sig .tc := ⟨.hbm, 29, rfl⟩
abbrev main_c_2 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_v25 : Ref sig .tc := ⟨.hbm, 58, rfl⟩
abbrev main_cst_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_8 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_11 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_cst_13 : Ref sig .tc := ⟨.hbm, 105, rfl⟩
abbrev main_v65 : Ref sig .tc := ⟨.hbm, 106, rfl⟩
abbrev main_v66 : Ref sig .tc := ⟨.hbm, 107, rfl⟩
abbrev main_cst_14 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70_0 : Ref sig .tc := ⟨.hbm, 112, rfl⟩
abbrev main_v70_1 : Ref sig .tc := ⟨.hbm, 113, rfl⟩
abbrev main_v70_2 : Ref sig .tc := ⟨.hbm, 114, rfl⟩
abbrev main_v70_3 : Ref sig .tc := ⟨.hbm, 115, rfl⟩
abbrev main_v70_4 : Ref sig .tc := ⟨.hbm, 116, rfl⟩
abbrev main_v70_5 : Ref sig .tc := ⟨.hbm, 117, rfl⟩
abbrev main_v70_6 : Ref sig .tc := ⟨.hbm, 118, rfl⟩
abbrev main_v70_7 : Ref sig .tc := ⟨.hbm, 119, rfl⟩
abbrev main_v70_8 : Ref sig .tc := ⟨.hbm, 120, rfl⟩
abbrev main_v70_9 : Ref sig .tc := ⟨.hbm, 121, rfl⟩
abbrev main_v70_10 : Ref sig .tc := ⟨.hbm, 122, rfl⟩
abbrev main_v70_11 : Ref sig .tc := ⟨.hbm, 123, rfl⟩
abbrev main_v70_12 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg30_1 : Ref sig .tc := ⟨.vmem, 33, rfl⟩
abbrev cc0_stg31_0 : Ref sig .tc := ⟨.vmem, 34, rfl⟩
abbrev cc0_stg31_1 : Ref sig .tc := ⟨.vmem, 35, rfl⟩
abbrev cc0_stg32_0 : Ref sig .tc := ⟨.vmem, 36, rfl⟩
abbrev cc0_stg32_1 : Ref sig .tc := ⟨.vmem, 37, rfl⟩
abbrev cc0_stg33_0 : Ref sig .tc := ⟨.vmem, 38, rfl⟩
abbrev cc0_stg33_1 : Ref sig .tc := ⟨.vmem, 39, rfl⟩
abbrev cc0_stg34_0 : Ref sig .tc := ⟨.vmem, 40, rfl⟩
abbrev cc0_stg34_1 : Ref sig .tc := ⟨.vmem, 41, rfl⟩
abbrev cc0_stg35_0 : Ref sig .tc := ⟨.vmem, 42, rfl⟩
abbrev cc0_stg35_1 : Ref sig .tc := ⟨.vmem, 43, rfl⟩
abbrev cc0_stg36_0 : Ref sig .tc := ⟨.vmem, 44, rfl⟩
abbrev cc0_stg36_1 : Ref sig .tc := ⟨.vmem, 45, rfl⟩
abbrev cc0_stg37_0 : Ref sig .tc := ⟨.vmem, 46, rfl⟩
abbrev cc0_stg37_1 : Ref sig .tc := ⟨.vmem, 47, rfl⟩
abbrev cc0_stg38_0 : Ref sig .tc := ⟨.vmem, 48, rfl⟩
abbrev cc0_stg38_1 : Ref sig .tc := ⟨.vmem, 49, rfl⟩
abbrev cc0_stg39_0 : Ref sig .tc := ⟨.vmem, 50, rfl⟩
abbrev cc0_stg39_1 : Ref sig .tc := ⟨.vmem, 51, rfl⟩
abbrev cc0_stg40_0 : Ref sig .tc := ⟨.vmem, 52, rfl⟩
abbrev cc0_stg40_1 : Ref sig .tc := ⟨.vmem, 53, rfl⟩
abbrev cc0_stg41_0 : Ref sig .tc := ⟨.vmem, 54, rfl⟩
abbrev cc0_stg41_1 : Ref sig .tc := ⟨.vmem, 55, rfl⟩
abbrev cc0_stg42_0 : Ref sig .tc := ⟨.vmem, 56, rfl⟩
abbrev cc0_stg42_1 : Ref sig .tc := ⟨.vmem, 57, rfl⟩
abbrev cc0_scratch0 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem30_1 : DmaSem sig := 33
abbrev cc0_sem31_0 : DmaSem sig := 34
abbrev cc0_sem31_1 : DmaSem sig := 35
abbrev cc0_sem32_0 : DmaSem sig := 36
abbrev cc0_sem32_1 : DmaSem sig := 37
abbrev cc0_sem33_0 : DmaSem sig := 38
abbrev cc0_sem33_1 : DmaSem sig := 39
abbrev cc0_sem34_0 : DmaSem sig := 40
abbrev cc0_sem34_1 : DmaSem sig := 41
abbrev cc0_sem35_0 : DmaSem sig := 42
abbrev cc0_sem35_1 : DmaSem sig := 43
abbrev cc0_sem36_0 : DmaSem sig := 44
abbrev cc0_sem36_1 : DmaSem sig := 45
abbrev cc0_sem37_0 : DmaSem sig := 46
abbrev cc0_sem37_1 : DmaSem sig := 47
abbrev cc0_sem38_0 : DmaSem sig := 48
abbrev cc0_sem38_1 : DmaSem sig := 49
abbrev cc0_sem39_0 : DmaSem sig := 50
abbrev cc0_sem39_1 : DmaSem sig := 51
abbrev cc0_sem40_0 : DmaSem sig := 52
abbrev cc0_sem40_1 : DmaSem sig := 53
abbrev cc0_sem41_0 : DmaSem sig := 54
abbrev cc0_sem41_1 : DmaSem sig := 55
abbrev cc0_sem42_0 : DmaSem sig := 56
abbrev cc0_sem42_1 : DmaSem sig := 57

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_32 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_33 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_34 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_35 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_36 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_37 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_38 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_39 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_40 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_41 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_42 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1792 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S128x512 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S128x512 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S256x256 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 2 → Memref sig .tc .vmem S1x32x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x32x32 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x32x1024 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x32x1024 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x32x512 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x32x512 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]

abbrev stage0_36 : Fin 2 → Memref sig .tc .vmem S1x32x512 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, true]

abbrev stage0_37 : Fin 2 → Memref sig .tc .vmem S1x32x512 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true, true]

abbrev stage0_38 : Fin 2 → Memref sig .tc .vmem S1x32x512 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true, true]

abbrev stage0_39 : Fin 2 → Memref sig .tc .vmem S1x32x512 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true, true]

abbrev stage0_40 : Fin 2 → Memref sig .tc .vmem S1x32x512 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true, true]

abbrev stage0_41 : Fin 2 → Memref sig .tc .vmem S1x32x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true, true]

abbrev stage0_42 : Fin 2 → Memref sig .tc .vmem S1x1x1792 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true, false]
-- ==== ProjReferenceIdeal.lean ====
abbrev S32x32x1024 : Shape := ⟨3, ![32, 32, 1024]⟩
abbrev S32x1792 : Shape := ⟨2, ![32, 1792]⟩
abbrev S1024 : Shape := ⟨1, ![1024]⟩
abbrev S1024x2208 : Shape := ⟨2, ![1024, 2208]⟩
abbrev S1x256 : Shape := ⟨2, ![1, 256]⟩
abbrev S256x1024 : Shape := ⟨2, ![256, 1024]⟩
abbrev S1x1024 : Shape := ⟨2, ![1, 1024]⟩
abbrev S256x256 : Shape := ⟨2, ![256, 256]⟩
abbrev S128 : Shape := ⟨1, ![128]⟩
abbrev S32 : Shape := ⟨1, ![32]⟩
abbrev S128x1024 : Shape := ⟨2, ![128, 1024]⟩
abbrev S1792 : Shape := ⟨1, ![1792]⟩
abbrev S512 : Shape := ⟨1, ![512]⟩
abbrev S64x512 : Shape := ⟨2, ![64, 512]⟩
abbrev S_ : Shape := ⟨0, ![]⟩
abbrev S32x32 : Shape := ⟨2, ![32, 32]⟩
abbrev S32x32x1 : Shape := ⟨3, ![32, 32, 1]⟩
abbrev S1x1x1024 : Shape := ⟨3, ![1, 1, 1024]⟩
abbrev S32x32x2208 : Shape := ⟨3, ![32, 32, 2208]⟩
abbrev S32x32x416 : Shape := ⟨3, ![32, 32, 416]⟩
abbrev S32x32x1792 : Shape := ⟨3, ![32, 32, 1792]⟩
abbrev S32x32x128 : Shape := ⟨3, ![32, 32, 128]⟩
abbrev S1x1x128 : Shape := ⟨3, ![1, 1, 128]⟩
abbrev S32x32x32 : Shape := ⟨3, ![32, 32, 32]⟩
abbrev S1x1x32 : Shape := ⟨3, ![1, 1, 32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x32x16 : Shape := ⟨3, ![32, 32, 16]⟩
abbrev S1x32x16 : Shape := ⟨3, ![1, 32, 16]⟩
abbrev S32x32x8x128 : Shape := ⟨4, ![32, 32, 8, 128]⟩
abbrev S32x32x8x64 : Shape := ⟨4, ![32, 32, 8, 64]⟩
abbrev S32x32x512 : Shape := ⟨3, ![32, 32, 512]⟩
abbrev S32x1x1792 : Shape := ⟨3, ![32, 1, 1792]⟩
abbrev S32x31x1792 : Shape := ⟨3, ![32, 31, 1792]⟩
abbrev S1x1x1792 : Shape := ⟨3, ![1, 1, 1792]⟩
abbrev S32x32x64 : Shape := ⟨3, ![32, 32, 64]⟩
abbrev S1x1x512 : Shape := ⟨3, ![1, 1, 512]⟩

abbrev nBuf : Space → Nat
  | .hbm => 156
  | .vmem => 0
  | .smem => 0
  | _ => 0

abbrev hbmTy0_0 (i : Nat) : BufTy := match i % 128 with
  | 0 => ⟨S32x32x1024, .f32⟩
  | 1 => ⟨S32x1792, .f32⟩
  | 2 => ⟨S1024, .f32⟩
  | 3 => ⟨S1024x2208, .f32⟩
  | 4 => ⟨S1x256, .f32⟩
  | 5 => ⟨S256x1024, .bf16⟩
  | 6 => ⟨S256x1024, .bf16⟩
  | 7 => ⟨S1x1024, .f32⟩
  | 8 => ⟨S1x1024, .f32⟩
  | 9 => ⟨S256x256, .bf16⟩
  | 10 => ⟨S128, .f32⟩
  | 11 => ⟨S32, .f32⟩
  | 12 => ⟨S128x1024, .bf16⟩
  | 13 => ⟨S1x1024, .f32⟩
  | 14 => ⟨S256x256, .bf16⟩
  | 15 => ⟨S128x1024, .bf16⟩
  | 16 => ⟨S128x1024, .f32⟩
  | 17 => ⟨S1792, .f32⟩
  | 18 => ⟨S512, .f32⟩
  | 19 => ⟨S64x512, .f32⟩
  | 20 => ⟨S512, .f32⟩
  | 21 => ⟨S64x512, .f32⟩
  | 22 => ⟨S512, .f32⟩
  | 23 => ⟨S512, .f32⟩
  | 24 => ⟨S256x256, .bf16⟩
  | 25 => ⟨S32x32x1024, .f32⟩
  | 26 => ⟨S_, .f32⟩
  | 27 => ⟨S32x32, .f32⟩
  | 28 => ⟨S32x32x1, .f32⟩
  | 29 => ⟨S_, .f32⟩
  | 30 => ⟨S32x32x1, .f32⟩
  | 31 => ⟨S32x32x1, .f32⟩
  | 32 => ⟨S_, .f32⟩
  | 33 => ⟨S32x32x1, .f32⟩
  | 34 => ⟨S32x32x1, .f32⟩
  | 35 => ⟨S32x32x1, .f32⟩
  | 36 => ⟨S32x32x1024, .f32⟩
  | 37 => ⟨S32x32x1024, .f32⟩
  | 38 => ⟨S1x1x1024, .f32⟩
  | 39 => ⟨S32x32x1024, .f32⟩
  | 40 => ⟨S32x32x1024, .f32⟩
  | 41 => ⟨S32x32x2208, .f32⟩
  | 42 => ⟨S32x32x416, .f32⟩
  | 43 => ⟨S32x32x1792, .f32⟩
  | 44 => ⟨S32x32x128, .f32⟩
  | 45 => ⟨S32x32x128, .f32⟩
  | 46 => ⟨S_, .f32⟩
  | 47 => ⟨S32x32, .f32⟩
  | 48 => ⟨S32x32x1, .f32⟩
  | 49 => ⟨S_, .f32⟩
  | 50 => ⟨S32x32x1, .f32⟩
  | 51 => ⟨S32x32x1, .f32⟩
  | 52 => ⟨S_, .f32⟩
  | 53 => ⟨S32x32x1, .f32⟩
  | 54 => ⟨S32x32x1, .f32⟩
  | 55 => ⟨S32x32x1, .f32⟩
  | 56 => ⟨S32x32x128, .f32⟩
  | 57 => ⟨S32x32x128, .f32⟩
  | 58 => ⟨S1x1x128, .f32⟩
  | 59 => ⟨S32x32x128, .f32⟩
  | 60 => ⟨S32x32x128, .f32⟩
  | 61 => ⟨S32x32x32, .f32⟩
  | 62 => ⟨S32x32x32, .f32⟩
  | 63 => ⟨S_, .f32⟩
  | 64 => ⟨S32x32, .f32⟩
  | 65 => ⟨S32x32x1, .f32⟩
  | 66 => ⟨S_, .f32⟩
  | 67 => ⟨S32x32x1, .f32⟩
  | 68 => ⟨S32x32x1, .f32⟩
  | 69 => ⟨S_, .f32⟩
  | 70 => ⟨S32x32x1, .f32⟩
  | 71 => ⟨S32x32x1, .f32⟩
  | 72 => ⟨S32x32x1, .f32⟩
  | 73 => ⟨S32x32x32, .f32⟩
  | 74 => ⟨S32x32x32, .f32⟩
  | 75 => ⟨S1x1x32, .f32⟩
  | 76 => ⟨S32x32x32, .f32⟩
  | 77 => ⟨S32x32x32, .f32⟩
  | 78 => ⟨S32, .i32⟩
  | 79 => ⟨S_, .i32⟩
  | 80 => ⟨S32, .i32⟩
  | 81 => ⟨S32, .i32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S32, .f32⟩
  | 91 => ⟨S32x1, .f32⟩
  | 92 => ⟨S1x16, .f32⟩
  | 93 => ⟨S32x16, .f32⟩
  | 94 => ⟨S32x16, .f32⟩
  | 95 => ⟨S32x16, .f32⟩
  | 96 => ⟨S32x16, .f32⟩
  | 97 => ⟨S32x16, .f32⟩
  | 98 => ⟨S32x32x16, .f32⟩
  | 99 => ⟨S32x32x16, .f32⟩
  | 100 => ⟨S1x32x16, .f32⟩
  | 101 => ⟨S32x32x16, .f32⟩
  | 102 => ⟨S32x32x16, .f32⟩
  | 103 => ⟨S1x32x16, .f32⟩
  | 104 => ⟨S32x32x16, .f32⟩
  | 105 => ⟨S32x32x16, .f32⟩
  | 106 => ⟨S32x32x16, .f32⟩
  | 107 => ⟨S1x32x16, .f32⟩
  | 108 => ⟨S32x32x16, .f32⟩
  | 109 => ⟨S32x32x16, .f32⟩
  | 110 => ⟨S1x32x16, .f32⟩
  | 111 => ⟨S32x32x16, .f32⟩
  | 112 => ⟨S32x32x16, .f32⟩
  | 113 => ⟨S32x32x16, .f32⟩
  | 114 => ⟨S32x32x32, .f32⟩
  | 115 => ⟨S32x32x1024, .f32⟩
  | 116 => ⟨S32x32x8x128, .f32⟩
  | 117 => ⟨S32x32x8x64, .f32⟩
  | 118 => ⟨S32x32x512, .f32⟩
  | 119 => ⟨S32x1x1792, .f32⟩
  | 120 => ⟨S32x31x1792, .f32⟩
  | 121 => ⟨S32x32x1792, .f32⟩
  | 122 => ⟨S32x32x1792, .f32⟩
  | 123 => ⟨S1x1x1792, .f32⟩
  | 124 => ⟨S32x32x1792, .f32⟩
  | 125 => ⟨S32x32x1792, .f32⟩
  | 126 => ⟨S32x32x1792, .f32⟩
  | 127 => ⟨S32x32x512, .f32⟩
  | _ => ⟨S32x32x1024, .f32⟩

abbrev hbmTy0_1 (i : Nat) : BufTy := match i % 128 with
  | 0 => ⟨S32x32x512, .f32⟩
  | 1 => ⟨S32x32x512, .f32⟩
  | 2 => ⟨S32x32x64, .f32⟩
  | 3 => ⟨S32x32x128, .f32⟩
  | 4 => ⟨S32x32x512, .f32⟩
  | 5 => ⟨S1x1x512, .f32⟩
  | 6 => ⟨S32x32x512, .f32⟩
  | 7 => ⟨S32x32x512, .f32⟩
  | 8 => ⟨S32x32x512, .f32⟩
  | 9 => ⟨S32x32x512, .f32⟩
  | 10 => ⟨S_, .f32⟩
  | 11 => ⟨S32x32x512, .f32⟩
  | 12 => ⟨S32x32x512, .f32⟩
  | 13 => ⟨S_, .f32⟩
  | 14 => ⟨S32x32x512, .f32⟩
  | 15 => ⟨S32x32x512, .f32⟩
  | 16 => ⟨S_, .f32⟩
  | 17 => ⟨S32x32x512, .f32⟩
  | 18 => ⟨S32x32x512, .f32⟩
  | 19 => ⟨S1x1x512, .f32⟩
  | 20 => ⟨S32x32x512, .f32⟩
  | 21 => ⟨S32x32x512, .f32⟩
  | 22 => ⟨S_, .f32⟩
  | 23 => ⟨S32x32x512, .f32⟩
  | 24 => ⟨S32x32x512, .f32⟩
  | 25 => ⟨S32x32x512, .f32⟩
  | 26 => ⟨S32x32x512, .bf16⟩
  | 27 => ⟨S32x1x1792, .f32⟩
  | _ => ⟨S32x32x1024, .f32⟩

abbrev hbmTy (i : Nat) : BufTy := match i / 128 with
  | 0 => hbmTy0_0 i
  | 1 => hbmTy0_1 i
  | _ => ⟨S32x32x1024, .f32⟩

abbrev bufTy : (tb : Table) → Fin (tcTables nBuf tb) → BufTy
  | .hbm, ⟨i, _⟩ => hbmTy i
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_2 : Ref sig .tc := ⟨.hbm, 46, rfl⟩
abbrev main_v18 : Ref sig .tc := ⟨.hbm, 47, rfl⟩
abbrev main_v19 : Ref sig .tc := ⟨.hbm, 48, rfl⟩
abbrev main_cst_3 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_5 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_cst_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_8 : Ref sig .tc := ⟨.hbm, 84, rfl⟩
abbrev main_v49 : Ref sig .tc := ⟨.hbm, 85, rfl⟩
abbrev main_v50 : Ref sig .tc := ⟨.hbm, 86, rfl⟩
abbrev main_cst_9 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_10 : Ref sig .tc := ⟨.hbm, 138, rfl⟩
abbrev main_v101 : Ref sig .tc := ⟨.hbm, 139, rfl⟩
abbrev main_v102 : Ref sig .tc := ⟨.hbm, 140, rfl⟩
abbrev main_cst_11 : Ref sig .tc := ⟨.hbm, 141, rfl⟩
abbrev main_v103 : Ref sig .tc := ⟨.hbm, 142, rfl⟩
abbrev main_v104 : Ref sig .tc := ⟨.hbm, 143, rfl⟩
abbrev main_cst_12 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_13 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]
-- ==== Proof.Online.lean ====
/-
  The running softmax over the extended reals, as mathematics alone.

  Keys are numbered by the natural numbers; `s x` is the score of key `x` and `v x` one lane of its value. After the keys
  below `n` a running softmax holds the largest score `m`, the sum `l` of the weights `exp (s x - m)` and the sum `a` of the
  weighted values. `Seen s v n m l a` says so. `Seen.step` adds the next `w` keys the way an attention kernel does it (a new
  maximum, both sums rescaled by `exp (m - m')`), for ALL extended-real scores and values; `Seen.quotient` divides at the end.
-/
module

public import Idealize.ShloMosaic.PureOps.Ideal
public import Idealize.ShloMosaic.PureOps.Ideal.Laws

@[expose] public section

noncomputable section

namespace Cert.Online

open Idealize.ShloMosaic
open scoped BigOperators

/-- The exponential of `⊥` is zero. -/
theorem exp_bot : Ideal.exp ⊥ = 0 := rfl

/-- The exponential of a real is a real. -/
theorem exp_coe (r : ℝ) : Ideal.exp (r : EReal) = ((Real.exp r : ℝ) : EReal) := rfl

/-- The exponential of an extended real is not negative. -/
theorem exp_nonneg (x : EReal) : 0 ≤ Ideal.exp x := by
  induction x with
  | bot => exact le_refl _
  | top => exact le_top
  | coe r => exact EReal.coe_nonneg.mpr (Real.exp_pos r).le

/-- A score below the maximum has a finite weight. -/
theorem exp_sub_ne_top {x y : EReal} (h : x ≤ y) : Ideal.exp (x - y) ≠ ⊤ := by
  induction y with
  | bot => rw [le_bot_iff.mp h]; simp [exp_bot, sub_eq_add_neg]
  | top => simp [exp_bot, sub_eq_add_neg]
  | coe r =>
    induction x with
    | bot => simp [exp_bot, sub_eq_add_neg]
    | top => exact absurd h (by simp)
    | coe t => rw [← EReal.coe_sub]; exact EReal.coe_ne_top _

/-- Rescaling a weight from one maximum to a larger one. -/
theorem exp_rescale {x y z : EReal} (h : x ≤ y) (h' : y ≤ z) :
    Ideal.exp (y - z) * Ideal.exp (x - y) = Ideal.exp (x - z) := by
  induction z with
  | bot => rw [le_bot_iff.mp h'] at h ⊢; rw [le_bot_iff.mp h]; simp [exp_bot, sub_eq_add_neg]
  | top => simp [exp_bot, sub_eq_add_neg]
  | coe r =>
    induction y with
    | bot => rw [le_bot_iff.mp h]; simp [exp_bot, sub_eq_add_neg]
    | top => exact absurd h' (by simp)
    | coe t =>
      induction x with
      | bot => simp [exp_bot, sub_eq_add_neg]
      | top => exact absurd h (by simp)
      | coe u =>
        rw [← EReal.coe_sub, ← EReal.coe_sub, ← EReal.coe_sub]
        rw [exp_coe, exp_coe, exp_coe, ← EReal.coe_mul, ← Real.exp_add]
        congr 2; ring

/-- A factor that is not negative and finite goes into a sum of extended reals. -/
theorem mul_sum {ι : Type*} {c : EReal} (h0 : 0 ≤ c) (ht : c ≠ ⊤) (S : Finset ι) (f : ι → EReal) :
    c * ∑ x ∈ S, f x = ∑ x ∈ S, c * f x := by
  classical
  induction S using Finset.induction_on with
  | empty => simp
  | insert a S ha ih => rw [Finset.sum_insert ha, Finset.sum_insert ha, EReal.left_distrib_of_nonneg_of_ne_top h0 ht, ih]

/-- The state of a running softmax after the keys below `n`: the largest score, the sum of the weights, the weighted sum. -/
structure Seen (s v : ℕ → EReal) (n : ℕ) (m l a : EReal) : Prop where
  top : m = (Finset.range n).sup s
  den : l = ∑ x ∈ Finset.range n, Ideal.exp (s x - m)
  num : a = ∑ x ∈ Finset.range n, Ideal.exp (s x - m) * v x

/-- Before the first key: nothing seen. -/
theorem Seen.start (s v : ℕ → EReal) : Seen s v 0 ⊥ 0 0 := ⟨by simp, by simp, by simp⟩

/-- The largest of `w` scores, taken as a fold of `max` over the tile. -/
theorem fold_max_eq_sup (s : ℕ → EReal) (n w : ℕ) :
    (Finset.univ : Finset (Fin w)).fold max ⊥ (fun k => s (n + k.val)) = (Finset.range w).sup fun x => s (n + x) := by
  show (Finset.univ : Finset (Fin w)).sup (fun k => s (n + k.val)) = _
  apply le_antisymm
  · exact Finset.sup_le fun k _ => Finset.le_sup (f := fun x => s (n + x)) (Finset.mem_range.mpr k.isLt)
  · exact Finset.sup_le fun x hx => Finset.le_sup (f := fun k : Fin w => s (n + k.val)) (Finset.mem_univ ⟨x, Finset.mem_range.mp hx⟩)

/-- The largest score below `n + w` is the larger of the two parts'. -/
theorem sup_range_add (s : ℕ → EReal) (n w : ℕ) :
    (Finset.range (n + w)).sup s = max ((Finset.range n).sup s) ((Finset.range w).sup fun x => s (n + x)) := by
  apply le_antisymm
  · refine Finset.sup_le fun x hx => ?_
    rcases Nat.lt_or_ge x n with h | h
    · exact le_max_of_le_left (Finset.le_sup (Finset.mem_range.mpr h))
    · obtain ⟨y, rfl⟩ := Nat.exists_eq_add_of_le h
      exact le_max_of_le_right (Finset.le_sup (f := fun x => s (n + x))
        (Finset.mem_range.mpr (by have := Finset.mem_range.mp hx; omega)))
  · refine max_le (Finset.sup_le fun x hx => Finset.le_sup ?_) (Finset.sup_le fun x hx => Finset.le_sup (f := s) ?_)
    · exact Finset.mem_range.mpr (by have := Finset.mem_range.mp hx; omega)
    · exact Finset.mem_range.mpr (by have := Finset.mem_range.mp hx; omega)

/-- The next `w` keys: the new maximum, both sums rescaled to it, the tile's own sums added. -/
theorem Seen.step {s v : ℕ → EReal} {n : ℕ} {m l a : EReal} (h : Seen s v n m l a) (w : ℕ) {m' : EReal}
    (hm' : m' = Max.max m ((Finset.univ : Finset (Fin w)).fold max ⊥ fun k => s (n + k.val))) :
    Seen s v (n + w) m' (Ideal.exp (m - m') * l + ∑ k : Fin w, Ideal.exp (s (n + k.val) - m'))
      (Ideal.exp (m - m') * a + ∑ k : Fin w, Ideal.exp (s (n + k.val) - m') * v (n + k.val)) := by
  have hM : m' = (Finset.range (n + w)).sup s := by rw [hm', fold_max_eq_sup, sup_range_add, h.top]
  have hle : m ≤ m' := by rw [hm']; exact le_max_left _ _
  have hx : ∀ x ∈ Finset.range n, s x ≤ m := fun x hx => by rw [h.top]; exact Finset.le_sup hx
  refine ⟨hM, ?_, ?_⟩
  · rw [Finset.sum_range_add, h.den, mul_sum (exp_nonneg _) (exp_sub_ne_top hle)]
    refine congrArg₂ (· + ·) (Finset.sum_congr rfl fun x h' => exp_rescale (hx x h') hle) ?_
    exact Fin.sum_univ_eq_sum_range (fun x => Ideal.exp (s (n + x) - m')) w
  · rw [Finset.sum_range_add, h.num, mul_sum (exp_nonneg _) (exp_sub_ne_top hle)]
    refine congrArg₂ (· + ·) (Finset.sum_congr rfl fun x h' => ?_) ?_
    · rw [← mul_assoc, exp_rescale (hx x h') hle]
    · exact Fin.sum_univ_eq_sum_range (fun x => Ideal.exp (s (n + x) - m') * v (n + x)) w

/-- A finite sum of weights below the maximum, none of them infinite, is finite. -/
theorem sum_ne_top {ι : Type*} (S : Finset ι) (f : ι → EReal) (h0 : ∀ x ∈ S, 0 ≤ f x) (ht : ∀ x ∈ S, f x ≠ ⊤) :
    0 ≤ ∑ x ∈ S, f x ∧ ∑ x ∈ S, f x ≠ ⊤ := by
  classical
  induction S using Finset.induction_on with
  | empty => simp
  | insert a S ha ih =>
    obtain ⟨i0, it⟩ := ih (fun x hx => h0 x (Finset.mem_insert_of_mem hx)) (fun x hx => ht x (Finset.mem_insert_of_mem hx))
    rw [Finset.sum_insert ha]
    have a0 := h0 a (Finset.mem_insert_self a S)
    have at' := ht a (Finset.mem_insert_self a S)
    exact ⟨add_nonneg a0 i0, EReal.add_ne_top at' it⟩

/-- The softmax weights divided one by one give the weighted sum divided once, where some score is real and none is `⊤`. -/
theorem Seen.quotient {s v : ℕ → EReal} {n : ℕ} {m l a : EReal} (h : Seen s v n m l a)
    (ht : ∀ x, s x ≠ ⊤) (hb : ∃ x < n, s x ≠ ⊥) :
    Ideal.div a l = ∑ x ∈ Finset.range n, Ideal.div (Ideal.exp (s x - m)) l * v x := by
  have hx : ∀ x ∈ Finset.range n, s x ≤ m := fun x hx => by rw [h.top]; exact Finset.le_sup hx
  obtain ⟨x0, hx0, hs0⟩ := hb
  have hne : (Finset.range n).Nonempty := ⟨x0, Finset.mem_range.mpr hx0⟩
  obtain ⟨y, hy, hym⟩ := Finset.exists_mem_eq_sup _ hne s
  have hmy : m = s y := by rw [h.top, hym]
  have hmb : m ≠ ⊥ := fun e => hs0 (le_bot_iff.mp (e ▸ hx x0 (Finset.mem_range.mpr hx0)))
  have hmt : m ≠ ⊤ := hmy ▸ ht y
  obtain ⟨l0, lt⟩ := sum_ne_top (Finset.range n) (fun x => Ideal.exp (s x - m)) (fun x _ => exp_nonneg _)
    (fun x h' => exp_sub_ne_top (hx x h'))
  have l1 : l ≠ 0 := by
    intro e
    have h1 : Ideal.exp (s y - m) ≤ l := by
      rw [h.den]; exact Finset.single_le_sum (f := fun x => Ideal.exp (s x - m)) (fun x _ => exp_nonneg _) hy
    rw [← hmy, EReal.sub_self hmt hmb, e] at h1
    have : Ideal.exp 0 = 1 := by rw [← EReal.coe_zero]; show ((Real.exp 0 : ℝ) : EReal) = 1; simp
    rw [this] at h1
    exact absurd h1 (by simp)
  have hinv0 : 0 ≤ l⁻¹ := EReal.inv_nonneg_of_nonneg (by rw [h.den]; exact l0)
  have hinvt : l⁻¹ ≠ ⊤ := by
    rw [← h.den] at l0 lt
    induction l with
    | bot => simp
    | top => simp
    | coe r => rw [← EReal.coe_inv]; exact EReal.coe_ne_top _
  unfold Ideal.div
  rw [if_neg l1, h.num, mul_comm, mul_sum hinv0 hinvt]
  refine Finset.sum_congr rfl fun x _ => ?_
  rw [if_neg l1, ← mul_assoc, mul_comm l⁻¹]

/-- Two sums over numbered keys agree when the keys 16 to 127 of the first and the last `k` of the second count for nothing and the rest
    are the same in order. -/
theorem sum_regroup {f f' : ℕ → EReal} {n k : ℕ} (h0 : ∀ x < 16, f x = f' x) (hz : ∀ x, 16 ≤ x → x < 128 → f x = 0)
    (h1 : ∀ y < n, f (128 + y) = f' (16 + y)) (hz' : ∀ y, n ≤ y → f' (16 + y) = 0) :
    ∑ x ∈ Finset.range (128 + n), f x = ∑ x ∈ Finset.range (16 + (n + k)), f' x := by
  rw [Finset.sum_range_add, show (128 : ℕ) = 16 + 112 from rfl, Finset.sum_range_add f 16 112, Finset.sum_range_add f' 16,
    Finset.sum_range_add (fun x => f' (16 + x)) n k]
  rw [Finset.sum_eq_zero fun x hx => hz (16 + x) (by omega) (by have := Finset.mem_range.mp hx; omega),
    Finset.sum_eq_zero (s := Finset.range k) fun x _ => hz' (n + x) (by omega), add_zero, add_zero]
  exact congrArg₂ (· + ·) (Finset.sum_congr rfl fun x hx => h0 x (Finset.mem_range.mp hx))
    (Finset.sum_congr rfl fun x hx => h1 x (Finset.mem_range.mp hx))

/-- The same for the largest score, the keys left out having none. -/
theorem sup_regroup {f f' : ℕ → EReal} {n k : ℕ} (h0 : ∀ x < 16, f x = f' x) (hz : ∀ x, 16 ≤ x → x < 128 → f x = ⊥)
    (h1 : ∀ y < n, f (128 + y) = f' (16 + y)) (hz' : ∀ y, n ≤ y → f' (16 + y) = ⊥) :
    (Finset.range (128 + n)).sup f = (Finset.range (16 + (n + k))).sup f' := by
  rw [sup_range_add, show (128 : ℕ) = 16 + 112 from rfl, sup_range_add f 16 112, sup_range_add f' 16, sup_range_add (fun x => f' (16 + x)) n k]
  rw [(Finset.sup_eq_bot_iff (fun x => f (16 + x)) (Finset.range 112)).mpr
      fun x hx => hz (16 + x) (by omega) (by have := Finset.mem_range.mp hx; omega),
    (Finset.sup_eq_bot_iff (fun x => f' (16 + (n + x))) (Finset.range k)).mpr fun x _ => hz' (n + x) (by omega),
    max_bot_right, max_bot_right]
  exact congrArg₂ max (Finset.sup_congr rfl fun x hx => h0 x (Finset.mem_range.mp hx))
    (Finset.sup_congr rfl fun x hx => h1 x (Finset.mem_range.mp hx))

/-- A running softmax over keys numbered with a gap (16 to 127, masked) is one over the keys numbered without it, and masked keys
    may be added at the end. -/
theorem Seen.regroup {s v s' v' : ℕ → EReal} {n : ℕ} (k : ℕ) {m l a : EReal} (h : Seen s v (128 + n) m l a)
    (hs0 : ∀ x < 16, s x = s' x) (hv0 : ∀ x < 16, v x = v' x) (hb : ∀ x, 16 ≤ x → x < 128 → s x = ⊥)
    (hs1 : ∀ y < n, s (128 + y) = s' (16 + y)) (hv1 : ∀ y < n, v (128 + y) = v' (16 + y))
    (hb' : ∀ y, n ≤ y → s' (16 + y) = ⊥) : Seen s' v' (16 + (n + k)) m l a := by
  have z : ∀ x : EReal, x = ⊥ → Ideal.exp (x - m) = 0 := fun x e => by rw [e, sub_eq_add_neg, EReal.bot_add, exp_bot]
  refine ⟨h.top.trans (sup_regroup hs0 hb hs1 hb'), h.den.trans (sum_regroup ?_ ?_ ?_ ?_), h.num.trans (sum_regroup ?_ ?_ ?_ ?_)⟩
  · exact fun x hx => by rw [hs0 x hx]
  · exact fun x h1 h2 => z _ (hb x h1 h2)
  · exact fun y hy => by rw [hs1 y hy]
  · exact fun y hy => z _ (hb' y hy)
  · exact fun x hx => by rw [hs0 x hx, hv0 x hx]
  · exact fun x h1 h2 => by rw [z _ (hb x h1 h2), zero_mul]
  · exact fun y hy => by rw [hs1 y hy, hv1 y hy]
  · exact fun y hy => by rw [z _ (hb' y hy), zero_mul]

end Cert.Online

end
-- ==== Proof.Step.lean ====
/-
  One step of the attention kernel's running softmax, on vectors: the state is a column of maxima, a column of sums and the
  accumulated values of 256 queries; a tile brings its scores and its values. `tileStep` is the step over 256 keys, `metaStep`
  the one over the 128 lanes that hold the prefix's keys. Read at one query and one lane, both are `Online.Seen.step`.
-/
module

public import proofs.«01_k».proof.Proof.Online
public import proofs.«01_k».proof.Proof.Gen.KernelIdeal.Skeleton
public import Idealize.ShloMosaic.Lib.Pointwise

@[expose] public section

noncomputable section

namespace Cert.KernelIdeal.Gen

open Idealize.ShloMosaic Cert.Online
open Facts

/-- The state of the running softmax of 256 queries: maxima, sums, accumulated values. -/
abbrev St := FVec Ideal S256x1 .f32 × FVec Ideal S256x1 .f32 × FVec Ideal S256x128 .f32

/-- The new maxima: of the old ones and the tile's scores. -/
def tileMax (s : FVec Ideal S256x256 .f32) (m : FVec Ideal S256x1 .f32) : FVec Ideal S256x1 .f32 :=
  maximumf m (shapeCast S256x1 (multiReduction .maximumf [1] S256 s 0xFF800000#32 reduces_S256x256_S256 (.inl rfl) rfl) shapeCasts_S256_S256x1)

/-- The tile's weights under the new maxima. -/
def tileExp (s : FVec Ideal S256x256 .f32) (m : FVec Ideal S256x1 .f32) : FVec Ideal S256x256 .f32 :=
  exp (subf s (broadcastTo S256x256 (tileMax s m) broadcasts_S256x1_S256x256))

/-- The step over one tile of 256 keys. -/
def tileStep (s : FVec Ideal S256x256 .f32) (v : FVec Ideal S256x128 .bf16) (st : St) : St :=
  (tileMax s st.1,
   addf (mulf (exp (subf st.1 (tileMax s st.1))) st.2.1)
     (shapeCast S256x1 (multiReduction .add [1] S256 (tileExp s st.1) 0x00000000#32 reduces_S256x256_S256 (.inl rfl) rfl) shapeCasts_S256_S256x1),
   addf (mulf (broadcastTo S256x128 (exp (subf st.1 (tileMax s st.1))) broadcasts_S256x1_S256x128) st.2.2)
     (matmul dot_S256x256_S256x128_S256x128_1_0_0_1_n_n none (truncf .bf16 (tileExp s st.1) bitsLt_bf16_f32) v
       (constant S256x128 .f32 0x00000000#32)))

/-- The new maxima over the lanes of the prefix. -/
def metaMax (s : FVec Ideal S256x128 .f32) (m : FVec Ideal S256x1 .f32) : FVec Ideal S256x1 .f32 :=
  maximumf m (shapeCast S256x1 (multiReduction .maximumf [1] S256 s 0xFF800000#32 reduces_S256x128_S256 (.inl rfl) rfl) shapeCasts_S256_S256x1)

/-- The prefix's weights under the new maxima. -/
def metaExp (s : FVec Ideal S256x128 .f32) (m : FVec Ideal S256x1 .f32) : FVec Ideal S256x128 .f32 :=
  exp (subf s (broadcastTo S256x128 (metaMax s m) broadcasts_S256x1_S256x128))

/-- The step over the 128 lanes that hold the prefix's keys. -/
def metaStep (s : FVec Ideal S256x128 .f32) (v : FVec Ideal S128x128 .bf16) (st : St) : St :=
  (metaMax s st.1,
   addf (mulf (exp (subf st.1 (metaMax s st.1))) st.2.1)
     (shapeCast S256x1 (multiReduction .add [1] S256 (metaExp s st.1) 0x00000000#32 reduces_S256x128_S256 (.inl rfl) rfl) shapeCasts_S256_S256x1),
   addf (mulf (broadcastTo S256x128 (exp (subf st.1 (metaMax s st.1))) broadcasts_S256x1_S256x128) st.2.2)
     (matmul dot_S256x128_S128x128_S256x128_1_0_0_1_n_n none (truncf .bf16 (metaExp s st.1) bitsLt_bf16_f32) v
       (constant S256x128 .f32 0x00000000#32)))

/-- The state before the first key. -/
def start : St :=
  (broadcast S256x1 (Named.named κ "mask" 0xF149F2CA#32), broadcast S256x1 (Scalar.ofBits .f32 0x00000000#32),
   broadcast S256x128 (Scalar.ofBits .f32 0x00000000#32))

/-- Scores of the prefix's lanes: the products with the prefix's keys on the first 16 lanes, the mask on the others. -/
def metaScores (q : FVec Ideal S256x128 .bf16) (k : FVec Ideal S128x128 .bf16) : FVec Ideal S256x128 .f32 :=
  select k0_pay2 (matmul dot_S256x128_S128x128_S256x128_1_1_0_0_n_n none q k (constant S256x128 .f32 0x00000000#32))
    (broadcast S256x128 (Named.named κ "mask" 0xF149F2CA#32))

/-- Scores of a tile of keys. -/
def tileScores (q k : FVec Ideal S256x128 .bf16) : FVec Ideal S256x256 .f32 :=
  matmul dot_S256x128_S256x128_S256x256_1_1_0_0_n_n none q k (constant S256x256 .f32 0x00000000#32)

/-- Scores of the tile on the diagonal, masked by `b`. -/
def diagScores (b : IVec S256x256 1) (q k : FVec Ideal S256x128 .bf16) : FVec Ideal S256x256 .f32 :=
  select b (tileScores q k) (broadcast S256x256 (Named.named κ "mask" 0xF149F2CA#32))

/-- The word of minus infinity. -/
theorem ofBits_neg_inf : Ideal.ofBits .f32 0xFF800000#32 = ⊥ := by simp [Ideal.ofBits, Ideal.ieee]

/-- The kernel's mask constant is named minus infinity. -/
theorem named_mask : Named.named (F := Ideal) κ "mask" (φ := .f32) 0xF149F2CA#32 = (⊥ : EReal) :=
  IdealRules.named_const.ideal_named_scalar _ _ _ _ rfl

/-- A row's maximum after a tile of 256 keys. -/
theorem tileMax_apply (s : FVec Ideal S256x256 .f32) (m : FVec Ideal S256x1 .f32) (r : Fin 256) (z : Fin 1) :
    tileMax s m (ix2 r z) = max (m (ix2 r 0)) ((Finset.univ : Finset (Fin 256)).fold max ⊥ fun k => s (ix2 r k)) := by
  obtain rfl : z = 0 := Subsingleton.elim _ _
  pointwise [tileMax]
  rw [ofBits_neg_inf]

/-- A row's maximum after the prefix's tile. -/
theorem metaMax_apply (s : FVec Ideal S256x128 .f32) (m : FVec Ideal S256x1 .f32) (r : Fin 256) (z : Fin 1) :
    metaMax s m (ix2 r z) = max (m (ix2 r 0)) ((Finset.univ : Finset (Fin 128)).fold max ⊥ fun k => s (ix2 r k)) := by
  obtain rfl : z = 0 := Subsingleton.elim _ _
  pointwise [metaMax]
  rw [ofBits_neg_inf]

/-- The first state: −∞ as maximum, zero sum, zero accumulator. -/
theorem start_apply (r : Fin 256) (c : Fin 128) :
    start.1 (ix2 r 0) = ⊥ ∧ start.2.1 (ix2 r 0) = 0 ∧ start.2.2 (ix2 r c) = 0 := by
  pointwise [start]
  exact named_mask

/-- A score of the prefix's tile: the product, −∞ at padding. -/
theorem metaScores_apply (q : FVec Ideal S256x128 .bf16) (k : FVec Ideal S128x128 .bf16) (r : Fin 256) (c : Fin 128) :
    metaScores q k (ix2 r c) = if c.val < 16 then ∑ d : Fin 128, q (ix2 r d) * k (ix2 c d) else ⊥ := by
  pointwise [metaScores, k0_pay2]
  rw [named_mask]
  have h : ∀ c : Fin 128, IntOp.cmpi CmpIPredicate.slt (BitVec.ofNat 32 c.val) 16#32 = if c.val < 16 then 1#1 else 0#1 := by decide
  rw [h]
  split <;> rfl

/-- A score of a tile below the diagonal: the product. -/
theorem tileScores_apply (q k : FVec Ideal S256x128 .bf16) (r c : Fin 256) :
    tileScores q k (ix2 r c) = ∑ d : Fin 128, q (ix2 r d) * k (ix2 c d) := by
  pointwise [tileScores]

/-- The causal mask of the diagonal tile. -/
def mask : IVec S256x256 1 := k0_pay6 k0_pay3 (iota .tc S256x256 32 [1] iota_S256x256_d1_w32) 64#32 k0_pay4 k0_pay5

/-- The rounded-down quotient by 64, as the kernel computes it from a quotient rounded to zero. -/
def chunk (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

/-- A position's chunk is the position divided by 64. -/
theorem chunk_eq : ∀ r : Fin 256, chunk (BitVec.ofNat 32 r.val) = BitVec.ofNat 32 (r.val / 64) := by decide +kernel

/-- The diagonal tile's mask: keys of no later chunk than the query's. -/
theorem mask_apply (r c : Fin 256) : mask (ix2 r c) = if c.val / 64 ≤ r.val / 64 then 1#1 else 0#1 := by
  pointwise [mask, k0_pay6, k0_pay3, k0_pay4, k0_pay5]
  have h := chunk_eq r
  have h' := chunk_eq c
  unfold chunk at h h'
  rw [h, h']
  have hd : ∀ a b : Fin 4, IntOp.cmpi CmpIPredicate.sle (BitVec.ofNat 32 b.val) (BitVec.ofNat 32 a.val) = if b.val ≤ a.val then 1#1 else 0#1 := by decide
  exact hd ⟨r.val / 64, by omega⟩ ⟨c.val / 64, by omega⟩

/-- A score of the diagonal tile: the product, −∞ where masked. -/
theorem diagScores_apply (q k : FVec Ideal S256x128 .bf16) (r c : Fin 256) :
    diagScores mask q k (ix2 r c) = if c.val / 64 ≤ r.val / 64 then ∑ d : Fin 128, q (ix2 r d) * k (ix2 c d) else ⊥ := by
  pointwise [diagScores]
  rw [mask_apply, tileScores_apply, named_mask]
  split <;> rfl

/-- What the state holds after the keys below `n`: query `r`'s scores are `S r`, lane `c` of the values is `V c`. -/
def SeenAll (S : Fin 256 → ℕ → EReal) (V : Fin 128 → ℕ → EReal) (n : ℕ) (st : St) : Prop :=
  ∀ r c, Seen (S r) (V c) n (st.1 (ix2 r 0)) (st.2.1 (ix2 r 0)) (st.2.2 (ix2 r c))

variable {S : Fin 256 → ℕ → EReal} {V : Fin 128 → ℕ → EReal}

/-- The first state has seen no key. -/
theorem seen_start : SeenAll S V 0 start := fun r c => by
  obtain ⟨h1, h2, h3⟩ := start_apply r c
  rw [h1, h2, h3]
  exact Seen.start _ _

/-- A tile of 256 keys, `n` keys seen before it. -/
theorem seen_tile {n : ℕ} {st : St} (h : SeenAll S V n st) {s : FVec Ideal S256x256 .f32} {v : FVec Ideal S256x128 .bf16}
    (hs : ∀ r k, s (ix2 r k) = S r (n + k.val)) (hv : ∀ k c, v (ix2 k c) = V c (n + k.val)) :
    SeenAll S V (n + 256) (tileStep s v st) := fun r c => by
  have h' := (h r c).step 256 (m' := (tileStep s v st).1 (ix2 r 0)) (by simp only [tileStep, tileMax_apply, hs])
  convert h' using 1
  · pointwise [tileStep, tileExp, tileMax_apply]
    simp only [hs]
  · pointwise [tileStep, tileExp, tileMax_apply]
    simp only [hs, hv]

/-- The prefix's lanes, the first 128 keys. -/
theorem seen_meta {n : ℕ} {st : St} (h : SeenAll S V n st) {s : FVec Ideal S256x128 .f32} {v : FVec Ideal S128x128 .bf16}
    (hs : ∀ r k, s (ix2 r k) = S r (n + k.val)) (hv : ∀ k c, v (ix2 k c) = V c (n + k.val)) :
    SeenAll S V (n + 128) (metaStep s v st) := fun r c => by
  have h' := (h r c).step 128 (m' := (metaStep s v st).1 (ix2 r 0)) (by simp only [metaStep, metaMax_apply, hs])
  convert h' using 1
  · pointwise [metaStep, metaExp, metaMax_apply]
    simp only [hs]
  · pointwise [metaStep, metaExp, metaMax_apply]
    simp only [hs, hv]

/-- The loop over the tiles below the diagonal: a state that takes one tile per trip. -/
theorem seen_loop {n N : ℕ} {st : ℕ → St} (s : ℕ → FVec Ideal S256x256 .f32) (v : ℕ → FVec Ideal S256x128 .bf16)
    (h0 : SeenAll S V n (st 0)) (hst : ∀ t < N, st (t + 1) = tileStep (s t) (v t) (st t))
    (hs : ∀ t < N, ∀ r k, s t (ix2 r k) = S r (n + 256 * t + k.val)) (hv : ∀ t < N, ∀ k c, v t (ix2 k c) = V c (n + 256 * t + k.val)) :
    SeenAll S V (n + 256 * N) (st N) := by
  have : ∀ t ≤ N, SeenAll S V (n + 256 * t) (st t) := by
    intro t
    induction t with
    | zero => exact fun _ => h0
    | succ t ih =>
      intro ht
      rw [hst t ht]
      exact seen_tile (ih (by omega)) (hs t ht) (hv t ht)
  exact this N le_rfl

end Cert.KernelIdeal.Gen

end
-- ==== Proof.Head.lean ====
/-
  One head of the attention kernel: its scores and values as functions of the key's number, how its tiles are read out of the
  blocks, and what the running softmax holds after the prefix, the tiles below the diagonal and the tile on it.
-/
module

public import proofs.«01_k».proof.Proof.Step
public import Idealize.ShloMosaic.Lib.LoopRemainder

@[expose] public section

noncomputable section

namespace Cert.KernelIdeal.Gen

open Idealize.ShloMosaic Idealize.ShloMosaic.TcCoe Cert.Online
open Facts

/-- The entry of a `1 × n × w` block at row `a`, column `b`. -/
def at3 {n w : ℕ} (x : (⟨3, ![1, n, w]⟩ : Shape).Idx → EReal) (a b : ℕ) : EReal :=
  if h : a < n ∧ b < w then x (ix3 0 ⟨a, h.1⟩ ⟨b, h.2⟩) else 0

/-- The entry of an `n × w` block at row `a`, column `b`. -/
def at2 {n w : ℕ} (x : (⟨2, ![n, w]⟩ : Shape).Idx → EReal) (a b : ℕ) : EReal :=
  if h : a < n ∧ b < w then x (ix2 ⟨a, h.1⟩ ⟨b, h.2⟩) else 0

/-- A block with a leading axis of one, as a matrix. -/
theorem lead_read (y : Vec Ideal S1x256x128 .bf16) (r : Fin 256) (d : Fin 128) :
    shapeCast S256x128 y shapeCasts_S1x256x128_S256x128 (ix2 r d) = y (ix3 0 r d) := by
  pointwise

/-- A tile of 256 rows and 128 columns loaded at row `a`, column `b`, as a matrix. -/
theorem tile_read {n w : ℕ} (arg : Memref sig .tc .vmem ⟨3, ![1, n, w]⟩ .bf16) (harg : arg.IsWhole) (x : Vec Ideal ⟨3, ![1, n, w]⟩ .bf16)
    (off : Fin 3 → ℕ) (inb : ∀ a, off a + S1x256x128.size a ≤ (⟨3, ![1, n, w]⟩ : Shape).size a) {a b : ℕ} (h : off = ![0, a, b])
    (r : Fin 256) (d : Fin 128) :
    shapeCast S256x128 (View.readAt (Elt Ideal) arg.view (Rect.unit (s := ⟨3, ![1, n, w]⟩) off S1x256x128.size inb).toLoadRect (harg.unread x))
      shapeCasts_S1x256x128_S256x128 (ix2 r d) = at3 x (a + r.val) (b + d.val) := by
  subst h
  have h1 := inb 1
  have h2 := inb 2
  have e1 : (![0, a, b] : Fin 3 → ℕ) 1 = a := rfl
  have e2 : (![0, a, b] : Fin 3 → ℕ) 2 = b := rfl
  have e3 : S1x256x128.size 1 = 256 := rfl
  have e4 : S1x256x128.size 2 = 128 := rfl
  have e5 : (⟨3, ![1, n, w]⟩ : Shape).size 1 = n := rfl
  have e6 : (⟨3, ![1, n, w]⟩ : Shape).size 2 = w := rfl
  rw [e1, e3, e5] at h1
  rw [e2, e4, e6] at h2
  rw [lead_read, View.readAt_eq_ld, harg.read_unread]
  unfold at3
  rw [dif_pos ⟨by omega, by omega⟩]
  refine congrArg x (funext fun l => Fin.ext ?_)
  fin_cases l
  · rfl
  · exact congrArg (a + ·) (Nat.one_mul r.val)
  · exact congrArg (b + ·) (Nat.one_mul d.val)

/-- A tile of the prefix loaded at row `0`, column `b`. -/
theorem meta_read {w : ℕ} (arg : Memref sig .tc .vmem ⟨2, ![128, w]⟩ .bf16) (harg : arg.IsWhole) (x : Vec Ideal ⟨2, ![128, w]⟩ .bf16)
    (off : Fin 2 → ℕ) (inb : ∀ a, off a + S128x128.size a ≤ (⟨2, ![128, w]⟩ : Shape).size a) {b : ℕ} (h : off = ![0, b])
    (r : Fin 128) (d : Fin 128) :
    shapeCast S128x128 (View.readAt (Elt Ideal) arg.view (Rect.unit (s := ⟨2, ![128, w]⟩) off S128x128.size inb).toLoadRect (harg.unread x))
      shapeCasts_S128x128_S128x128 (ix2 r d) = at2 x r.val (b + d.val) := by
  subst h
  have h2 := inb 1
  have e2 : (![0, b] : Fin 2 → ℕ) 1 = b := rfl
  have e4 : S128x128.size 1 = 128 := rfl
  have e6 : (⟨2, ![128, w]⟩ : Shape).size 1 = w := rfl
  rw [e2, e4, e6] at h2
  rw [View.readAt_eq_ld, harg.read_unread]
  unfold at2
  rw [dif_pos ⟨by omega, by omega⟩]
  pointwise
  refine congrArg x (funext fun a => Fin.ext ?_)
  fin_cases a
  · exact Nat.zero_add _
  · rfl

section
variable (x0 : Vec Ideal S1x256x1024 .bf16) (x1 : Vec Ideal S1x2048x1024 .bf16) (x2 : Vec Ideal S1x2048x512 .bf16)
  (x3 : Vec Ideal S128x1024 .bf16) (x4 : Vec Ideal S128x512 .bf16) (i h : ℕ)

/-- Head `h`'s score of query `r` of query tile `i` and key `x`: the first 16 of 128 lanes are the prefix's keys, key `128 + k` is
    the sequence's key `k`, which counts where its chunk of 64 is not after the query's. -/
def score (r : Fin 256) (x : ℕ) : EReal :=
  if x < 128 then (if x < 16 then ∑ d : Fin 128, at3 x0 r.val (128 * h + d.val) * at2 x3 x (128 * h + d.val) else ⊥)
  else if (x - 128) / 64 ≤ (256 * i + r.val) / 64 then
    ∑ d : Fin 128, at3 x0 r.val (128 * h + d.val) * at3 x1 (x - 128) (128 * h + d.val) else ⊥

/-- Lane `c` of key `x`'s value, out of the 128 lanes that head `h` shares with its neighbour. -/
def value (c : Fin 128) (x : ℕ) : EReal :=
  if x < 128 then at2 x4 x (128 * (h / 2) + c.val) else at3 x2 (x - 128) (128 * (h / 2) + c.val)

variable {x0 x1 x2 x3 x4 i h}

/-- A head's state after its last tile has seen every key up to the diagonal tile's end. -/
theorem head_seen {q : FVec Ideal S256x128 .bf16} {km vm : FVec Ideal S128x128 .bf16} {st : ℕ → St} {kd vd : FVec Ideal S256x128 .bf16}
    (hq : ∀ r d, q (ix2 r d) = at3 x0 (0 + r.val) (128 * h + d.val)) (hkm : ∀ k d, km (ix2 k d) = at2 x3 k.val (128 * h + d.val))
    (hvm : ∀ k c, vm (ix2 k c) = at2 x4 k.val (128 * (h / 2) + c.val)) (h0 : st 0 = metaStep (metaScores q km) vm start)
    (hst : ∀ t < i, ∃ k v : FVec Ideal S256x128 .bf16, st (t + 1) = tileStep (tileScores q k) v (st t)
      ∧ (∀ r d, k (ix2 r d) = at3 x1 (256 * t + r.val) (128 * h + d.val)) ∧ ∀ r c, v (ix2 r c) = at3 x2 (256 * t + r.val) (128 * (h / 2) + c.val))
    (hkd : ∀ r d, kd (ix2 r d) = at3 x1 (256 * i + r.val) (128 * h + d.val))
    (hvd : ∀ r c, vd (ix2 r c) = at3 x2 (256 * i + r.val) (128 * (h / 2) + c.val)) :
    SeenAll (score x0 x1 x3 i h) (value x2 x4 h) (0 + 128 + 256 * i + 256) (tileStep (diagScores mask q kd) vd (st i)) := by
  simp only [Nat.zero_add] at hq
  refine seen_tile (seen_loop (fun t => if ht : t < i then tileScores q (hst t ht).choose else 0)
    (fun t => if ht : t < i then (hst t ht).choose_spec.choose else 0) ?_ ?_ ?_ ?_) ?_ ?_
  · rw [h0]
    refine seen_meta seen_start ?_ ?_
    · intro r k
      rw [metaScores_apply, score, if_pos (show 0 + k.val < 128 by omega)]
      simp only [Nat.zero_add, hq, hkm]
    · intro k c
      rw [hvm, value, if_pos (by omega), Nat.zero_add]
  · intro t ht
    rw [dif_pos ht, dif_pos ht]
    exact (hst t ht).choose_spec.choose_spec.1
  · intro t ht r k
    have hk := (hst t ht).choose_spec.choose_spec.2.1
    rw [dif_pos ht, tileScores_apply, score, if_neg (by omega), if_pos (by omega)]
    simp only [hq, hk]
    rw [show 0 + 128 + 256 * t + k.val - 128 = 256 * t + k.val by omega]
  · intro t ht k c
    have hv := (hst t ht).choose_spec.choose_spec.2.2
    rw [dif_pos ht, hv, value, if_neg (by omega)]
    rw [show 0 + 128 + 256 * t + k.val - 128 = 256 * t + k.val by omega]
  · intro r k
    rw [diagScores_apply, score, if_neg (show ¬ 0 + 128 + 256 * i + k.val < 128 by omega), show 0 + 128 + 256 * i + k.val - 128 = 256 * i + k.val by omega]
    simp only [hq, hkd]
    refine if_congr ?_ rfl rfl
    omega
  · intro k c
    rw [hvd, value, if_neg (by omega), show 0 + 128 + 256 * i + k.val - 128 = 256 * i + k.val by omega]

end

end Cert.KernelIdeal.Gen

end
-- ==== Proof.Heads.lean ====
/-
  The attention kernel's loads, tile by tile, and what the running triple of each head has seen when the last tile is done.
-/
module

public import proofs.«01_k».proof.Proof.Head
public import proofs.«01_k».proof.Proof.Gen.KernelIdeal.Value

@[expose] public section

noncomputable section

namespace Cert.KernelIdeal.Gen

open Idealize.ShloMosaic Idealize.ShloMosaic.TcCoe Idealize.SL.Sem Idealize.ShloMosaic.Tactic Cert.Online
open Facts

/-- The loop over the tiles below the diagonal runs once for each of them. -/
theorem lower_trips (n : Fin 8) :
    Scf.trips 0#32 (Scalar.addi 0#32 (Scalar.muli (Scalar.divsi (Scalar.subi (BitVec.ofNat 32 n.val) 0#32) 1#32) 1#32)) 1#32 = n.val := by
  revert n; decide

/-- The place of a trip's tile. -/
theorem trip_off (k c : ℕ) (h : k < 8) :
    (![0, (Scalar.indexCast (Scalar.muli (Scf.iv 0#32 1#32 k) 256#32)).toNat, c] : Fin 3 → ℕ) = ![0, 256 * k, c] := by
  have : (Scalar.indexCast (Scalar.muli (Scf.iv 0#32 1#32 k) 256#32)).toNat = 256 * k := by
    interval_cases k <;> rfl
  rw [this]

/-- The place of the diagonal's tile. -/
theorem diag_off (n : Fin 8) (c : ℕ) :
    (![0, (Scalar.indexCast (Scalar.muli (BitVec.ofNat 32 n.val) 256#32)).toNat, c] : Fin 3 → ℕ) = ![0, 256 * n.val, c] := by
  have : (Scalar.indexCast (Scalar.muli (BitVec.ofNat 32 n.val) 256#32)).toNat = 256 * n.val := by
    revert n; decide
  rw [this]

/-- Queries of one head: a load at column `b`. -/
theorem query_read (arg : Memref sig .tc .vmem S1x256x1024 .bf16) (harg : arg.IsWhole) (x : Vec Ideal S1x256x1024 .bf16) (b : ℕ)
    (inb : ∀ a, (![0, 0, b] : Fin 3 → ℕ) a + S1x256x128.size a ≤ S1x256x1024.size a) (r : Fin 256) (d : Fin 128) :
    shapeCast S256x128 (View.readAt (Elt Ideal) arg.view (Rect.unit (s := S1x256x1024) ![0, 0, b] S1x256x128.size inb).toLoadRect (harg.unread x))
      shapeCasts_S1x256x128_S256x128 (ix2 r d) = at3 x (0 + r.val) (b + d.val) :=
  tile_read arg harg x _ inb rfl r d

section
variable (c : Dev nD) (i : grid0.Coords) (arg2 : Memref sig .tc .vmem S1x256x1024 .bf16) (harg2 : arg2.IsWhole)
    (arg3 : Memref sig .tc .vmem S1x2048x1024 .bf16) (harg3 : arg3.IsWhole) (arg4 : Memref sig .tc .vmem S1x2048x512 .bf16) (harg4 : arg4.IsWhole)
    (arg5 : Memref sig .tc .vmem S128x1024 .bf16) (harg5 : arg5.IsWhole) (arg6 : Memref sig .tc .vmem S128x512 .bf16) (harg6 : arg6.IsWhole)
    (arg7 : Memref sig .tc .vmem S1x512 .f32) (harg7 : arg7.IsWhole) (arg8 : Memref sig .tc .vmem S1x256x512 .bf16) (harg8 : arg8.IsWhole)
    (x0 : Vec Ideal S1x256x1024 .bf16) (x1 : Vec Ideal S1x2048x1024 .bf16) (x2 : Vec Ideal S1x2048x512 .bf16) (x3 : Vec Ideal S128x1024 .bf16)
    (x4 : Vec Ideal S128x512 .bf16)

/-- What the state of head `h` has seen at the end, its maxima left out. -/
def HeadSeen (h : ℕ) (l : FVec Ideal S256x1 .f32) (a : FVec Ideal S256x128 .f32) : Prop :=
  ∃ m, SeenAll (score x0 x1 x3 (i 1).val h) (value x2 x4 h) (0 + 128 + 256 * (i 1).val + 256) (m, l, a)

/-- Head zero's sums and accumulated values have seen every key. -/
theorem head0 : HeadSeen i x0 x1 x2 x3 x4 0
    (kernelRun0_A.sl.r_5 c i arg2 harg2 arg3 harg3 arg4 harg4 arg5 harg5 arg6 harg6 arg7 harg7 arg8 harg8 x0 x1 x2 x3 x4)
    (kernelRun0_A.sl.r_6 c i arg2 harg2 arg3 harg3 arg4 harg4 arg5 harg5 arg6 harg6 arg7 harg7 arg8 harg8 x0 x1 x2 x3 x4) := by
  unfold kernelRun0_A.sl.r_5 kernelRun0_A.sl.r_6
  have h1 : Scf.trips (k0_t1_loop i).lb (k0_t1_loop i).ub (k0_t1_loop i).st = (i 1).val := lower_trips (i 1)
  have h2 : Scf.trips (k0_t2_loop i).lb (k0_t2_loop i).ub (k0_t2_loop i).st = 0 := Scf.rem_trips _ _
  rw [h2]
  simp only [st_k0_t2_zero, Prod.mk.eta]
  rw [h1]
  refine ⟨_, head_seen (st := st_k0_t1 .none c none i arg2 harg2 arg3 harg3 arg4 harg4 arg5 harg5 arg6 harg6 arg7 harg7 arg8 harg8
    _ _ _ _ _ _ _ _ _ _ _ _) (km := ?_) (vm := ?_) ?_ ?_ ?_ ?_ ?_ ?_ ?_⟩
  rotate_left 5
  · rfl
  · intro t ht
    refine ⟨_, _, (st_k0_t1_succ (F := Ideal) .none c none i arg2 harg2 arg3 harg3 arg4 harg4 arg5 harg5 arg6 harg6 arg7 harg7 arg8 harg8
      _ _ _ _ _ _ _ _ _ _ _ _ ⟨t, lt_of_lt_of_eq ht h1.symm⟩).trans (by unfold tripR_k0_t1 trip_k0_t1; rfl),
      tile_read arg3 harg3 x1 _ _ (trip_off t _ (ht.trans (i 1).isLt)), tile_read arg4 harg4 x2 _ _ (trip_off t _ (ht.trans (i 1).isLt))⟩
  · exact tile_read arg3 harg3 x1 _ _ (diag_off (i 1) _)
  · exact tile_read arg4 harg4 x2 _ _ (diag_off (i 1) _)
  · exact query_read arg2 harg2 x0 _ _
  · exact meta_read arg5 harg5 x3 _ _ rfl
  · exact meta_read arg6 harg6 x4 _ _ rfl

/-- Head one's sums and accumulated values have seen every key. -/
theorem head1 : HeadSeen i x0 x1 x2 x3 x4 1
    (kernelRun0_A.sl.r_15 c i arg2 harg2 arg3 harg3 arg4 harg4 arg5 harg5 arg6 harg6 arg7 harg7 arg8 harg8 x0 x1 x2 x3 x4)
    (kernelRun0_A.sl.r_16 c i arg2 harg2 arg3 harg3 arg4 harg4 arg5 harg5 arg6 harg6 arg7 harg7 arg8 harg8 x0 x1 x2 x3 x4) := by
  unfold kernelRun0_A.sl.r_15 kernelRun0_A.sl.r_16 kernelRun0_A.sl.r_14 kernelRun0_A.sl.r_13 kernelRun0_A.sl.r_12 kernelRun0_A.sl.r_9 kernelRun0_A.sl.r_10 kernelRun0_A.sl.r_11
  have h1 : Scf.trips (k0_t3_loop i).lb (k0_t3_loop i).ub (k0_t3_loop i).st = (i 1).val := lower_trips (i 1)
  have h2 : Scf.trips (k0_t4_loop i).lb (k0_t4_loop i).ub (k0_t4_loop i).st = 0 := Scf.rem_trips _ _
  rw [h2]
  simp only [st_k0_t4_zero, Prod.mk.eta]
  rw [h1]
  refine ⟨_, head_seen (st := st_k0_t3 .none c none i arg2 harg2 arg3 harg3 arg4 harg4 arg5 harg5 arg6 harg6 arg7 harg7 arg8 harg8
    _ _ _ _ _ _ _ _ _ _ _) (km := ?_) (vm := ?_) ?_ ?_ ?_ ?_ ?_ ?_ ?_⟩
  rotate_left 5
  · rfl
  · intro t ht
    refine ⟨_, _, (st_k0_t3_succ (F := Ideal) .none c none i arg2 harg2 arg3 harg3 arg4 harg4 arg5 harg5 arg6 harg6 arg7 harg7 arg8 harg8
      _ _ _ _ _ _ _ _ _ _ _ ⟨t, lt_of_lt_of_eq ht h1.symm⟩).trans (by unfold tripR_k0_t3 trip_k0_t3; rfl),
      tile_read arg3 harg3 x1 _ _ (trip_off t _ (ht.trans (i 1).isLt)), tile_read arg4 harg4 x2 _ _ (trip_off t _ (ht.trans (i 1).isLt))⟩
  · exact tile_read arg3 harg3 x1 _ _ (diag_off (i 1) _)
  · exact tile_read arg4 harg4 x2 _ _ (diag_off (i 1) _)
  · exact query_read arg2 harg2 x0 _ _
  · exact meta_read arg5 harg5 x3 _ _ rfl
  · exact meta_read arg6 harg6 x4 _ _ rfl

/-- Head two's sums and accumulated values have seen every key. -/
theorem head2 : HeadSeen i x0 x1 x2 x3 x4 2
    (kernelRun0_A.sl.r_22 c i arg2 harg2 arg3 harg3 arg4 harg4 arg5 harg5 arg6 harg6 arg7 harg7 arg8 harg8 x0 x1 x2 x3 x4)
    (kernelRun0_A.sl.r_23 c i arg2 harg2 arg3 harg3 arg4 harg4 arg5 harg5 arg6 harg6 arg7 harg7 arg8 harg8 x0 x1 x2 x3 x4) := by
  unfold kernelRun0_A.sl.r_22 kernelRun0_A.sl.r_23
  have h1 : Scf.trips (k0_t5_loop i).lb (k0_t5_loop i).ub (k0_t5_loop i).st = (i 1).val := lower_trips (i 1)
  have h2 : Scf.trips (k0_t6_loop i).lb (k0_t6_loop i).ub (k0_t6_loop i).st = 0 := Scf.rem_trips _ _
  rw [h2]
  simp only [st_k0_t6_zero, Prod.mk.eta]
  rw [h1]
  refine ⟨_, head_seen (st := st_k0_t5 .none c none i arg2 harg2 arg3 harg3 arg4 harg4 arg5 harg5 arg6 harg6 arg7 harg7 arg8 harg8
    _ _ _ _ _ _ _ _ _ _) (km := ?_) (vm := ?_) ?_ ?_ ?_ ?_ ?_ ?_ ?_⟩
  rotate_left 5
  · rfl
  · intro t ht
    refine ⟨_, _, (st_k0_t5_succ (F := Ideal) .none c none i arg2 harg2 arg3 harg3 arg4 harg4 arg5 harg5 arg6 harg6 arg7 harg7 arg8 harg8
      _ _ _ _ _ _ _ _ _ _ ⟨t, lt_of_lt_of_eq ht h1.symm⟩).trans (by unfold tripR_k0_t5 trip_k0_t5; rfl),
      tile_read arg3 harg3 x1 _ _ (trip_off t _ (ht.trans (i 1).isLt)), tile_read arg4 harg4 x2 _ _ (trip_off t _ (ht.trans (i 1).isLt))⟩
  · exact tile_read arg3 harg3 x1 _ _ (diag_off (i 1) _)
  · exact tile_read arg4 harg4 x2 _ _ (diag_off (i 1) _)
  · exact query_read arg2 harg2 x0 _ _
  · exact meta_read arg5 harg5 x3 _ _ rfl
  · exact meta_read arg6 harg6 x4 _ _ rfl

/-- Head three's sums and accumulated values have seen every key. -/
theorem head3 : HeadSeen i x0 x1 x2 x3 x4 3
    (kernelRun0_A.sl.r_30 c i arg2 harg2 arg3 harg3 arg4 harg4 arg5 harg5 arg6 harg6 arg7 harg7 arg8 harg8 x0 x1 x2 x3 x4)
    (kernelRun0_A.sl.r_31 c i arg2 harg2 arg3 harg3 arg4 harg4 arg5 harg5 arg6 harg6 arg7 harg7 arg8 harg8 x0 x1 x2 x3 x4) := by
  unfold kernelRun0_A.sl.r_30 kernelRun0_A.sl.r_31 kernelRun0_A.sl.r_29 kernelRun0_A.sl.r_28 kernelRun0_A.sl.r_25 kernelRun0_A.sl.r_26 kernelRun0_A.sl.r_27
  have h1 : Scf.trips (k0_t7_loop i).lb (k0_t7_loop i).ub (k0_t7_loop i).st = (i 1).val := lower_trips (i 1)
  have h2 : Scf.trips (k0_t8_loop i).lb (k0_t8_loop i).ub (k0_t8_loop i).st = 0 := Scf.rem_trips _ _
  rw [h2]
  simp only [st_k0_t8_zero, Prod.mk.eta]
  rw [h1]
  refine ⟨_, head_seen (st := st_k0_t7 .none c none i arg2 harg2 arg3 harg3 arg4 harg4 arg5 harg5 arg6 harg6 arg7 harg7 arg8 harg8
    _ _ _ _ _ _ _ _ _) (km := ?_) (vm := ?_) ?_ ?_ ?_ ?_ ?_ ?_ ?_⟩
  rotate_left 5
  · rfl
  · intro t ht
    refine ⟨_, _, (st_k0_t7_succ (F := Ideal) .none c none i arg2 harg2 arg3 harg3 arg4 harg4 arg5 harg5 arg6 harg6 arg7 harg7 arg8 harg8
      _ _ _ _ _ _ _ _ _ ⟨t, lt_of_lt_of_eq ht h1.symm⟩).trans (by unfold tripR_k0_t7 trip_k0_t7; rfl),
      tile_read arg3 harg3 x1 _ _ (trip_off t _ (ht.trans (i 1).isLt)), tile_read arg4 harg4 x2 _ _ (trip_off t _ (ht.trans (i 1).isLt))⟩
  · exact tile_read arg3 harg3 x1 _ _ (diag_off (i 1) _)
  · exact tile_read arg4 harg4 x2 _ _ (diag_off (i 1) _)
  · exact query_read arg2 harg2 x0 _ _
  · exact meta_read arg5 harg5 x3 _ _ rfl
  · exact meta_read arg6 harg6 x4 _ _ rfl

/-- Head four's sums and accumulated values have seen every key. -/
theorem head4 : HeadSeen i x0 x1 x2 x3 x4 4
    (kernelRun0_A.sl.r_39 c i arg2 harg2 arg3 harg3 arg4 harg4 arg5 harg5 arg6 harg6 arg7 harg7 arg8 harg8 x0 x1 x2 x3 x4)
    (kernelRun0_A.sl.r_40 c i arg2 harg2 arg3 harg3 arg4 harg4 arg5 harg5 arg6 harg6 arg7 harg7 arg8 harg8 x0 x1 x2 x3 x4) := by
  unfold kernelRun0_A.sl.r_39 kernelRun0_A.sl.r_40
  have h1 : Scf.trips (k0_t9_loop i).lb (k0_t9_loop i).ub (k0_t9_loop i).st = (i 1).val := lower_trips (i 1)
  have h2 : Scf.trips (k0_t10_loop i).lb (k0_t10_loop i).ub (k0_t10_loop i).st = 0 := Scf.rem_trips _ _
  rw [h2]
  simp only [st_k0_t10_zero, Prod.mk.eta]
  rw [h1]
  refine ⟨_, head_seen (st := st_k0_t9 .none c none i arg2 harg2 arg3 harg3 arg4 harg4 arg5 harg5 arg6 harg6 arg7 harg7 arg8 harg8
    _ _ _ _ _ _ _ _ _ _ _ _ _) (km := ?_) (vm := ?_) ?_ ?_ ?_ ?_ ?_ ?_ ?_⟩
  rotate_left 5
  · rfl
  · intro t ht
    refine ⟨_, _, (st_k0_t9_succ (F := Ideal) .none c none i arg2 harg2 arg3 harg3 arg4 harg4 arg5 harg5 arg6 harg6 arg7 harg7 arg8 harg8
      _ _ _ _ _ _ _ _ _ _ _ _ _ ⟨t, lt_of_lt_of_eq ht h1.symm⟩).trans (by unfold tripR_k0_t9 trip_k0_t9; rfl),
      tile_read arg3 harg3 x1 _ _ (trip_off t _ (ht.trans (i 1).isLt)), tile_read arg4 harg4 x2 _ _ (trip_off t _ (ht.trans (i 1).isLt))⟩
  · exact tile_read arg3 harg3 x1 _ _ (diag_off (i 1) _)
  · exact tile_read arg4 harg4 x2 _ _ (diag_off (i 1) _)
  · exact query_read arg2 harg2 x0 _ _
  · exact meta_read arg5 harg5 x3 _ _ rfl
  · exact meta_read arg6 harg6 x4 _ _ rfl

/-- Head five's sums and accumulated values have seen every key. -/
theorem head5 : HeadSeen i x0 x1 x2 x3 x4 5
    (kernelRun0_A.sl.r_47 c i arg2 harg2 arg3 harg3 arg4 harg4 arg5 harg5 arg6 harg6 arg7 harg7 arg8 harg8 x0 x1 x2 x3 x4)
    (kernelRun0_A.sl.r_48 c i arg2 harg2 arg3 harg3 arg4 harg4 arg5 harg5 arg6 harg6 arg7 harg7 arg8 harg8 x0 x1 x2 x3 x4) := by
  unfold kernelRun0_A.sl.r_47 kernelRun0_A.sl.r_48 kernelRun0_A.sl.r_46 kernelRun0_A.sl.r_43 kernelRun0_A.sl.r_44 kernelRun0_A.sl.r_45
  have h1 : Scf.trips (k0_t11_loop i).lb (k0_t11_loop i).ub (k0_t11_loop i).st = (i 1).val := lower_trips (i 1)
  have h2 : Scf.trips (k0_t12_loop i).lb (k0_t12_loop i).ub (k0_t12_loop i).st = 0 := Scf.rem_trips _ _
  rw [h2]
  simp only [st_k0_t12_zero, Prod.mk.eta]
  rw [h1]
  refine ⟨_, head_seen (st := st_k0_t11 .none c none i arg2 harg2 arg3 harg3 arg4 harg4 arg5 harg5 arg6 harg6 arg7 harg7 arg8 harg8
    _ _ _ _ _ _) (km := ?_) (vm := ?_) ?_ ?_ ?_ ?_ ?_ ?_ ?_⟩
  rotate_left 5
  · rfl
  · intro t ht
    refine ⟨_, _, (st_k0_t11_succ (F := Ideal) .none c none i arg2 harg2 arg3 harg3 arg4 harg4 arg5 harg5 arg6 harg6 arg7 harg7 arg8 harg8
      _ _ _ _ _ _ ⟨t, lt_of_lt_of_eq ht h1.symm⟩).trans (by unfold tripR_k0_t11 trip_k0_t11; rfl),
      tile_read arg3 harg3 x1 _ _ (trip_off t _ (ht.trans (i 1).isLt)), tile_read arg4 harg4 x2 _ _ (trip_off t _ (ht.trans (i 1).isLt))⟩
  · exact tile_read arg3 harg3 x1 _ _ (diag_off (i 1) _)
  · exact tile_read arg4 harg4 x2 _ _ (diag_off (i 1) _)
  · exact query_read arg2 harg2 x0 _ _
  · exact meta_read arg5 harg5 x3 _ _ rfl
  · exact meta_read arg6 harg6 x4 _ _ rfl

/-- Head six's sums and accumulated values have seen every key. -/
theorem head6 : HeadSeen i x0 x1 x2 x3 x4 6
    (kernelRun0_A.sl.r_56 c i arg2 harg2 arg3 harg3 arg4 harg4 arg5 harg5 arg6 harg6 arg7 harg7 arg8 harg8 x0 x1 x2 x3 x4)
    (kernelRun0_A.sl.r_59 c i arg2 harg2 arg3 harg3 arg4 harg4 arg5 harg5 arg6 harg6 arg7 harg7 arg8 harg8 x0 x1 x2 x3 x4) := by
  unfold kernelRun0_A.sl.r_56 kernelRun0_A.sl.r_59 kernelRun0_A.sl.r_58 kernelRun0_A.sl.r_57 kernelRun0_A.sl.r_55
  have h1 : Scf.trips (k0_t13_loop i).lb (k0_t13_loop i).ub (k0_t13_loop i).st = (i 1).val := lower_trips (i 1)
  have h2 : Scf.trips (k0_t14_loop i).lb (k0_t14_loop i).ub (k0_t14_loop i).st = 0 := Scf.rem_trips _ _
  rw [h2]
  simp only [st_k0_t14_zero, Prod.mk.eta]
  rw [h1]
  refine ⟨_, head_seen (st := st_k0_t13 .none c none i arg2 harg2 arg3 harg3 arg4 harg4 arg5 harg5 arg6 harg6 arg7 harg7 arg8 harg8
    _ _ _ _ _ _ _ _ _ _ _ _ _) (km := ?_) (vm := ?_) ?_ ?_ ?_ ?_ ?_ ?_ ?_⟩
  rotate_left 5
  · rfl
  · intro t ht
    refine ⟨_, _, (st_k0_t13_succ (F := Ideal) .none c none i arg2 harg2 arg3 harg3 arg4 harg4 arg5 harg5 arg6 harg6 arg7 harg7 arg8 harg8
      _ _ _ _ _ _ _ _ _ _ _ _ _ ⟨t, lt_of_lt_of_eq ht h1.symm⟩).trans (by unfold tripR_k0_t13 trip_k0_t13; rfl),
      tile_read arg3 harg3 x1 _ _ (trip_off t _ (ht.trans (i 1).isLt)), tile_read arg4 harg4 x2 _ _ (trip_off t _ (ht.trans (i 1).isLt))⟩
  · exact tile_read arg3 harg3 x1 _ _ (diag_off (i 1) _)
  · exact tile_read arg4 harg4 x2 _ _ (diag_off (i 1) _)
  · exact query_read arg2 harg2 x0 _ _
  · exact meta_read arg5 harg5 x3 _ _ rfl
  · exact meta_read arg6 harg6 x4 _ _ rfl

/-- Head seven's sums and accumulated values have seen every key. -/
theorem head7 : HeadSeen i x0 x1 x2 x3 x4 7
    (kernelRun0_A.sl.r_64 c i arg2 harg2 arg3 harg3 arg4 harg4 arg5 harg5 arg6 harg6 arg7 harg7 arg8 harg8 x0 x1 x2 x3 x4)
    (kernelRun0_A.sl.r_65 c i arg2 harg2 arg3 harg3 arg4 harg4 arg5 harg5 arg6 harg6 arg7 harg7 arg8 harg8 x0 x1 x2 x3 x4) := by
  unfold kernelRun0_A.sl.r_64 kernelRun0_A.sl.r_65 kernelRun0_A.sl.r_61 kernelRun0_A.sl.r_62 kernelRun0_A.sl.r_63
  have h1 : Scf.trips (k0_t15_loop i).lb (k0_t15_loop i).ub (k0_t15_loop i).st = (i 1).val := lower_trips (i 1)
  have h2 : Scf.trips (k0_t16_loop i).lb (k0_t16_loop i).ub (k0_t16_loop i).st = 0 := Scf.rem_trips _ _
  rw [h2]
  simp only [st_k0_t16_zero, Prod.mk.eta]
  rw [h1]
  refine ⟨_, head_seen (st := st_k0_t15 .none c none i arg2 harg2 arg3 harg3 arg4 harg4 arg5 harg5 arg6 harg6 arg7 harg7 arg8 harg8
    _ _ _ _ _ _ _ _ _ _) (km := ?_) (vm := ?_) ?_ ?_ ?_ ?_ ?_ ?_ ?_⟩
  rotate_left 5
  · rfl
  · intro t ht
    refine ⟨_, _, (st_k0_t15_succ (F := Ideal) .none c none i arg2 harg2 arg3 harg3 arg4 harg4 arg5 harg5 arg6 harg6 arg7 harg7 arg8 harg8
      _ _ _ _ _ _ _ _ _ _ ⟨t, lt_of_lt_of_eq ht h1.symm⟩).trans (by unfold tripR_k0_t15 trip_k0_t15; rfl),
      tile_read arg3 harg3 x1 _ _ (trip_off t _ (ht.trans (i 1).isLt)), tile_read arg4 harg4 x2 _ _ (trip_off t _ (ht.trans (i 1).isLt))⟩
  · exact tile_read arg3 harg3 x1 _ _ (diag_off (i 1) _)
  · exact tile_read arg4 harg4 x2 _ _ (diag_off (i 1) _)
  · exact query_read arg2 harg2 x0 _ _
  · exact meta_read arg5 harg5 x3 _ _ rfl
  · exact meta_read arg6 harg6 x4 _ _ rfl

end

end Cert.KernelIdeal.Gen

end
-- ==== Proof.Attn.lean ====
/-
  One run of the attention kernel's body: every column of its output block as a formula over the heads' sums and accumulated values.
-/
module

public import proofs.«01_k».proof.Proof.Heads

@[expose] public section

noncomputable section

namespace Cert.KernelIdeal.Gen

open Idealize.ShloMosaic Idealize.ShloMosaic.TcCoe Idealize.SL.Sem Idealize.ShloMosaic.Tactic Cert.Online
open Facts

/-- Query `r`'s attention output in column `n`, from the sums and accumulated values of the eight heads. -/
def headOut (l : Fin 8 → FVec Ideal S256x1 .f32) (a : Fin 8 → FVec Ideal S256x128 .f32) (r : Fin 256) (n : Fin 512) : EReal :=
  Ideal.div (a ⟨n.val / 64, by omega⟩ (ix2 r ⟨n.val % 128, by omega⟩)) (l ⟨n.val / 64, by omega⟩ (ix2 r 0))

/-- `headOut` at a head and a lane given by their numbers. -/
theorem headOut_eq {l : Fin 8 → FVec Ideal S256x1 .f32} {a : Fin 8 → FVec Ideal S256x128 .f32} {r : Fin 256} {n : Fin 512} (h : Fin 8) (k : Fin 128)
    (hh : n.val / 64 = h.val) (hk : n.val % 128 = k.val) : headOut l a r n = Ideal.div (a h (ix2 r k)) (l h (ix2 r 0)) := by
  unfold headOut
  rw [show (⟨n.val / 64, by omega⟩ : Fin 8) = h from Fin.ext hh, show (⟨n.val % 128, by omega⟩ : Fin 128) = k from Fin.ext hk]

/-- The choice between two neighbouring heads, by the lane's half. -/
theorem lane_select (k : ℕ) (hk : k < 128) (p q : EReal) :
    Scalar.select (IntOp.cmpi CmpIPredicate.slt (BitVec.ofNat 32 k) 64#32) p q = if k < 64 then p else q := by
  interval_cases k <;> rfl

/-- The gathered heads, normalized by their root mean square. -/
theorem gathered (l : Fin 8 → FVec Ideal S256x1 .f32) (a : Fin 8 → FVec Ideal S256x128 .f32) (g : FVec Ideal S1x512 .f32) (r : Fin 256) (n : Fin 512) :
    k0_pay1 (l 6) (a 6) (l 7) (a 7) g (iota .tc S256x128 32 [1] iota_S256x128_d1_w32) (k0_pay238 (l 0) (a 0) (l 1) (a 1))
      (k0_pay239 (l 2) (a 2) (l 3) (a 3)) (k0_pay240 (l 4) (a 4)) (k0_pay241 (l 5) (a 5)) (ix3 0 r n)
      = headOut l a r n * Ideal.rsqrt (Ideal.div (∑ m, headOut l a r m * headOut l a r m) (Ideal.ofBits .f32 0x44000000#32)
          + Ideal.ofBits .f32 0x358637BD#32) * g (ix2 0 n) := by
  have key : ∀ n : Fin 512, concatenate S256x512 1 [⟨S256x128, k0_pay238 (l 0) (a 0) (l 1) (a 1)⟩, ⟨S256x128, k0_pay239 (l 2) (a 2) (l 3) (a 3)⟩,
      ⟨S256x128, k0_pay238 (l 4) (a 4) (l 5) (a 5)⟩, ⟨S256x128, k0_pay238 (l 6) (a 6) (l 7) (a 7)⟩]
      concatenates_S256x128_S256x128_S256x128_S256x128_S256x512_d1 (ix2 r n) = headOut l a r n := by
    intro n
    pointwise [k0_pay238, k0_pay239]
    split_ifs
    all_goals rw [lane_select _ (by omega)]; split_ifs
    all_goals symm
    all_goals first
      | exact headOut_eq 0 _ (show n.val / 64 = 0 by omega) (by dsimp only; omega)
      | exact headOut_eq 1 _ (show n.val / 64 = 1 by omega) (by dsimp only; omega)
      | exact headOut_eq 2 _ (show n.val / 64 = 2 by omega) (by dsimp only; omega)
      | exact headOut_eq 3 _ (show n.val / 64 = 3 by omega) (by dsimp only; omega)
      | exact headOut_eq 4 _ (show n.val / 64 = 4 by omega) (by dsimp only; omega)
      | exact headOut_eq 5 _ (show n.val / 64 = 5 by omega) (by dsimp only; omega)
      | exact headOut_eq 6 _ (show n.val / 64 = 6 by omega) (by dsimp only; omega)
      | exact headOut_eq 7 _ (show n.val / 64 = 7 by omega) (by dsimp only; omega)
  simp only [← key]
  pointwise [k0_pay1, k0_pay238, k0_pay239, k0_pay240, k0_pay241]

section
variable (c : Dev nD) (i : grid0.Coords) (arg2 : Memref sig .tc .vmem S1x256x1024 .bf16) (harg2 : arg2.IsWhole)
    (arg3 : Memref sig .tc .vmem S1x2048x1024 .bf16) (harg3 : arg3.IsWhole) (arg4 : Memref sig .tc .vmem S1x2048x512 .bf16) (harg4 : arg4.IsWhole)
    (arg5 : Memref sig .tc .vmem S128x1024 .bf16) (harg5 : arg5.IsWhole) (arg6 : Memref sig .tc .vmem S128x512 .bf16) (harg6 : arg6.IsWhole)
    (arg7 : Memref sig .tc .vmem S1x512 .f32) (harg7 : arg7.IsWhole) (arg8 : Memref sig .tc .vmem S1x256x512 .bf16) (harg8 : arg8.IsWhole)
    (x0 : Vec Ideal S1x256x1024 .bf16) (x1 : Vec Ideal S1x2048x1024 .bf16) (x2 : Vec Ideal S1x2048x512 .bf16) (x3 : Vec Ideal S128x1024 .bf16)
    (x4 : Vec Ideal S128x512 .bf16) (x5 : Vec Ideal S1x512 .f32)

/-- The sums the body's heads end with. -/
def lastSums : Fin 8 → FVec Ideal S256x1 .f32 :=
  ![kernelRun0_A.sl.r_5 c i arg2 harg2 arg3 harg3 arg4 harg4 arg5 harg5 arg6 harg6 arg7 harg7 arg8 harg8 x0 x1 x2 x3 x4, kernelRun0_A.sl.r_15 c i arg2 harg2 arg3 harg3 arg4 harg4 arg5 harg5 arg6 harg6 arg7 harg7 arg8 harg8 x0 x1 x2 x3 x4, kernelRun0_A.sl.r_22 c i arg2 harg2 arg3 harg3 arg4 harg4 arg5 harg5 arg6 harg6 arg7 harg7 arg8 harg8 x0 x1 x2 x3 x4, kernelRun0_A.sl.r_30 c i arg2 harg2 arg3 harg3 arg4 harg4 arg5 harg5 arg6 harg6 arg7 harg7 arg8 harg8 x0 x1 x2 x3 x4, kernelRun0_A.sl.r_39 c i arg2 harg2 arg3 harg3 arg4 harg4 arg5 harg5 arg6 harg6 arg7 harg7 arg8 harg8 x0 x1 x2 x3 x4, kernelRun0_A.sl.r_47 c i arg2 harg2 arg3 harg3 arg4 harg4 arg5 harg5 arg6 harg6 arg7 harg7 arg8 harg8 x0 x1 x2 x3 x4, kernelRun0_A.sl.r_56 c i arg2 harg2 arg3 harg3 arg4 harg4 arg5 harg5 arg6 harg6 arg7 harg7 arg8 harg8 x0 x1 x2 x3 x4, kernelRun0_A.sl.r_64 c i arg2 harg2 arg3 harg3 arg4 harg4 arg5 harg5 arg6 harg6 arg7 harg7 arg8 harg8 x0 x1 x2 x3 x4]

/-- The accumulated values the body's heads end with. -/
def lastAccs : Fin 8 → FVec Ideal S256x128 .f32 :=
  ![kernelRun0_A.sl.r_6 c i arg2 harg2 arg3 harg3 arg4 harg4 arg5 harg5 arg6 harg6 arg7 harg7 arg8 harg8 x0 x1 x2 x3 x4, kernelRun0_A.sl.r_16 c i arg2 harg2 arg3 harg3 arg4 harg4 arg5 harg5 arg6 harg6 arg7 harg7 arg8 harg8 x0 x1 x2 x3 x4, kernelRun0_A.sl.r_23 c i arg2 harg2 arg3 harg3 arg4 harg4 arg5 harg5 arg6 harg6 arg7 harg7 arg8 harg8 x0 x1 x2 x3 x4, kernelRun0_A.sl.r_31 c i arg2 harg2 arg3 harg3 arg4 harg4 arg5 harg5 arg6 harg6 arg7 harg7 arg8 harg8 x0 x1 x2 x3 x4, kernelRun0_A.sl.r_40 c i arg2 harg2 arg3 harg3 arg4 harg4 arg5 harg5 arg6 harg6 arg7 harg7 arg8 harg8 x0 x1 x2 x3 x4, kernelRun0_A.sl.r_48 c i arg2 harg2 arg3 harg3 arg4 harg4 arg5 harg5 arg6 harg6 arg7 harg7 arg8 harg8 x0 x1 x2 x3 x4, kernelRun0_A.sl.r_59 c i arg2 harg2 arg3 harg3 arg4 harg4 arg5 harg5 arg6 harg6 arg7 harg7 arg8 harg8 x0 x1 x2 x3 x4, kernelRun0_A.sl.r_65 c i arg2 harg2 arg3 harg3 arg4 harg4 arg5 harg5 arg6 harg6 arg7 harg7 arg8 harg8 x0 x1 x2 x3 x4]

/-- Each head's end state has seen every key of its queries. -/
theorem last_seen (h : Fin 8) : HeadSeen i x0 x1 x2 x3 x4 h.val
    (lastSums c i arg2 harg2 arg3 harg3 arg4 harg4 arg5 harg5 arg6 harg6 arg7 harg7 arg8 harg8 x0 x1 x2 x3 x4 h)
    (lastAccs c i arg2 harg2 arg3 harg3 arg4 harg4 arg5 harg5 arg6 harg6 arg7 harg7 arg8 harg8 x0 x1 x2 x3 x4 h) := by
  fin_cases h
  · exact head0 c i arg2 harg2 arg3 harg3 arg4 harg4 arg5 harg5 arg6 harg6 arg7 harg7 arg8 harg8 x0 x1 x2 x3 x4
  · exact head1 c i arg2 harg2 arg3 harg3 arg4 harg4 arg5 harg5 arg6 harg6 arg7 harg7 arg8 harg8 x0 x1 x2 x3 x4
  · exact head2 c i arg2 harg2 arg3 harg3 arg4 harg4 arg5 harg5 arg6 harg6 arg7 harg7 arg8 harg8 x0 x1 x2 x3 x4
  · exact head3 c i arg2 harg2 arg3 harg3 arg4 harg4 arg5 harg5 arg6 harg6 arg7 harg7 arg8 harg8 x0 x1 x2 x3 x4
  · exact head4 c i arg2 harg2 arg3 harg3 arg4 harg4 arg5 harg5 arg6 harg6 arg7 harg7 arg8 harg8 x0 x1 x2 x3 x4
  · exact head5 c i arg2 harg2 arg3 harg3 arg4 harg4 arg5 harg5 arg6 harg6 arg7 harg7 arg8 harg8 x0 x1 x2 x3 x4
  · exact head6 c i arg2 harg2 arg3 harg3 arg4 harg4 arg5 harg5 arg6 harg6 arg7 harg7 arg8 harg8 x0 x1 x2 x3 x4
  · exact head7 c i arg2 harg2 arg3 harg3 arg4 harg4 arg5 harg5 arg6 harg6 arg7 harg7 arg8 harg8 x0 x1 x2 x3 x4

/-- The origin of an array of rank three. -/
theorem zero3 : (![0, 0, 0] : Fin 3 → ℕ) = fun _ => 0 := by
  funext a; fin_cases a <;> rfl

/-- The origin of an array of rank two. -/
theorem zero2 : (![0, 0] : Fin 2 → ℕ) = fun _ => 0 := by
  funext a; fin_cases a <;> rfl

/-- The output block of one run of the body, over the heads' end states. -/
theorem out_heads (r : Fin 256) (n : Fin 512) :
    out0_A_6 c i arg2 harg2 arg3 harg3 arg4 harg4 arg5 harg5 arg6 harg6 arg7 harg7 arg8 harg8 x0 x1 x2 x3 x4 x5 (ix3 0 r n)
      = headOut (lastSums c i arg2 harg2 arg3 harg3 arg4 harg4 arg5 harg5 arg6 harg6 arg7 harg7 arg8 harg8 x0 x1 x2 x3 x4) (lastAccs c i arg2 harg2 arg3 harg3 arg4 harg4 arg5 harg5 arg6 harg6 arg7 harg7 arg8 harg8 x0 x1 x2 x3 x4) r n
        * Ideal.rsqrt (Ideal.div (∑ m, headOut (lastSums c i arg2 harg2 arg3 harg3 arg4 harg4 arg5 harg5 arg6 harg6 arg7 harg7 arg8 harg8 x0 x1 x2 x3 x4) (lastAccs c i arg2 harg2 arg3 harg3 arg4 harg4 arg5 harg5 arg6 harg6 arg7 harg7 arg8 harg8 x0 x1 x2 x3 x4) r m
            * headOut (lastSums c i arg2 harg2 arg3 harg3 arg4 harg4 arg5 harg5 arg6 harg6 arg7 harg7 arg8 harg8 x0 x1 x2 x3 x4) (lastAccs c i arg2 harg2 arg3 harg3 arg4 harg4 arg5 harg5 arg6 harg6 arg7 harg7 arg8 harg8 x0 x1 x2 x3 x4) r m) (Ideal.ofBits .f32 0x44000000#32)
          + Ideal.ofBits .f32 0x358637BD#32) * x5 (ix2 0 n) := by
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  rw [View.canon_unit_zero zero3]
  have hg : kernelRun0_A.sl.r_66 c arg7 harg7 x5 = x5 := by
    unfold kernelRun0_A.sl.r_66 k0_pay237
    rw [View.readAt_eq_ld, harg7.read_unread, shapeCast_self, View.ld_unit_zero zero2]
  rw [hg]
  exact gathered (lastSums c i arg2 harg2 arg3 harg3 arg4 harg4 arg5 harg5 arg6 harg6 arg7 harg7 arg8 harg8 x0 x1 x2 x3 x4) (lastAccs c i arg2 harg2 arg3 harg3 arg4 harg4 arg5 harg5 arg6 harg6 arg7 harg7 arg8 harg8 x0 x1 x2 x3 x4) x5 r n

end

end Cert.KernelIdeal.Gen

end
-- ==== Proof.Blocks.lean ====
/-
  The attention kernel's input blocks at a grid point, entry by entry, as entries of the arguments.
-/
module

public import proofs.«01_k».proof.Proof.Attn
public import proofs.«01_k».proof.Proof.Gen.KernelIdeal.Value
public import Idealize.ShloMosaic.Lib.StableHlo.Run

@[expose] public section

noncomputable section

namespace Cert.KernelIdeal.Gen

open Idealize.ShloMosaic Idealize.ShloMosaic.TcCoe Idealize.SL.Sem Idealize.ShloMosaic.StableHlo Cert.Online
open Facts

variable (m : (ℓ : Loc nD τ sig) → Buf (Elt Ideal) ℓ) (c : Dev nD) (t : Fin cfg0.N)

/-- The batch of grid point `t`. -/
def batch : Fin 32 := grid0.coords t 0

/-- The query tile of grid point `t`. -/
def tile : Fin 8 := grid0.coords t 1

/-- The gain as the launch finds it: the argument as one row. -/
theorem V_main_v0 : (V m c main_v0 : Vec Ideal S1x512 .f32) = shapeCast S1x512 (m ((c : Thread nD τ).loc main_arg5) : Vec Ideal S512 .f32) shapeCasts_S512_S1x512 := by
  simp only [V, hostOps0, hostOps0_1, hostOps0_2, hostOps0_3, List.flatten_cons, List.flatten_nil, List.append_nil, List.cons_append, List.nil_append, TRef.unary, TRef.binary, TRef.toBuf, TRef.ofBuf, cast_eq]
  after_results_simp
  rfl

/-- The prefix keys as the launch finds them: 16 rows, then zeros. -/
theorem V_main_v2 : (V m c main_v2 : Vec Ideal S128x1024 .bf16) = pad S128x1024 ![0, 0] ![112, 0] ![0, 0] (shapeCast S16x1024 (m ((c : Thread nD τ).loc main_arg3) : Vec Ideal S1x16x1024 .bf16) shapeCasts_S1x16x1024_S16x1024)
    (sitofp (F := Ideal) .bf16 (constantI S_ 32 0#32) : Vec Ideal S_ .bf16) pads_S16x1024_S128x1024_01120_000 h_S_ := by
  simp only [V, hostOps0, hostOps0_1, hostOps0_2, hostOps0_3, List.flatten_cons, List.flatten_nil, List.append_nil, List.cons_append, List.nil_append, TRef.unary, TRef.binary, TRef.toBuf, TRef.ofBuf, cast_eq]
  after_results_simp
  rfl

/-- The prefix values as the launch finds them: 16 rows, then zeros. -/
theorem V_main_v4 : (V m c main_v4 : Vec Ideal S128x512 .bf16) = pad S128x512 ![0, 0] ![112, 0] ![0, 0] (shapeCast S16x512 (m ((c : Thread nD τ).loc main_arg4) : Vec Ideal S1x16x512 .bf16) shapeCasts_S1x16x512_S16x512)
    (sitofp (F := Ideal) .bf16 (constantI S_ 32 0#32) : Vec Ideal S_ .bf16) pads_S16x512_S128x512_01120_000 h_S_ := by
  simp only [V, hostOps0, hostOps0_1, hostOps0_2, hostOps0_3, List.flatten_cons, List.flatten_nil, List.append_nil, List.cons_append, List.nil_append, TRef.unary, TRef.binary, TRef.toBuf, TRef.ofBuf, cast_eq]
  after_results_simp
  rfl

/-- A small number survives being a 32-bit word. -/
theorem word_toNat {a : ℕ} (h : a < 4294967296) : (BitVec.ofNat 32 a).toNat = a := by
  rw [BitVec.toNat_ofNat]; exact Nat.mod_eq_of_lt h

/-- The batch's number as the index maps compute it. -/
theorem batch_word : (BitVec.ofNat 32 (batch t).val).toNat = (batch t).val := word_toNat (by have := (batch t).isLt; omega)

/-- The tile's number as the index maps compute it. -/
theorem tile_word : (BitVec.ofNat 32 (tile t).val).toNat = (tile t).val := word_toNat (by have := (tile t).isLt; omega)

/-- Row `r` of tile `i`, of 2048 rows. -/
def rowOf (i : Fin 8) (r : Fin 256) : Fin 2048 := ⟨256 * i.val + r.val, by omega⟩

/-- The query block holds 256 rows of its batch. -/
theorem iblk0_apply (r : Fin 256) (d : Fin 1024) :
    (iblk m c 0 t : Vec Ideal S1x256x1024 .bf16) (ix3 0 r d) = m ((c : Thread nD τ).loc main_arg0) (ix3 (batch t) (rowOf (tile t) r) d) := by
  show V m c main_arg0 (((cfg0.win 0).blk t).view.emb (ix3 0 r d)) = _
  rw [V_main_arg0]
  refine congrArg _ (funext fun a => Fin.ext ?_)
  refine (win0_0.rect_emb_val t (ix3 0 r d) a).trans ?_
  fin_cases a
  · show (BitVec.ofNat 32 (batch t).val).toNat * 1 + 0 = (batch t).val
    rw [batch_word]; omega
  · show (BitVec.ofNat 32 (tile t).val).toNat * 256 + r.val = 256 * (tile t).val + r.val
    rw [tile_word]; omega
  · show 0 * 1024 + d.val = d.val
    omega

/-- The key block holds all rows of its batch. -/
theorem iblk1_apply (r : Fin 2048) (d : Fin 1024) :
    (iblk m c 1 t : Vec Ideal S1x2048x1024 .bf16) (ix3 0 r d) = m ((c : Thread nD τ).loc main_arg1) (ix3 (batch t) r d) := by
  show V m c main_arg1 (((cfg0.win 1).blk t).view.emb (ix3 0 r d)) = _
  rw [V_main_arg1]
  refine congrArg _ (funext fun a => Fin.ext ?_)
  refine (win0_1.rect_emb_val t (ix3 0 r d) a).trans ?_
  fin_cases a
  · show (BitVec.ofNat 32 (batch t).val).toNat * 1 + 0 = (batch t).val
    rw [batch_word]; omega
  · show 0 * 2048 + r.val = r.val
    omega
  · show 0 * 1024 + d.val = d.val
    omega

/-- The value block holds all rows of its batch. -/
theorem iblk2_apply (r : Fin 2048) (d : Fin 512) :
    (iblk m c 2 t : Vec Ideal S1x2048x512 .bf16) (ix3 0 r d) = m ((c : Thread nD τ).loc main_arg2) (ix3 (batch t) r d) := by
  show V m c main_arg2 (((cfg0.win 2).blk t).view.emb (ix3 0 r d)) = _
  rw [V_main_arg2]
  refine congrArg _ (funext fun a => Fin.ext ?_)
  refine (win0_2.rect_emb_val t (ix3 0 r d) a).trans ?_
  fin_cases a
  · show (BitVec.ofNat 32 (batch t).val).toNat * 1 + 0 = (batch t).val
    rw [batch_word]; omega
  · show 0 * 2048 + r.val = r.val
    omega
  · show 0 * 512 + d.val = d.val
    omega

/-- Padding below: the first 16 rows are the operand's. -/
theorem pad_rows {w : ℕ} (x : Vec Ideal ⟨2, ![16, w]⟩ .bf16) (v : Vec Ideal S_ .bf16)
    (h : (⟨2, ![16, w]⟩ : Shape).Pads ![0, 0] ![112, 0] ![0, 0] ⟨2, ![128, w]⟩) (hu : 0 < S_.numel) (r : Fin 128) (hr : r.val < 16) (d : Fin w) :
    pad ⟨2, ![128, w]⟩ ![0, 0] ![112, 0] ![0, 0] x v h hu (ix2 r d) = x (ix2 ⟨r.val, hr⟩ d) := by
  rw [pad_apply, dif_pos]
  · refine congrArg x (funext fun a => Fin.ext ?_)
    fin_cases a
    · show (r.val - 0) / (0 + 1) = r.val
      omega
    · show (d.val - 0) / (0 + 1) = d.val
      omega
  · intro a
    fin_cases a
    · show 0 ≤ r.val ∧ (r.val - 0) % (0 + 1) = 0 ∧ (r.val - 0) / (0 + 1) < 16
      omega
    · show 0 ≤ d.val ∧ (d.val - 0) % (0 + 1) = 0 ∧ (d.val - 0) / (0 + 1) < w
      have := d.isLt
      omega

/-- The prefix's keys as a matrix. -/
theorem keys_read (x : Vec Ideal S1x16x1024 .bf16) (r : Fin 16) (d : Fin 1024) :
    shapeCast S16x1024 x shapeCasts_S1x16x1024_S16x1024 (ix2 r d) = x (ix3 0 r d) := by
  pointwise

/-- The prefix's values as a matrix. -/
theorem values_read (x : Vec Ideal S1x16x512 .bf16) (r : Fin 16) (d : Fin 512) :
    shapeCast S16x512 x shapeCasts_S1x16x512_S16x512 (ix2 r d) = x (ix3 0 r d) := by
  pointwise

/-- The prefix's key block: its first 16 rows are the prefix's keys. -/
theorem iblk3_apply (r : Fin 128) (hr : r.val < 16) (d : Fin 1024) :
    (iblk m c 3 t : Vec Ideal S128x1024 .bf16) (ix2 r d) = m ((c : Thread nD τ).loc main_arg3) (ix3 0 ⟨r.val, hr⟩ d) := by
  show (V m c main_v2 : Vec Ideal S128x1024 .bf16) (((cfg0.win 3).blk t).view.emb (ix2 r d)) = _
  have e : ((cfg0.win 3).blk t).view.emb (ix2 r d) = ix2 r d := by
    refine funext fun a => Fin.ext ?_
    refine (win0_3.rect_emb_val t (ix2 r d) a).trans ?_
    fin_cases a
    · show 0 * 128 + r.val = r.val
      omega
    · show 0 * 1024 + d.val = d.val
      omega
  rw [e, V_main_v2]
  exact (pad_rows _ _ _ _ r hr d).trans (keys_read _ _ d)

/-- The prefix's value block: its first 16 rows are the prefix's values. -/
theorem iblk4_apply (r : Fin 128) (hr : r.val < 16) (d : Fin 512) :
    (iblk m c 4 t : Vec Ideal S128x512 .bf16) (ix2 r d) = m ((c : Thread nD τ).loc main_arg4) (ix3 0 ⟨r.val, hr⟩ d) := by
  show (V m c main_v4 : Vec Ideal S128x512 .bf16) (((cfg0.win 4).blk t).view.emb (ix2 r d)) = _
  have e : ((cfg0.win 4).blk t).view.emb (ix2 r d) = ix2 r d := by
    refine funext fun a => Fin.ext ?_
    refine (win0_4.rect_emb_val t (ix2 r d) a).trans ?_
    fin_cases a
    · show 0 * 128 + r.val = r.val
      omega
    · show 0 * 512 + d.val = d.val
      omega
  rw [e, V_main_v4]
  exact (pad_rows _ _ _ _ r hr d).trans (values_read _ _ d)

/-- The gain's block is the gain. -/
theorem iblk5_apply (d : Fin 512) :
    (iblk m c 5 t : Vec Ideal S1x512 .f32) (ix2 0 d) = m ((c : Thread nD τ).loc main_arg5) (ix1 d) := by
  show (V m c main_v0 : Vec Ideal S1x512 .f32) (((cfg0.win 5).blk t).view.emb (ix2 0 d)) = _
  have e : ((cfg0.win 5).blk t).view.emb (ix2 0 d) = ix2 0 d := by
    refine funext fun a => Fin.ext ?_
    refine (win0_5.rect_emb_val t (ix2 0 d) a).trans ?_
    fin_cases a
    · rfl
    · show 0 * 512 + d.val = d.val
      omega
  rw [e, V_main_v0]
  pointwise

/-- The output window writes its block back at every grid point. -/
theorem flush6 : ∀ t : Fin cfg0.N, (cfg0.win 6).flush t = true := by
  decide +kernel

/-- Where an entry of the output block lies in the result. -/
theorem out_emb (r : Fin 256) (n : Fin 512) :
    ((cfg0.win 6).blk t).view.emb (ix3 0 r n) = ix3 (batch t) (rowOf (tile t) r) n := by
  refine funext fun a => Fin.ext ?_
  refine (win0_6.rect_emb_val t (ix3 0 r n) a).trans ?_
  fin_cases a
  · show (BitVec.ofNat 32 (batch t).val).toNat * 1 + 0 = (batch t).val
    rw [batch_word]; omega
  · show (BitVec.ofNat 32 (tile t).val).toNat * 256 + r.val = 256 * (tile t).val + r.val
    rw [tile_word]; omega
  · show 0 * 512 + n.val = n.val
    omega

/-- The grid's points run through the tiles of each batch in turn. -/
theorem point_coords : ∀ (b : Fin 32) (i : Fin 8), batch ⟨8 * b.val + i.val, by show _ < 256; omega⟩ = b
    ∧ tile ⟨8 * b.val + i.val, by show _ < 256; omega⟩ = i := by
  decide +kernel

end Cert.KernelIdeal.Gen

end
-- ==== Proof.Reference.lean ====
/-
  The reference's attention, read in stages: the chunk of a position, the masked scores, the softmax weights, the weighted
  values and the final normalization, each as a formula at one index.
-/
module

public import proofs.«01_k».proof.Proof.Gen.ReferenceIdeal.Run
public import proofs.«01_k».proof.Proof.Online
public import Idealize.ShloMosaic.Lib.Pointwise

@[expose] public section

noncomputable section

namespace Cert.ReferenceIdeal.Value

open Cert.ReferenceIdeal Cert.ReferenceIdeal.Gen Idealize.ShloMosaic Idealize.ShloMosaic.TcCoe Idealize.SL.Sem Cert.Online
open Facts

/-- The chunk number of every position: the position divided by 64, rounded down. -/
def chunks : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The scores of all queries against prefix and sequence keys, those of a later chunk masked. -/
def scores (c : IVec S2048 32) (q k : FVec Ideal S32x2048x1024 .bf16) (km : FVec Ideal S1x16x1024 .bf16) : FVec Ideal S32x8x2048x2064 .f32 :=
  select (broadcastInDim S32x8x2048x2064 ![0, 1, 2, 3] bcast_S1x1x2048x2064_S32x8x2048x2064_0_1_2_3
      (broadcastInDim S1x1x2048x2064 ![2, 3] bcast_S2048x2064_S1x1x2048x2064_2_3
        (cmpi .sle
          (broadcastInDim S2048x2064 ![0, 1] bcast_S1x2064_S2048x2064_0_1 (broadcastInDim S1x2064 ![1] bcast_S2064_S1x2064_1
            (concatenate S2064 0 [⟨S16, (broadcastInDim S16 ![] bcast_S_S16 (constantI S_ 32 4294967295#32))⟩, ⟨S2048, c⟩] concatenates_S16_S2048_S2064_d0)))
          (broadcastInDim S2048x2064 ![0, 1] bcast_S2048x1_S2048x2064_0_1 (broadcastInDim S2048x1 ![0] bcast_S2048_S2048x1_0 c)))))
    (Host.dotGeneral dot_S32x2048x8x128_S32x2064x8x128_S32x8x2048x2064_3_3_1_1_02_02 none
      (shapeCast _ (extf .f32 q bitsLt_bf16_f32) shapeCasts_S32x2048x1024_S32x2048x8x128)
      (shapeCast _ (concatenate S32x2064x1024 1 [⟨S32x16x1024, (broadcastInDim S32x16x1024 ![0, 1, 2] bcast_S1x16x1024_S32x16x1024_0_1_2 (extf .f32 km bitsLt_bf16_f32))⟩,
        ⟨S32x2048x1024, (extf .f32 k bitsLt_bf16_f32)⟩] concatenates_S32x16x1024_S32x2048x1024_S32x2064x1024_d1) shapeCasts_S32x2064x1024_S32x2064x8x128))
    (broadcastInDim S32x8x2048x2064 ![] bcast_S_S32x8x2048x2064 (id (constant S_ .f32 0xFF800000#32)))

/-- The largest score of every row. -/
def rowMax (sc : FVec Ideal S32x8x2048x2064 .f32) : FVec Ideal S32x8x2048 .f32 :=
  Host.reduce FloatOps.maximumf sc (constant S_ .f32 0xFF800000#32) reducesTo_S32x8x2048x2064_S32x8x2048_d3 h_S_

/-- The exponentials of the scores less one number per row. -/
def exps (sc : FVec Ideal S32x8x2048x2064 .f32) (mx : FVec Ideal S32x8x2048 .f32) : FVec Ideal S32x8x2048x2064 .f32 :=
  Host.exp (subf sc (broadcastInDim S32x8x2048x2064 ![0, 1, 2, 3] bcast_S32x8x2048x1_S32x8x2048x2064_0_1_2_3
    (broadcastInDim S32x8x2048x1 ![0, 1, 2] bcast_S32x8x2048_S32x8x2048x1_0_1_2
      (maximumf (broadcastInDim S32x8x2048 ![] bcast_S_S32x8x2048 (constant S_ .f32 0xFF800000#32)) mx))))

/-- The exponentials divided by the sum of their row. -/
def weights (e : FVec Ideal S32x8x2048x2064 .f32) : FVec Ideal S32x8x2048x2064 .f32 :=
  Host.divf e (broadcastInDim S32x8x2048x2064 ![0, 1, 2, 3] bcast_S32x8x2048x1_S32x8x2048x2064_0_1_2_3
    (broadcastInDim S32x8x2048x1 ![0, 1, 2] bcast_S32x8x2048_S32x8x2048x1_0_1_2
      (Host.reduceAdd e (constant S_ .f32 0x00000000#32) reducesTo_S32x8x2048x2064_S32x8x2048_d3 h_S_)))

/-- The weighted values of all heads, side by side. -/
def attended (w : FVec Ideal S32x8x2048x2064 .f32) (v : FVec Ideal S32x2048x512 .bf16) (vm : FVec Ideal S1x16x512 .bf16) : FVec Ideal S32x2048x512 .f32 :=
  shapeCast _ (transpose S32x2048x8x64 [0, 3, 1, 2] (Host.dotGeneral dot_S32x2064x8x64_S32x8x2048x2064_S32x8x64x2048_1_3_3_2_02_01 none
    (shapeCast _ (concatenate S32x2064x512 1 [⟨S32x16x512, (broadcastInDim S32x16x512 ![0, 1, 2] bcast_S1x16x512_S32x16x512_0_1_2 (extf .f32 vm bitsLt_bf16_f32))⟩,
      ⟨S32x2048x512, (extf .f32 v bitsLt_bf16_f32)⟩] concatenates_S32x16x512_S32x2048x512_S32x2064x512_d1) shapeCasts_S32x2064x512_S32x2064x8x64) w)
    transposes_S32x8x64x2048_S32x2048x8x64_0_3_1_2) shapeCasts_S32x2048x8x64_S32x2048x512

/-- The attention's rows divided by their root mean square, times the gain. -/
def normed (a : FVec Ideal S32x2048x512 .f32) (g : FVec Ideal S512 .f32) : FVec Ideal S32x2048x512 .bf16 :=
  truncf .bf16 (mulf (mulf a (broadcastInDim S32x2048x512 ![0, 1, 2] bcast_S32x2048x1_S32x2048x512_0_1_2
      (Host.rsqrt (addf (Host.divf (broadcastInDim S32x2048x1 ![0, 1] bcast_S32x2048_S32x2048x1_0_1
          (Host.reduceAdd (mulf a a) (constant S_ .f32 0x00000000#32) reducesTo_S32x2048x512_S32x2048_d2 h_S_))
        (broadcastInDim S32x2048x1 ![] bcast_S_S32x2048x1 (constant S_ .f32 0x44000000#32)))
        (broadcastInDim S32x2048x1 ![] bcast_S_S32x2048x1 (constant S_ .f32 0x358637BD#32))))))
    (broadcastInDim S32x2048x512 ![0, 1, 2] bcast_S1x1x512_S32x2048x512_0_1_2 (broadcastInDim S1x1x512 ![2] bcast_S512_S1x1x512_2 g))) bitsLt_bf16_f32

/-- The softmax weights of the scores. -/
def softmax (sc : FVec Ideal S32x8x2048x2064 .f32) : FVec Ideal S32x8x2048x2064 .f32 := weights (exps sc (rowMax sc))

/-- The reference's result is the composition of the stages. -/
theorem result_stages (m : (ℓ : Loc nD τ sig) → Buf (Elt Ideal) ℓ) (c : Dev nD) :
    res_out0 m c = normed (attended (softmax (scores chunks (m ((c.tc : Thread nD τ).loc main_arg0)) (m ((c.tc : Thread nD τ).loc main_arg1))
      (m ((c.tc : Thread nD τ).loc main_arg3)))) (m ((c.tc : Thread nD τ).loc main_arg2)) (m ((c.tc : Thread nD τ).loc main_arg4)))
      (m ((c.tc : Thread nD τ).loc main_arg5)) := by
  unfold res_out0 res_main_v53 normed attended softmax weights exps rowMax scores chunks
  rfl

/-- Position `p` lies in chunk `p / 64`. -/
theorem chunks_apply (p : Fin 2048) : chunks (ix1 p) = BitVec.ofNat 32 (p.val / 64) := by
  pointwise [chunks]
  simp only [id, constantI_apply]
  revert p
  decide +kernel

/-- The largest entry of a row, as a fold of `max`. -/
theorem row_max {n0 n1 n2 n3 : ℕ} (v : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (c : Fin n2) :
    Host.reduce (FloatOps.maximumf (F := Ideal) (φ := .f32)) v init h hu (ix3 a b c)
      = Finset.univ.fold max (init (Shape.Idx.first hu)) fun k : Fin n3 => v (ix4 a b c k) := by
  pointwise

/-- The word of −∞. -/
theorem ofBits_neg_inf : Ideal.ofBits .f32 0xFF800000#32 = ⊥ := by
  simp [Ideal.ofBits, Ideal.ieee]

/-- The largest score of a row, as a fold of `max`. -/
theorem rowMax_apply (sc : FVec Ideal S32x8x2048x2064 .f32) (b : Fin 32) (h : Fin 8) (r : Fin 2048) :
    rowMax sc (ix3 b h r) = Finset.univ.fold max ⊥ fun y => sc (ix4 b h r y) := by
  have e := row_max sc (constant S_ .f32 0xFF800000#32) reducesTo_S32x8x2048x2064_S32x8x2048_d3 h_S_ b h r
  rw [constant_apply] at e
  rw [← ofBits_neg_inf]
  exact e

/-- An exponential of `exps`: the score less the row's number. -/
theorem exps_apply (sc : FVec Ideal S32x8x2048x2064 .f32) (mx : FVec Ideal S32x8x2048 .f32) (b : Fin 32) (h : Fin 8) (r : Fin 2048) (x : Fin 2064) :
    exps sc mx (ix4 b h r x) = Ideal.exp (sc (ix4 b h r x) - mx (ix3 b h r)) := by
  pointwise [exps]
  rw [ofBits_neg_inf, max_bot_left]

/-- A softmax weight: the exponential divided by the row's sum. -/
theorem weights_apply (e : FVec Ideal S32x8x2048x2064 .f32) (b : Fin 32) (h : Fin 8) (r : Fin 2048) (x : Fin 2064) :
    weights e (ix4 b h r x) = Ideal.div (e (ix4 b h r x)) (∑ y, e (ix4 b h r y)) := by
  pointwise [weights]

/-- Column `j` of key `x`: a prefix key below 16, a key of the sequence from there on. -/
def keyAt (k : FVec Ideal S32x2048x1024 .bf16) (km : FVec Ideal S1x16x1024 .bf16) (b : Fin 32) (x : ℕ) (j : Fin 1024) : EReal :=
  if h : x < 16 then km (ix3 0 ⟨x, h⟩ j) else if h' : x - 16 < 2048 then k (ix3 b ⟨x - 16, h'⟩ j) else 0

/-- The score of key `x` for query `r`: their product over the head's columns, `⊥` for a key of a later chunk. -/
def scoreAt (q k : FVec Ideal S32x2048x1024 .bf16) (km : FVec Ideal S1x16x1024 .bf16) (b : Fin 32) (h : Fin 8) (r : Fin 2048) (x : ℕ) : EReal :=
  if x < 16 ∨ (x - 16) / 64 ≤ r.val / 64 then
    ∑ d : Fin 128, q (ix3 b r ⟨h.val * 128 + d.val, by omega⟩) * keyAt k km b x ⟨h.val * 128 + d.val, by omega⟩
  else ⊥

/-- Column `n` of the value of key `x`. -/
def valueAt (v : FVec Ideal S32x2048x512 .bf16) (vm : FVec Ideal S1x16x512 .bf16) (b : Fin 32) (n : Fin 512) (x : ℕ) : EReal :=
  if h : x < 16 then vm (ix3 0 ⟨x, h⟩ n) else if h' : x - 16 < 2048 then v (ix3 b ⟨x - 16, h'⟩ n) else 0

/-- The order of two small words is the order of their numbers. -/
theorem sle_small (a b : ℕ) (ha : a < 32) (hb : b < 32) (p q : EReal) :
    Scalar.select (IntOp.cmpi CmpIPredicate.sle (BitVec.ofNat 32 a) (BitVec.ofNat 32 b)) p q = if a ≤ b then p else q := by
  have e : IntOp.cmpi CmpIPredicate.sle (BitVec.ofNat 32 a) (BitVec.ofNat 32 b) = if a ≤ b then 1#1 else 0#1 := by
    have key : ∀ a b : Fin 32, IntOp.cmpi CmpIPredicate.sle (BitVec.ofNat 32 a.val) (BitVec.ofNat 32 b.val) = if a.val ≤ b.val then 1#1 else 0#1 := by
      decide +kernel
    exact key ⟨a, ha⟩ ⟨b, hb⟩
  rw [e]
  split_ifs <;> rfl

/-- The prefix's chunk number −1 is below every chunk's. -/
theorem neg_one_sle (b : ℕ) (hb : b < 32) (p q : EReal) :
    Scalar.select (IntOp.cmpi CmpIPredicate.sle 4294967295#32 (BitVec.ofNat 32 b)) p q = p := by
  have e : IntOp.cmpi CmpIPredicate.sle 4294967295#32 (BitVec.ofNat 32 b) = 1#1 := by
    have key : ∀ b : Fin 32, IntOp.cmpi CmpIPredicate.sle 4294967295#32 (BitVec.ofNat 32 b.val) = 1#1 := by decide +kernel
    exact key ⟨b, hb⟩
  rw [e]; rfl

/-- The masked scores at one head, query and key. -/
theorem scores_apply (q k : FVec Ideal S32x2048x1024 .bf16) (km : FVec Ideal S1x16x1024 .bf16) (b : Fin 32) (h : Fin 8) (r : Fin 2048)
    (x : Fin 2064) : scores chunks q k km (ix4 b h r x) = scoreAt q k km b h r x.val := by
  pointwise [scores]
  simp only [id, constant_apply, chunks_apply]
  unfold scoreAt keyAt
  by_cases hx : x.val < 16
  · simp only [hx, dif_pos, true_or, if_true]
    rw [neg_one_sle _ (by omega)]
  · have hx' : x.val - 16 < 2048 := by omega
    simp only [hx, hx', dif_pos, dif_neg, false_or, not_false_eq_true]
    rw [sle_small _ _ (by omega) (by omega)]
    split_ifs <;> first | rfl | exact ofBits_neg_inf

/-- The weighted values in one column. -/
theorem attended_apply (w : FVec Ideal S32x8x2048x2064 .f32) (v : FVec Ideal S32x2048x512 .bf16) (vm : FVec Ideal S1x16x512 .bf16)
    (b : Fin 32) (r : Fin 2048) (n : Fin 512) :
    attended w v vm (ix3 b r n) = ∑ x : Fin 2064, w (ix4 b ⟨n.val / 64, by omega⟩ r x) * valueAt v vm b n x.val := by
  rw [Fin.sum_univ_two_halves 16 2048 rfl]
  pointwise [attended]
  unfold valueAt
  refine congrArg₂ (· + ·) (Finset.sum_congr rfl fun x _ => ?_) (Finset.sum_congr rfl fun x _ => ?_)
  · rw [dif_pos (show x.val < 16 from x.isLt), mul_comm]
  · have e : 16 + x.val - 16 = x.val := by omega
    rw [dif_neg (show ¬ 16 + x.val < 16 by omega), dif_pos (show 16 + x.val - 16 < 2048 by omega), mul_comm]
    simp only [e]

/-- The normalized attention in one column. -/
theorem normed_apply (a : FVec Ideal S32x2048x512 .f32) (g : FVec Ideal S512 .f32) (b : Fin 32) (r : Fin 2048) (n : Fin 512) :
    normed a g (ix3 b r n) = a (ix3 b r n) * Ideal.rsqrt (Ideal.div (∑ m, a (ix3 b r m) * a (ix3 b r m)) (Ideal.ofBits .f32 0x44000000#32)
      + Ideal.ofBits .f32 0x358637BD#32) * g (ix1 n) := by
  pointwise [normed]

/-- A product of reals added up is a real. -/
theorem sum_mul_real {ι : Type*} (S : Finset ι) (f g : ι → EReal) (hf : ∀ d, ∃ a : ℝ, f d = a) (hg : ∀ d, ∃ a : ℝ, g d = a) :
    ∃ a : ℝ, ∑ d ∈ S, f d * g d = a := by
  classical
  choose f' hf using hf
  choose g' hg using hg
  induction S using Finset.induction_on with
  | empty => exact ⟨0, by simp⟩
  | insert d S hd ih =>
    obtain ⟨a, ih⟩ := ih
    exact ⟨f' d * g' d + a, by rw [Finset.sum_insert hd, ih, hf, hg, EReal.coe_add, EReal.coe_mul]⟩

/-- A score of real queries and keys is a real or, masked, `⊥`. -/
theorem scoreAt_real {q k : FVec Ideal S32x2048x1024 .bf16} {km : FVec Ideal S1x16x1024 .bf16} (hq : ∀ i, ∃ a : ℝ, q i = a)
    (hk : ∀ i, ∃ a : ℝ, k i = a) (hkm : ∀ i, ∃ a : ℝ, km i = a) (b : Fin 32) (h : Fin 8) (r : Fin 2048) (x : ℕ) :
    scoreAt q k km b h r x ≠ ⊤ ∧ scoreAt q k km b h r 0 ≠ ⊥ := by
  have key : ∀ x j, ∃ a : ℝ, keyAt k km b x j = a := by
    intro x j
    unfold keyAt
    split_ifs
    · exact hkm _
    · exact hk _
    · exact ⟨0, EReal.coe_zero.symm⟩
  have hs : ∀ x, ∃ a : ℝ, ∑ d : Fin 128, q (ix3 b r ⟨h.val * 128 + d.val, by omega⟩) * keyAt k km b x ⟨h.val * 128 + d.val, by omega⟩ = a :=
    fun x => sum_mul_real _ _ _ (fun d => hq _) (fun d => key _ _)
  constructor
  · unfold scoreAt
    split_ifs
    · obtain ⟨a, e⟩ := hs x
      rw [e]; exact EReal.coe_ne_top a
    · exact bot_ne_top
  · unfold scoreAt
    rw [if_pos (Or.inl (by omega))]
    obtain ⟨a, e⟩ := hs 0
    rw [e]; exact EReal.coe_ne_bot a

/-- The reference's softmax over all 2064 keys, in one column, from the largest score and the two sums of a running softmax over them. -/
theorem attended_quotient (q k : FVec Ideal S32x2048x1024 .bf16) (v : FVec Ideal S32x2048x512 .bf16) (km : FVec Ideal S1x16x1024 .bf16)
    (vm : FVec Ideal S1x16x512 .bf16) (b : Fin 32) (r : Fin 2048) (n : Fin 512) {m l a : EReal}
    (hs : Seen (scoreAt q k km b ⟨n.val / 64, by omega⟩ r) (valueAt v vm b n) 2064 m l a)
    (ht : ∀ x, scoreAt q k km b ⟨n.val / 64, by omega⟩ r x ≠ ⊤) (hb : scoreAt q k km b ⟨n.val / 64, by omega⟩ r 0 ≠ ⊥) :
    attended (softmax (scores chunks q k km)) v vm (ix3 b r n) = Ideal.div a l := by
  rw [hs.quotient ht ⟨0, by omega, hb⟩, attended_apply,
    ← Fin.sum_univ_eq_sum_range (fun x => Ideal.div (Ideal.exp (scoreAt q k km b ⟨n.val / 64, by omega⟩ r x - m)) l * valueAt v vm b n x) 2064]
  refine Finset.sum_congr rfl fun x _ => ?_
  have em : (Finset.univ.fold max ⊥ fun y : Fin 2064 => scoreAt q k km b ⟨n.val / 64, by omega⟩ r y.val) = m := by
    have := fold_max_eq_sup (scoreAt q k km b ⟨n.val / 64, by omega⟩ r) 0 2064
    simp only [Nat.zero_add] at this
    rw [this, hs.top]
  have el : ∑ y : Fin 2064, Ideal.exp (scoreAt q k km b ⟨n.val / 64, by omega⟩ r y.val - m) = l := by
    rw [hs.den]
    exact Fin.sum_univ_eq_sum_range (fun y => Ideal.exp (scoreAt q k km b ⟨n.val / 64, by omega⟩ r y - m)) 2064
  unfold softmax
  simp only [weights_apply, exps_apply, rowMax_apply, scores_apply, em, el]

end Cert.ReferenceIdeal.Value

end
-- ==== Proof.Equal.lean ====
/-
  The attention kernel's result array is the reference's.
-/
module

public import proofs.«01_k».proof.Proof.Blocks
public import proofs.«01_k».proof.Proof.Reference

@[expose] public section

noncomputable section

namespace Cert.KernelIdeal.Gen

open Idealize.ShloMosaic Idealize.ShloMosaic.TcCoe Idealize.SL.Sem Cert.Online Cert.ReferenceIdeal.Value
open Facts

/-- An entry of a block inside its bounds. -/
theorem at3_eq {n w : ℕ} (x : (⟨3, ![1, n, w]⟩ : Shape).Idx → EReal) {a b : ℕ} (ha : a < n) (hb : b < w) : at3 x a b = x (ix3 0 ⟨a, ha⟩ ⟨b, hb⟩) :=
  dif_pos ⟨ha, hb⟩

/-- An entry of a matrix inside its bounds. -/
theorem at2_eq {n w : ℕ} (x : (⟨2, ![n, w]⟩ : Shape).Idx → EReal) {a b : ℕ} (ha : a < n) (hb : b < w) : at2 x a b = x (ix2 ⟨a, ha⟩ ⟨b, hb⟩) :=
  dif_pos ⟨ha, hb⟩

variable (m : (ℓ : Loc nD τ sig) → Buf (Elt Ideal) ℓ) (c : Dev nD) (t : Fin cfg0.N)

/-- The queries. -/
abbrev argQ : Vec Ideal S32x2048x1024 .bf16 := m ((c : Thread nD τ).loc main_arg0)
/-- The sequence's keys. -/
abbrev argK : Vec Ideal S32x2048x1024 .bf16 := m ((c : Thread nD τ).loc main_arg1)
/-- The sequence's values. -/
abbrev argV : Vec Ideal S32x2048x512 .bf16 := m ((c : Thread nD τ).loc main_arg2)
/-- The prefix's keys. -/
abbrev argKm : Vec Ideal S1x16x1024 .bf16 := m ((c : Thread nD τ).loc main_arg3)
/-- The prefix's values. -/
abbrev argVm : Vec Ideal S1x16x512 .bf16 := m ((c : Thread nD τ).loc main_arg4)
/-- The gain. -/
abbrev argG : Vec Ideal S512 .f32 := m ((c : Thread nD τ).loc main_arg5)

/-- A prefix key's score in the kernel is the reference's. -/
theorem score_prefix (h : Fin 8) (r : Fin 256) (x : ℕ) (hx : x < 16) :
    score (iblk m c 0 t) (iblk m c 1 t) (iblk m c 3 t) (tile t).val h.val r x
      = scoreAt (argQ m c) (argK m c) (argKm m c) (batch t) h (rowOf (tile t) r) x := by
  unfold score scoreAt keyAt
  rw [if_pos (by omega), if_pos hx, if_pos (Or.inl hx)]
  refine Finset.sum_congr rfl fun d _ => ?_
  rw [dif_pos hx, at3_eq _ r.isLt (show 128 * h.val + d.val < 1024 by omega), at2_eq _ (show x < 128 by omega) (show 128 * h.val + d.val < 1024 by omega),
    iblk0_apply, iblk3_apply m c t ⟨x, by omega⟩ hx]
  simp only [Nat.mul_comm 128 h.val]

/-- A sequence key's score in the kernel is the reference's. -/
theorem score_seq (h : Fin 8) (r : Fin 256) (y : ℕ) (hy : y < 2048) :
    score (iblk m c 0 t) (iblk m c 1 t) (iblk m c 3 t) (tile t).val h.val r (128 + y)
      = scoreAt (argQ m c) (argK m c) (argKm m c) (batch t) h (rowOf (tile t) r) (16 + y) := by
  have e1 : 128 + y - 128 = y := by omega
  have e2 : 16 + y - 16 = y := by omega
  unfold score scoreAt keyAt
  have e3 : (rowOf (tile t) r).val = 256 * (tile t).val + r.val := rfl
  simp only [e1, e2, e3]
  rw [if_neg (by omega)]
  by_cases hc : y / 64 ≤ (256 * (tile t).val + r.val) / 64
  · rw [if_pos hc, if_pos (Or.inr hc)]
    refine Finset.sum_congr rfl fun d _ => ?_
    rw [dif_neg (by omega), dif_pos hy, at3_eq _ r.isLt (show 128 * h.val + d.val < 1024 by omega),
      at3_eq _ hy (show 128 * h.val + d.val < 1024 by omega), iblk0_apply, iblk1_apply]
    simp only [Nat.mul_comm 128 h.val]
  · rw [if_neg hc, if_neg (fun o => o.elim (by omega) hc)]

/-- The kernel's running softmax of one head over its tiles is one over all the reference's keys. -/
theorem seen_reference (r : Fin 256) (n : Fin 512) {M l a : EReal}
    (hs : Seen (score (iblk m c 0 t) (iblk m c 1 t) (iblk m c 3 t) (tile t).val (n.val / 64) r)
      (value (iblk m c 2 t) (iblk m c 4 t) (n.val / 64) ⟨n.val % 128, by omega⟩) (0 + 128 + 256 * (tile t).val + 256) M l a) :
    Seen (scoreAt (argQ m c) (argK m c) (argKm m c) (batch t) ⟨n.val / 64, by omega⟩ (rowOf (tile t) r))
      (valueAt (argV m c) (argVm m c) (batch t) n) 2064 M l a := by
  have ht := (tile t).isLt
  have hn : 128 * (n.val / 64 / 2) + n.val % 128 = n.val := by omega
  rw [show 0 + 128 + 256 * (tile t).val + 256 = 128 + (256 * (tile t).val + 256) by omega] at hs
  have := hs.regroup (s' := scoreAt (argQ m c) (argK m c) (argKm m c) (batch t) ⟨n.val / 64, by omega⟩ (rowOf (tile t) r))
    (v' := valueAt (argV m c) (argVm m c) (batch t) n) (2048 - (256 * (tile t).val + 256))
    (fun x hx => score_prefix m c t ⟨n.val / 64, by omega⟩ r x hx) ?_ ?_
    (fun y hy => score_seq m c t ⟨n.val / 64, by omega⟩ r y (by omega)) ?_ ?_
  · rwa [show 16 + (256 * (tile t).val + 256 + (2048 - (256 * (tile t).val + 256))) = 2064 by omega] at this
  · intro x hx
    unfold value valueAt
    rw [if_pos (by omega), dif_pos hx]
    simp only [hn]
    rw [at2_eq _ (show x < 128 by omega) n.isLt, iblk4_apply m c t ⟨x, by omega⟩ hx]
  · intro x h1 h2
    unfold score
    rw [if_pos h2, if_neg (by omega)]
  · intro y hy
    have e1 : 128 + y - 128 = y := by omega
    have e2 : 16 + y - 16 = y := by omega
    unfold value valueAt
    rw [if_neg (by omega), dif_neg (by omega)]
    simp only [hn, e1, e2]
    rw [dif_pos (show y < 2048 by omega), at3_eq _ (show y < 2048 by omega) n.isLt, iblk2_apply]
  · intro y hy
    unfold scoreAt rowOf
    rw [if_neg]
    rintro (h1 | h1)
    · omega
    · have e2 : 16 + y - 16 = y := by omega
      rw [e2] at h1
      dsimp only at h1
      omega

/-- The reference's normalized attention of the kernel's arguments. -/
def expected : FVec Ideal S32x2048x512 .bf16 :=
  normed (attended (softmax (scores chunks (argQ m c) (argK m c) (argKm m c))) (argV m c) (argVm m c)) (argG m c)

variable (hq : ∀ i, ∃ a : ℝ, argQ m c i = a) (hk : ∀ i, ∃ a : ℝ, argK m c i = a) (hkm : ∀ i, ∃ a : ℝ, argKm m c i = a)

include hq hk hkm in
/-- One entry of the block a grid point writes back is the reference's. -/
theorem out_expected (r : Fin 256) (n : Fin 512) :
    out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (iblk m c 0 t) (iblk m c 1 t) (iblk m c 2 t) (iblk m c 3 t) (iblk m c 4 t) (iblk m c 5 t) (ix3 0 r n)
      = expected m c (ix3 (batch t) (rowOf (tile t) r) n) := by
  unfold expected
  rw [out_heads, normed_apply, iblk5_apply]
  have key : ∀ n : Fin 512, headOut
      (lastSums c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (iblk m c 0 t) (iblk m c 1 t) (iblk m c 2 t) (iblk m c 3 t) (iblk m c 4 t))
      (lastAccs c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (iblk m c 0 t) (iblk m c 1 t) (iblk m c 2 t) (iblk m c 3 t) (iblk m c 4 t)) r n = attended (softmax (scores chunks (argQ m c) (argK m c) (argKm m c))) (argV m c) (argVm m c)
      (ix3 (batch t) (rowOf (tile t) r) n) := by
    intro n
    obtain ⟨M, hM⟩ := last_seen c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (iblk m c 0 t) (iblk m c 1 t) (iblk m c 2 t) (iblk m c 3 t) (iblk m c 4 t) ⟨n.val / 64, by omega⟩
    exact (attended_quotient _ _ _ _ _ _ _ _ (seen_reference m c t r n (hM r ⟨n.val % 128, by omega⟩))
      (fun x => (scoreAt_real hq hk hkm _ _ _ x).1) (scoreAt_real hq hk hkm _ _ _ 0).2).symm
  simp only [key]

/-- A block equal entry by entry to its part of an array is what is written of it. -/
theorem block_eq (O : Vec Ideal S1x256x512 .bf16) (G : Vec Ideal S32x2048x512 .bf16)
    (h : ∀ r n, O (ix3 0 r n) = G (ix3 (batch t) (rowOf (tile t) r) n)) :
    (cfg0.win 6).cut (grid0.coords t) O = ((cfg0.win 6).blk t).view.read (Elt Ideal) G := by
  funext y
  show O y = G (((cfg0.win 6).blk t).view.emb y)
  have e : (y : S1x256x512.Idx) = ix3 0 (y 1) (y 2) := by
    refine (eq_ix3 (n0 := 1) (n1 := 256) (n2 := 512) y).trans ?_
    exact congrArg (fun a : Fin 1 => (ix3 a (y 1) (y 2) : S1x256x512.Idx)) (Subsingleton.elim _ _)
  exact (congrArg O e).trans ((h (y 1) (y 2)).trans (congrArg G ((out_emb t (y 1) (y 2)).symm.trans (congrArg _ e.symm))))

/-- Every entry of the result is in some grid point's block. -/
theorem out_cover (i : S32x2048x512.Idx) : ∃ t, (cfg0.win 6).flush t = true ∧ i ∈ ((cfg0.win 6).blk t).view.set := by
  obtain ⟨b, q, n, rfl⟩ : ∃ b q n, i = ix3 (n0 := 32) (n1 := 2048) (n2 := 512) b q n := ⟨i 0, i 1, i 2, eq_ix3 i⟩
  obtain ⟨e1, e2⟩ := point_coords b ⟨q.val / 256, by omega⟩
  have ht : 8 * b.val + q.val / 256 < cfg0.N := by show _ < 256; omega
  refine ⟨⟨8 * b.val + q.val / 256, ht⟩, flush6 _, ?_⟩
  have := ((cfg0.win 6).blk ⟨8 * b.val + q.val / 256, ht⟩).view.emb_mem_set (ix3 0 (⟨q.val % 256, by omega⟩ : Fin 256) n)
  rw [out_emb, e1, e2] at this
  have eq : rowOf ⟨q.val / 256, by omega⟩ ⟨q.val % 256, by omega⟩ = q := Fin.ext (by show 256 * (q.val / 256) + q.val % 256 = q.val; omega)
  rwa [eq] at this

include hq hk hkm in
/-- The kernel's result array is the reference's. -/
theorem arr_expected : (dats m 0 c).arrAt 6 cfg0.N = expected m c := by
  refine (dats m 0 c).arrAt_eq_of_cover 6 (expected m c) (fun t _ => ?_) out_cover
  rw [Value.flushed6_A]
  exact block_eq t _ _ (out_expected m c t hq hk hkm)

end Cert.KernelIdeal.Gen

end
-- ==== Proof.Finite.lean ====
/-
  What the precondition says: the queries and the keys hold real numbers.
-/
module

public import proofs.«01_k».proof.Pre_finite_scores
public import Idealize.ShloMosaic.Lib.ReduceAll
public import Idealize.ShloMosaic.Lib.Pointwise

@[expose] public section

noncomputable section

namespace Cert.Pre_finite_scores

open Idealize.ShloMosaic
open Facts

/-- The precondition's operations fit the shapes they are applied to. -/
theorem facts : Facts where
  bcast_S_S32x2048x1024 := by decide
  reducesTo_S32x2048x1024_S_d0_1_2 := by decide
  h_S_ := by decide
  bcast_S_S1x16x1024 := by decide
  reducesTo_S1x16x1024_S_d0_1_2 := by decide

/-- A number strictly between the two infinities is real. -/
theorem real_of_between {s : Shape} (x hi lo : FVec Ideal s .bf16) (i : s.Idx) (hhi : hi i = Ideal.ofBits .bf16 0x7F80#16)
    (hlo : lo i = Ideal.ofBits .bf16 0xFF80#16) (h : andi (cmpf .olt x hi) (cmpf .ogt x lo) i = 1#1) : ∃ a : ℝ, x i = a := by
  obtain ⟨h1, h2⟩ := IntOp.andi_eq_one.1 h
  have e1 : Ideal.ofBits .bf16 0x7F80#16 = ⊤ := by simp [Ideal.ofBits, Ideal.ieee]
  have e2 : Ideal.ofBits .bf16 0xFF80#16 = ⊥ := by simp [Ideal.ofBits, Ideal.ieee]
  have g1 : Ideal.cmp .olt (x i) (hi i) = 1#1 := h1
  have g2 : Ideal.cmp .ogt (x i) (lo i) = 1#1 := h2
  rw [hhi, e1] at g1
  rw [hlo, e2] at g2
  have n1 : x i ≠ ⊤ := by
    intro e
    rw [e] at g1
    simp [Ideal.cmp] at g1
  have n2 : x i ≠ ⊥ := by
    intro e
    rw [e] at g2
    simp [Ideal.cmp] at g2
  exact ⟨(x i).toReal, (EReal.coe_toReal n1 n2).symm⟩

/-- Where the precondition holds the queries, the keys and the prefix's keys are real. -/
theorem real_of_fn [Facts] (q k : FVec Ideal S32x2048x1024 .bf16) (v : FVec Ideal S32x2048x512 .bf16) (km : FVec Ideal S1x16x1024 .bf16)
    (vm : FVec Ideal S1x16x512 .bf16) (g : FVec Ideal S512 .f32) (h : fn q k v km vm g = fun _ => 1#1) :
    (∀ i, ∃ a : ℝ, q i = a) ∧ (∀ i, ∃ a : ℝ, k i = a) ∧ ∀ i, ∃ a : ℝ, km i = a := by
  have : Subsingleton S_.Idx := ⟨fun a b => funext fun i => i.elim0⟩
  have h0 := congrFun h (fun i => i.elim0)
  obtain ⟨h12, h3⟩ := IntOp.andi_eq_one.1 h0
  obtain ⟨h1, h2⟩ := IntOp.andi_eq_one.1 h12
  exact ⟨fun i => real_of_between q _ _ i rfl rfl (Host.reduce_andi_all _ _ _ _ _ h1 i),
    fun i => real_of_between k _ _ i rfl rfl (Host.reduce_andi_all _ _ _ _ _ h2 i),
    fun i => real_of_between km _ _ i rfl rfl (Host.reduce_andi_all _ _ _ _ _ h3 i)⟩

end Cert.Pre_finite_scores

end
-- ==== Proof.Attention.lean ====
/-
  The attention claim: the kernel and the reference end with equal results.
-/
module

public import proofs.«01_k».proof.Defs
public import proofs.«01_k».proof.Proof.Equal
public import proofs.«01_k».proof.Proof.Finite

@[expose] public section

noncomputable section

namespace Cert.Proof

open Idealize.ShloMosaic Idealize.ShloMosaic.TcCoe Idealize.SL.Sem

/-- On real queries and keys the attention kernel and its reference end with the same result, their arguments unchanged. -/
theorem attention : algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hargs
  refine ⟨fun c => Cert.KernelIdeal.Gen.expected m c, ?_, ?_⟩
  · refine (θ_run _ _ _).mono (fun r h c => ?_) (Cert.KernelIdeal.Value.run_blocks m g)
    obtain ⟨hq, hk, hkm⟩ := @Cert.Pre_finite_scores.real_of_fn Cert.Pre_finite_scores.facts _ _ _ _ _ _ (hpre c)
    exact ⟨(h c).1.trans (Cert.KernelIdeal.Gen.arr_expected m c hq hk hkm), (h c).2⟩
  · refine (θ_run _ _ _).mono (fun r h c => ?_) (Cert.ReferenceIdeal.Value.run (F := Ideal) m' g')
    obtain ⟨e0, e1, e2, e3, e4, e5⟩ := hargs c
    refine ⟨(h c).1.trans ((Cert.ReferenceIdeal.Value.result_stages m' c).trans ?_), (h c).2⟩
    rw [e0, e1, e2, e3, e4, e5]
    rfl

end Cert.Proof

end
-- ==== Proof.ProjBody.lean ====
/- What the projection's body leaves in each of its thirteen output buffers, and the proof that it does. -/
module

public import proofs.«01_k».proof.Proof.Gen.ProjIdeal.Frame.Runs
public import Idealize.ShloMosaic.Lib.VecWindow

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in output 0, the normalised latents, of the input blocks it reads. -/
def out30 (x0 : Vec F S1x32x1024 .f32) (x6 : Vec F S1x1024 .f32) (x7 : Vec F S1024x2304 .bf16) (x14 : Vec F S1x128 .f32) : Vec F S1x32x128 .f32 :=
  k0_pay11 (k0_pay2 x0 x6 x7) x14

/-- What the body leaves in output 1, the rotated positional keys, of the input blocks it reads. -/
def out31 (x0 : Vec F S1x32x1024 .f32) (x4 : Vec F S32x128 .f32) (x5 : Vec F S32x128 .f32) (x6 : Vec F S1x1024 .f32) (x7 : Vec F S1024x2304 .bf16) (x15 : Vec F S1x128 .f32) (x16 : Vec F S1x128 .f32) : Vec F S1x32x32 .f32 :=
  k0_pay16 (k0_pay13 (k0_pay2 x0 x6 x7)) (k0_pay14 (k0_pay2 x0 x6 x7)) (Scalar.ofBits .f32 0x3D000000#32) x15 x4 x16 x5

/-- What the body leaves in output 2, the queries, of the input blocks it reads. -/
def out32 (x0 : Vec F S1x32x1024 .f32) (x2 : Vec F S32x128 .f32) (x3 : Vec F S32x128 .f32) (x6 : Vec F S1x1024 .f32) (x7 : Vec F S1024x2304 .bf16) (x8 : Vec F S1x256 .f32) (x9 : Vec F S256x1024 .bf16) (x10 : Vec F S256x1024 .bf16) (x11 : Vec F S1x1024 .f32) (x12 : Vec F S1x1024 .f32) (x13 : Vec F S256x256 .bf16) : Vec F S1x32x1024 .bf16 :=
  k0_pay9 (k0_pay5 (k0_pay3 x0 x6 x7 x8) x10) (k0_pay6 (k0_pay4 x0 x6 x7 x8 x9) x13) (k0_pay7 x3) (k0_pay8 (k0_pay4 x0 x6 x7 x8 x9) x2 x11) x12

/-- What the body leaves in output 3, the keys of the attention, of the input blocks it reads. -/
def out33 (x0 : Vec F S1x32x1024 .f32) (x4 : Vec F S32x128 .f32) (x5 : Vec F S32x128 .f32) (x6 : Vec F S1x1024 .f32) (x7 : Vec F S1024x2304 .bf16) (x14 : Vec F S1x128 .f32) (x15 : Vec F S1x128 .f32) (x16 : Vec F S1x128 .f32) (x17 : Vec F S128x1024 .bf16) (x18 : Vec F S1x1024 .f32) (x19 : Vec F S256x256 .bf16) (x20 : Vec F S128x1024 .bf16) : Vec F S1x32x1024 .bf16 :=
  k0_pay23 (k0_pay15 (k0_pay13 (k0_pay2 x0 x6 x7)) (k0_pay14 (k0_pay2 x0 x6 x7)) (Scalar.ofBits .f32 0x3D000000#32) x15 x4 x16 x5) (k0_pay17 (k0_pay12 (k0_pay2 x0 x6 x7) x14) x17) x19 (k0_pay19 (k0_pay12 (k0_pay2 x0 x6 x7) x14) x17) (k0_pay20 (k0_pay12 (k0_pay2 x0 x6 x7) x14) x17) (k0_pay21 (k0_pay12 (k0_pay2 x0 x6 x7) x14) x17 x19) (k0_pay22 (k0_pay12 (k0_pay2 x0 x6 x7) x14) x17 x19) x18 x20

/-- What the body leaves in output 4, the values of the attention, of the input blocks it reads. -/
def out34 (x0 : Vec F S1x32x1024 .f32) (x6 : Vec F S1x1024 .f32) (x7 : Vec F S1024x2304 .bf16) (x14 : Vec F S1x128 .f32) (x21 : Vec F S128x512 .bf16) : Vec F S1x32x512 .bf16 :=
  k0_pay25 (k0_pay24 (k0_pay12 (k0_pay2 x0 x6 x7) x14) x21)

/-- What the body leaves in output 5, the receptance of the recurrence, of the input blocks it reads. -/
def out35 (x0 : Vec F S1x32x1024 .f32) (x1 : Vec F S1x1x1792 .f32) (x6 : Vec F S1x1024 .f32) (x7 : Vec F S1024x2304 .bf16) (x22 : Vec F S1x1792 .f32) : Vec F S1x32x512 .f32 :=
  k0_pay46 (k0_pay32 (k0_pay2 x0 x6 x7) (k0_pay27 x1) x22)

/-- What the body leaves in output 6, the decay of the recurrence, of the input blocks it reads. -/
def out36 (x0 : Vec F S1x32x1024 .f32) (x1 : Vec F S1x1x1792 .f32) (x6 : Vec F S1x1024 .f32) (x7 : Vec F S1024x2304 .bf16) (x22 : Vec F S1x1792 .f32) (x23 : Vec F S1x512 .f32) (x24 : Vec F S128x512 .bf16) : Vec F S1x32x512 .f32 :=
  k0_pay38 (k0_pay37 (k0_pay2 x0 x6 x7) (k0_pay27 x1) x22) x24 x23

/-- What the body leaves in output 7, the gated keys of the recurrence, of the input blocks it reads. -/
def out37 (x0 : Vec F S1x32x1024 .f32) (x1 : Vec F S1x1x1792 .f32) (x6 : Vec F S1x1024 .f32) (x7 : Vec F S1024x2304 .bf16) (x22 : Vec F S1x1792 .f32) (x25 : Vec F S1x512 .f32) (x26 : Vec F S128x512 .bf16) (x28 : Vec F S1x512 .f32) : Vec F S1x32x512 .f32 :=
  k0_pay47 (k0_pay33 (k0_pay2 x0 x6 x7) (k0_pay27 x1) x22) (k0_pay39 (k0_pay35 (k0_pay2 x0 x6 x7) (k0_pay27 x1) x22) x26 x25) x28

/-- What the body leaves in output 8, the values of the recurrence, of the input blocks it reads. -/
def out38 (x0 : Vec F S1x32x1024 .f32) (x1 : Vec F S1x1x1792 .f32) (x6 : Vec F S1x1024 .f32) (x7 : Vec F S1024x2304 .bf16) (x22 : Vec F S1x1792 .f32) : Vec F S1x32x512 .f32 :=
  k0_pay48 (k0_pay34 (k0_pay2 x0 x6 x7) (k0_pay27 x1) x22)

/-- What the body leaves in output 9, the normalised keys of the recurrence, of the input blocks it reads. -/
def out39 (x0 : Vec F S1x32x1024 .f32) (x1 : Vec F S1x1x1792 .f32) (x6 : Vec F S1x1024 .f32) (x7 : Vec F S1024x2304 .bf16) (x22 : Vec F S1x1792 .f32) (x27 : Vec F S1x512 .f32) (x29 : Vec F S256x256 .bf16) : Vec F S1x32x512 .f32 :=
  k0_pay49 (k0_pay40 (k0_pay33 (k0_pay2 x0 x6 x7) (k0_pay27 x1) x22) x27) x29 (k0_pay42 (k0_pay33 (k0_pay2 x0 x6 x7) (k0_pay27 x1) x22) x27) (k0_pay43 (k0_pay33 (k0_pay2 x0 x6 x7) (k0_pay27 x1) x22) x27) (k0_pay44 (k0_pay33 (k0_pay2 x0 x6 x7) (k0_pay27 x1) x22) x27 x29)

/-- What the body leaves in output 10, those keys times the gate, of the input blocks it reads. -/
def out40 (x0 : Vec F S1x32x1024 .f32) (x1 : Vec F S1x1x1792 .f32) (x6 : Vec F S1x1024 .f32) (x7 : Vec F S1024x2304 .bf16) (x22 : Vec F S1x1792 .f32) (x25 : Vec F S1x512 .f32) (x26 : Vec F S128x512 .bf16) (x27 : Vec F S1x512 .f32) (x29 : Vec F S256x256 .bf16) : Vec F S1x32x512 .f32 :=
  k0_pay1 (k0_pay50 (k0_pay39 (k0_pay35 (k0_pay2 x0 x6 x7) (k0_pay27 x1) x22) x26 x25) (k0_pay40 (k0_pay33 (k0_pay2 x0 x6 x7) (k0_pay27 x1) x22) x27) x29 (k0_pay42 (k0_pay33 (k0_pay2 x0 x6 x7) (k0_pay27 x1) x22) x27) (k0_pay43 (k0_pay33 (k0_pay2 x0 x6 x7) (k0_pay27 x1) x22) x27) (k0_pay44 (k0_pay33 (k0_pay2 x0 x6 x7) (k0_pay27 x1) x22) x27 x29))

/-- What the body leaves in output 11, the latents of the output gate, of the input blocks it reads. -/
def out41 (x0 : Vec F S1x32x1024 .f32) (x1 : Vec F S1x1x1792 .f32) (x6 : Vec F S1x1024 .f32) (x7 : Vec F S1024x2304 .bf16) (x22 : Vec F S1x1792 .f32) : Vec F S1x32x128 .f32 :=
  k0_pay36 (k0_pay2 x0 x6 x7) (k0_pay27 x1) x22

/-- What the body leaves in output 12, the last row, carried to the next call, of the input blocks it reads. -/
def out42 (x0 : Vec F S1x32x1024 .f32) (x6 : Vec F S1x1024 .f32) (x7 : Vec F S1024x2304 .bf16) : Vec F S1x1x1792 .f32 :=
  k0_pay30 (k0_pay2 x0 x6 x7)

set_option maxHeartbeats 6000000 in
/-- The body on whole buffers: the inputs keep their blocks, each output ends with the block named above,
    and the scratch row is left with something. -/
theorem body_run (c : Dev nD) (i : grid0.Coords) (arg2 : Memref sig .tc .vmem S1x32x1024 .f32) (harg2 : arg2.IsWhole) (arg3 : Memref sig .tc .vmem S1x1x1792 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S1x1024 .f32) (harg8 : arg8.IsWhole) (arg9 : Memref sig .tc .vmem S1024x2304 .bf16) (harg9 : arg9.IsWhole) (arg10 : Memref sig .tc .vmem S1x256 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x256 .bf16) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x1024 .bf16) (harg19 : arg19.IsWhole) (arg20 : Memref sig .tc .vmem S1x1024 .f32) (harg20 : arg20.IsWhole) (arg21 : Memref sig .tc .vmem S256x256 .bf16) (harg21 : arg21.IsWhole) (arg22 : Memref sig .tc .vmem S128x1024 .bf16) (harg22 : arg22.IsWhole) (arg23 : Memref sig .tc .vmem S128x512 .bf16) (harg23 : arg23.IsWhole) (arg24 : Memref sig .tc .vmem S1x1792 .f32) (harg24 : arg24.IsWhole) (arg25 : Memref sig .tc .vmem S1x512 .f32) (harg25 : arg25.IsWhole) (arg26 : Memref sig .tc .vmem S128x512 .bf16) (harg26 : arg26.IsWhole) (arg27 : Memref sig .tc .vmem S1x512 .f32) (harg27 : arg27.IsWhole) (arg28 : Memref sig .tc .vmem S128x512 .bf16) (harg28 : arg28.IsWhole) (arg29 : Memref sig .tc .vmem S1x512 .f32) (harg29 : arg29.IsWhole) (arg30 : Memref sig .tc .vmem S1x512 .f32) (harg30 : arg30.IsWhole) (arg31 : Memref sig .tc .vmem S256x256 .bf16) (harg31 : arg31.IsWhole) (arg32 : Memref sig .tc .vmem S1x32x128 .f32) (harg32 : arg32.IsWhole) (arg33 : Memref sig .tc .vmem S1x32x32 .f32) (harg33 : arg33.IsWhole) (arg34 : Memref sig .tc .vmem S1x32x1024 .bf16) (harg34 : arg34.IsWhole) (arg35 : Memref sig .tc .vmem S1x32x1024 .bf16) (harg35 : arg35.IsWhole) (arg36 : Memref sig .tc .vmem S1x32x512 .bf16) (harg36 : arg36.IsWhole) (arg37 : Memref sig .tc .vmem S1x32x512 .f32) (harg37 : arg37.IsWhole) (arg38 : Memref sig .tc .vmem S1x32x512 .f32) (harg38 : arg38.IsWhole) (arg39 : Memref sig .tc .vmem S1x32x512 .f32) (harg39 : arg39.IsWhole) (arg40 : Memref sig .tc .vmem S1x32x512 .f32) (harg40 : arg40.IsWhole) (arg41 : Memref sig .tc .vmem S1x32x512 .f32) (harg41 : arg41.IsWhole) (arg42 : Memref sig .tc .vmem S1x32x512 .f32) (harg42 : arg42.IsWhole) (arg43 : Memref sig .tc .vmem S1x32x128 .f32) (harg43 : arg43.IsWhole) (arg44 : Memref sig .tc .vmem S1x1x1792 .f32) (harg44 : arg44.IsWhole) (arg45 : Memref sig .tc .vmem S1x1792 .f32) (harg45 : arg45.IsWhole) (hc0 : cond0_0 i)
    (x0 : Vec F S1x32x1024 .f32) (x1 : Vec F S1x1x1792 .f32) (x2 : Vec F S32x128 .f32) (x3 : Vec F S32x128 .f32) (x4 : Vec F S32x128 .f32) (x5 : Vec F S32x128 .f32) (x6 : Vec F S1x1024 .f32) (x7 : Vec F S1024x2304 .bf16) (x8 : Vec F S1x256 .f32) (x9 : Vec F S256x1024 .bf16) (x10 : Vec F S256x1024 .bf16) (x11 : Vec F S1x1024 .f32) (x12 : Vec F S1x1024 .f32) (x13 : Vec F S256x256 .bf16) (x14 : Vec F S1x128 .f32) (x15 : Vec F S1x128 .f32) (x16 : Vec F S1x128 .f32) (x17 : Vec F S128x1024 .bf16) (x18 : Vec F S1x1024 .f32) (x19 : Vec F S256x256 .bf16) (x20 : Vec F S128x1024 .bf16) (x21 : Vec F S128x512 .bf16) (x22 : Vec F S1x1792 .f32) (x23 : Vec F S1x512 .f32) (x24 : Vec F S128x512 .bf16) (x25 : Vec F S1x512 .f32) (x26 : Vec F S128x512 .bf16) (x27 : Vec F S1x512 .f32) (x28 : Vec F S1x512 .f32) (x29 : Vec F S256x256 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare (out30 x0 x6 x7 x14) ∗ owns (c : Thread nD τ) arg33 fullShare (out31 x0 x4 x5 x6 x7 x15 x16) ∗ owns (c : Thread nD τ) arg34 fullShare (out32 x0 x2 x3 x6 x7 x8 x9 x10 x11 x12 x13) ∗ owns (c : Thread nD τ) arg35 fullShare (out33 x0 x4 x5 x6 x7 x14 x15 x16 x17 x18 x19 x20) ∗ owns (c : Thread nD τ) arg36 fullShare (out34 x0 x6 x7 x14 x21) ∗ owns (c : Thread nD τ) arg37 fullShare (out35 x0 x1 x6 x7 x22) ∗ owns (c : Thread nD τ) arg38 fullShare (out36 x0 x1 x6 x7 x22 x23 x24) ∗ owns (c : Thread nD τ) arg39 fullShare (out37 x0 x1 x6 x7 x22 x25 x26 x28) ∗ owns (c : Thread nD τ) arg40 fullShare (out38 x0 x1 x6 x7 x22) ∗ owns (c : Thread nD τ) arg41 fullShare (out39 x0 x1 x6 x7 x22 x27 x29) ∗ owns (c : Thread nD τ) arg42 fullShare (out40 x0 x1 x6 x7 x22 x25 x26 x27 x29) ∗ owns (c : Thread nD τ) arg43 fullShare (out41 x0 x1 x6 x7 x22) ∗ owns (c : Thread nD τ) arg44 fullShare (out42 x0 x6 x7) ∗ (∃ d, owns (c : Thread nD τ) arg45 fullShare d)) -∗ K ⟨⟩))
    ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%ds0, %fs0, -, HS0⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24; subst hf25; subst hf26; subst hf27; subst hf28; subst hf29
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists _; isplitr; swap; · iexact H30
    ipureintro
    refine (View.read_writes_full _ _ _ _ _).trans ?_
    delta out30 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H31]
  · iexists _; isplitr; swap; · iexact H31
    ipureintro
    refine (View.read_writes_full _ _ _ _ _).trans ?_
    delta out31 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H32]
  · iexists _; isplitr; swap; · iexact H32
    ipureintro
    refine (View.read_writes_full _ _ _ _ _).trans ?_
    delta out32 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H33]
  · iexists _; isplitr; swap; · iexact H33
    ipureintro
    refine (View.read_writes_full _ _ _ _ _).trans ?_
    delta out33 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H34]
  · iexists _; isplitr; swap; · iexact H34
    ipureintro
    refine (View.read_writes_full _ _ _ _ _).trans ?_
    delta out34 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H35]
  · iexists _; isplitr; swap; · iexact H35
    ipureintro
    refine (View.read_writes_full _ _ _ _ _).trans ?_
    delta out35 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H36]
  · iexists _; isplitr; swap; · iexact H36
    ipureintro
    refine (View.read_writes_full _ _ _ _ _).trans ?_
    delta out36 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H37]
  · iexists _; isplitr; swap; · iexact H37
    ipureintro
    refine (View.read_writes_full _ _ _ _ _).trans ?_
    delta out37 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H38]
  · iexists _; isplitr; swap; · iexact H38
    ipureintro
    refine (View.read_writes_full _ _ _ _ _).trans ?_
    delta out38 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H39]
  · iexists _; isplitr; swap; · iexact H39
    ipureintro
    refine (View.read_writes_full _ _ _ _ _).trans ?_
    delta out39 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H40]
  · iexists _; isplitr; swap; · iexact H40
    ipureintro
    refine (View.read_writes_full _ _ _ _ _).trans ?_
    delta out40 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H41]
  · iexists _; isplitr; swap; · iexact H41
    ipureintro
    refine (View.read_writes_full _ _ _ _ _).trans ?_
    delta out41 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.v204 body_run.sl.HS0_1 body_run.sl.cst_53
    simp (config := { proj := false }) only [View.readAt_full, View.readCov_full]
  isplitl [H42]
  · iexists _; isplitr; swap; · iexact H42
    ipureintro
    refine (View.read_writes_full _ _ _ _ _).trans ?_
    exact congrArg k0_pay30 (congr (congr (congrArg k0_pay2 (View.readAt_full _ _ _)) (View.readAt_full _ _ _)) (View.readAt_full _ _ _))
  iexists _; iexists _; isplitr; swap; · iexact HS0
  ipureintro; rfl

end Cert.ProjIdeal.Gen

end
-- ==== Proof.ProjFrame.lean ====
/- The projection's launch: the data of its one pipeline, with what the body leaves in each output, and the run
   of the whole program from it. -/
module

public import proofs.«01_k».proof.Proof.ProjBody
public import Idealize.ShloMosaic.Lib.Claim

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data: the arrays as the launch finds them, an input's buffer at its block at every point, an
    output's at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => out30 (iblk m c 0 t) (iblk m c 6 t) (iblk m c 7 t) (iblk m c 14 t)
    | ⟨31, _⟩ => out31 (iblk m c 0 t) (iblk m c 4 t) (iblk m c 5 t) (iblk m c 6 t) (iblk m c 7 t) (iblk m c 15 t) (iblk m c 16 t)
    | ⟨32, _⟩ => out32 (iblk m c 0 t) (iblk m c 2 t) (iblk m c 3 t) (iblk m c 6 t) (iblk m c 7 t) (iblk m c 8 t) (iblk m c 9 t) (iblk m c 10 t) (iblk m c 11 t) (iblk m c 12 t) (iblk m c 13 t)
    | ⟨33, _⟩ => out33 (iblk m c 0 t) (iblk m c 4 t) (iblk m c 5 t) (iblk m c 6 t) (iblk m c 7 t) (iblk m c 14 t) (iblk m c 15 t) (iblk m c 16 t) (iblk m c 17 t) (iblk m c 18 t) (iblk m c 19 t) (iblk m c 20 t)
    | ⟨34, _⟩ => out34 (iblk m c 0 t) (iblk m c 6 t) (iblk m c 7 t) (iblk m c 14 t) (iblk m c 21 t)
    | ⟨35, _⟩ => out35 (iblk m c 0 t) (iblk m c 1 t) (iblk m c 6 t) (iblk m c 7 t) (iblk m c 22 t)
    | ⟨36, _⟩ => out36 (iblk m c 0 t) (iblk m c 1 t) (iblk m c 6 t) (iblk m c 7 t) (iblk m c 22 t) (iblk m c 23 t) (iblk m c 24 t)
    | ⟨37, _⟩ => out37 (iblk m c 0 t) (iblk m c 1 t) (iblk m c 6 t) (iblk m c 7 t) (iblk m c 22 t) (iblk m c 25 t) (iblk m c 26 t) (iblk m c 28 t)
    | ⟨38, _⟩ => out38 (iblk m c 0 t) (iblk m c 1 t) (iblk m c 6 t) (iblk m c 7 t) (iblk m c 22 t)
    | ⟨39, _⟩ => out39 (iblk m c 0 t) (iblk m c 1 t) (iblk m c 6 t) (iblk m c 7 t) (iblk m c 22 t) (iblk m c 27 t) (iblk m c 29 t)
    | ⟨40, _⟩ => out40 (iblk m c 0 t) (iblk m c 1 t) (iblk m c 6 t) (iblk m c 7 t) (iblk m c 22 t) (iblk m c 25 t) (iblk m c 26 t) (iblk m c 27 t) (iblk m c 29 t)
    | ⟨41, _⟩ => out41 (iblk m c 0 t) (iblk m c 1 t) (iblk m c 6 t) (iblk m c 7 t) (iblk m c 22 t)
    | ⟨42, _⟩ => out42 (iblk m c 0 t) (iblk m c 6 t) (iblk m c 7 t)
    | ⟨_ + 43, h⟩ => absurd h (Nat.not_lt.2 (Nat.le_add_left _ _))
  Φ _ := Pipeline.ΦA spec0 c
  q _ := fullShare
  owed _ := 0

/-- The data's arrays are those the launch finds. -/
theorem A_eq (c : Dev nD) (w : Fin cfg0.W) : (dats m 0 c).A w = V m c (Pipeline.arrRef spec0 w) := by dsimp only [dats]

/-- Buffer 0 after the body. -/
theorem after0_0 (c : Dev nD) (t : Fin cfg0.N) : (dats m 0 c).after 0 t = iblk m c 0 t := by dsimp only [dats]
/-- Buffer 1 after the body. -/
theorem after0_1 (c : Dev nD) (t : Fin cfg0.N) : (dats m 0 c).after 1 t = iblk m c 1 t := by dsimp only [dats]
/-- Buffer 2 after the body. -/
theorem after0_2 (c : Dev nD) (t : Fin cfg0.N) : (dats m 0 c).after 2 t = iblk m c 2 t := by dsimp only [dats]
/-- Buffer 3 after the body. -/
theorem after0_3 (c : Dev nD) (t : Fin cfg0.N) : (dats m 0 c).after 3 t = iblk m c 3 t := by dsimp only [dats]
/-- Buffer 4 after the body. -/
theorem after0_4 (c : Dev nD) (t : Fin cfg0.N) : (dats m 0 c).after 4 t = iblk m c 4 t := by dsimp only [dats]
/-- Buffer 5 after the body. -/
theorem after0_5 (c : Dev nD) (t : Fin cfg0.N) : (dats m 0 c).after 5 t = iblk m c 5 t := by dsimp only [dats]
/-- Buffer 6 after the body. -/
theorem after0_6 (c : Dev nD) (t : Fin cfg0.N) : (dats m 0 c).after 6 t = iblk m c 6 t := by dsimp only [dats]
/-- Buffer 7 after the body. -/
theorem after0_7 (c : Dev nD) (t : Fin cfg0.N) : (dats m 0 c).after 7 t = iblk m c 7 t := by dsimp only [dats]
/-- Buffer 8 after the body. -/
theorem after0_8 (c : Dev nD) (t : Fin cfg0.N) : (dats m 0 c).after 8 t = iblk m c 8 t := by dsimp only [dats]
/-- Buffer 9 after the body. -/
theorem after0_9 (c : Dev nD) (t : Fin cfg0.N) : (dats m 0 c).after 9 t = iblk m c 9 t := by dsimp only [dats]
/-- Buffer 10 after the body. -/
theorem after0_10 (c : Dev nD) (t : Fin cfg0.N) : (dats m 0 c).after 10 t = iblk m c 10 t := by dsimp only [dats]
/-- Buffer 11 after the body. -/
theorem after0_11 (c : Dev nD) (t : Fin cfg0.N) : (dats m 0 c).after 11 t = iblk m c 11 t := by dsimp only [dats]
/-- Buffer 12 after the body. -/
theorem after0_12 (c : Dev nD) (t : Fin cfg0.N) : (dats m 0 c).after 12 t = iblk m c 12 t := by dsimp only [dats]
/-- Buffer 13 after the body. -/
theorem after0_13 (c : Dev nD) (t : Fin cfg0.N) : (dats m 0 c).after 13 t = iblk m c 13 t := by dsimp only [dats]
/-- Buffer 14 after the body. -/
theorem after0_14 (c : Dev nD) (t : Fin cfg0.N) : (dats m 0 c).after 14 t = iblk m c 14 t := by dsimp only [dats]
/-- Buffer 15 after the body. -/
theorem after0_15 (c : Dev nD) (t : Fin cfg0.N) : (dats m 0 c).after 15 t = iblk m c 15 t := by dsimp only [dats]
/-- Buffer 16 after the body. -/
theorem after0_16 (c : Dev nD) (t : Fin cfg0.N) : (dats m 0 c).after 16 t = iblk m c 16 t := by dsimp only [dats]
/-- Buffer 17 after the body. -/
theorem after0_17 (c : Dev nD) (t : Fin cfg0.N) : (dats m 0 c).after 17 t = iblk m c 17 t := by dsimp only [dats]
/-- Buffer 18 after the body. -/
theorem after0_18 (c : Dev nD) (t : Fin cfg0.N) : (dats m 0 c).after 18 t = iblk m c 18 t := by dsimp only [dats]
/-- Buffer 19 after the body. -/
theorem after0_19 (c : Dev nD) (t : Fin cfg0.N) : (dats m 0 c).after 19 t = iblk m c 19 t := by dsimp only [dats]
/-- Buffer 20 after the body. -/
theorem after0_20 (c : Dev nD) (t : Fin cfg0.N) : (dats m 0 c).after 20 t = iblk m c 20 t := by dsimp only [dats]
/-- Buffer 21 after the body. -/
theorem after0_21 (c : Dev nD) (t : Fin cfg0.N) : (dats m 0 c).after 21 t = iblk m c 21 t := by dsimp only [dats]
/-- Buffer 22 after the body. -/
theorem after0_22 (c : Dev nD) (t : Fin cfg0.N) : (dats m 0 c).after 22 t = iblk m c 22 t := by dsimp only [dats]
/-- Buffer 23 after the body. -/
theorem after0_23 (c : Dev nD) (t : Fin cfg0.N) : (dats m 0 c).after 23 t = iblk m c 23 t := by dsimp only [dats]
/-- Buffer 24 after the body. -/
theorem after0_24 (c : Dev nD) (t : Fin cfg0.N) : (dats m 0 c).after 24 t = iblk m c 24 t := by dsimp only [dats]
/-- Buffer 25 after the body. -/
theorem after0_25 (c : Dev nD) (t : Fin cfg0.N) : (dats m 0 c).after 25 t = iblk m c 25 t := by dsimp only [dats]
/-- Buffer 26 after the body. -/
theorem after0_26 (c : Dev nD) (t : Fin cfg0.N) : (dats m 0 c).after 26 t = iblk m c 26 t := by dsimp only [dats]
/-- Buffer 27 after the body. -/
theorem after0_27 (c : Dev nD) (t : Fin cfg0.N) : (dats m 0 c).after 27 t = iblk m c 27 t := by dsimp only [dats]
/-- Buffer 28 after the body. -/
theorem after0_28 (c : Dev nD) (t : Fin cfg0.N) : (dats m 0 c).after 28 t = iblk m c 28 t := by dsimp only [dats]
/-- Buffer 29 after the body. -/
theorem after0_29 (c : Dev nD) (t : Fin cfg0.N) : (dats m 0 c).after 29 t = iblk m c 29 t := by dsimp only [dats]
/-- Buffer 30 after the body. -/
theorem after0_30 (c : Dev nD) (t : Fin cfg0.N) : (dats m 0 c).after 30 t = out30 (iblk m c 0 t) (iblk m c 6 t) (iblk m c 7 t) (iblk m c 14 t) := by dsimp only [dats]
/-- Buffer 31 after the body. -/
theorem after0_31 (c : Dev nD) (t : Fin cfg0.N) : (dats m 0 c).after 31 t = out31 (iblk m c 0 t) (iblk m c 4 t) (iblk m c 5 t) (iblk m c 6 t) (iblk m c 7 t) (iblk m c 15 t) (iblk m c 16 t) := by dsimp only [dats]
/-- Buffer 32 after the body. -/
theorem after0_32 (c : Dev nD) (t : Fin cfg0.N) : (dats m 0 c).after 32 t = out32 (iblk m c 0 t) (iblk m c 2 t) (iblk m c 3 t) (iblk m c 6 t) (iblk m c 7 t) (iblk m c 8 t) (iblk m c 9 t) (iblk m c 10 t) (iblk m c 11 t) (iblk m c 12 t) (iblk m c 13 t) := by dsimp only [dats]
/-- Buffer 33 after the body. -/
theorem after0_33 (c : Dev nD) (t : Fin cfg0.N) : (dats m 0 c).after 33 t = out33 (iblk m c 0 t) (iblk m c 4 t) (iblk m c 5 t) (iblk m c 6 t) (iblk m c 7 t) (iblk m c 14 t) (iblk m c 15 t) (iblk m c 16 t) (iblk m c 17 t) (iblk m c 18 t) (iblk m c 19 t) (iblk m c 20 t) := by dsimp only [dats]
/-- Buffer 34 after the body. -/
theorem after0_34 (c : Dev nD) (t : Fin cfg0.N) : (dats m 0 c).after 34 t = out34 (iblk m c 0 t) (iblk m c 6 t) (iblk m c 7 t) (iblk m c 14 t) (iblk m c 21 t) := by dsimp only [dats]
/-- Buffer 35 after the body. -/
theorem after0_35 (c : Dev nD) (t : Fin cfg0.N) : (dats m 0 c).after 35 t = out35 (iblk m c 0 t) (iblk m c 1 t) (iblk m c 6 t) (iblk m c 7 t) (iblk m c 22 t) := by dsimp only [dats]
/-- Buffer 36 after the body. -/
theorem after0_36 (c : Dev nD) (t : Fin cfg0.N) : (dats m 0 c).after 36 t = out36 (iblk m c 0 t) (iblk m c 1 t) (iblk m c 6 t) (iblk m c 7 t) (iblk m c 22 t) (iblk m c 23 t) (iblk m c 24 t) := by dsimp only [dats]
/-- Buffer 37 after the body. -/
theorem after0_37 (c : Dev nD) (t : Fin cfg0.N) : (dats m 0 c).after 37 t = out37 (iblk m c 0 t) (iblk m c 1 t) (iblk m c 6 t) (iblk m c 7 t) (iblk m c 22 t) (iblk m c 25 t) (iblk m c 26 t) (iblk m c 28 t) := by dsimp only [dats]
/-- Buffer 38 after the body. -/
theorem after0_38 (c : Dev nD) (t : Fin cfg0.N) : (dats m 0 c).after 38 t = out38 (iblk m c 0 t) (iblk m c 1 t) (iblk m c 6 t) (iblk m c 7 t) (iblk m c 22 t) := by dsimp only [dats]
/-- Buffer 39 after the body. -/
theorem after0_39 (c : Dev nD) (t : Fin cfg0.N) : (dats m 0 c).after 39 t = out39 (iblk m c 0 t) (iblk m c 1 t) (iblk m c 6 t) (iblk m c 7 t) (iblk m c 22 t) (iblk m c 27 t) (iblk m c 29 t) := by dsimp only [dats]
/-- Buffer 40 after the body. -/
theorem after0_40 (c : Dev nD) (t : Fin cfg0.N) : (dats m 0 c).after 40 t = out40 (iblk m c 0 t) (iblk m c 1 t) (iblk m c 6 t) (iblk m c 7 t) (iblk m c 22 t) (iblk m c 25 t) (iblk m c 26 t) (iblk m c 27 t) (iblk m c 29 t) := by dsimp only [dats]
/-- Buffer 41 after the body. -/
theorem after0_41 (c : Dev nD) (t : Fin cfg0.N) : (dats m 0 c).after 41 t = out41 (iblk m c 0 t) (iblk m c 1 t) (iblk m c 6 t) (iblk m c 7 t) (iblk m c 22 t) := by dsimp only [dats]
/-- Buffer 42 after the body. -/
theorem after0_42 (c : Dev nD) (t : Fin cfg0.N) : (dats m 0 c).after 42 t = out42 (iblk m c 0 t) (iblk m c 6 t) (iblk m c 7 t) := by dsimp only [dats]

/-- Input buffer 0 before the body. -/
theorem before0_0 (c : Dev nD) (t : Fin cfg0.N) (d) : (dats m 0 c).before 0 t d = iblk m c 0 t :=
  before0_0_of m (dats m 0 c) (A_eq m c 0) (after0_0 m c) t d
/-- Input buffer 1 before the body. -/
theorem before0_1 (c : Dev nD) (t : Fin cfg0.N) (d) : (dats m 0 c).before 1 t d = iblk m c 1 t :=
  before0_1_of m (dats m 0 c) (A_eq m c 1) (after0_1 m c) t d
/-- Input buffer 2 before the body. -/
theorem before0_2 (c : Dev nD) (t : Fin cfg0.N) (d) : (dats m 0 c).before 2 t d = iblk m c 2 t :=
  before0_2_of m (dats m 0 c) (A_eq m c 2) (after0_2 m c) t d
/-- Input buffer 3 before the body. -/
theorem before0_3 (c : Dev nD) (t : Fin cfg0.N) (d) : (dats m 0 c).before 3 t d = iblk m c 3 t :=
  before0_3_of m (dats m 0 c) (A_eq m c 3) (after0_3 m c) t d
/-- Input buffer 4 before the body. -/
theorem before0_4 (c : Dev nD) (t : Fin cfg0.N) (d) : (dats m 0 c).before 4 t d = iblk m c 4 t :=
  before0_4_of m (dats m 0 c) (A_eq m c 4) (after0_4 m c) t d
/-- Input buffer 5 before the body. -/
theorem before0_5 (c : Dev nD) (t : Fin cfg0.N) (d) : (dats m 0 c).before 5 t d = iblk m c 5 t :=
  before0_5_of m (dats m 0 c) (A_eq m c 5) (after0_5 m c) t d
/-- Input buffer 6 before the body. -/
theorem before0_6 (c : Dev nD) (t : Fin cfg0.N) (d) : (dats m 0 c).before 6 t d = iblk m c 6 t :=
  before0_6_of m (dats m 0 c) (A_eq m c 6) (after0_6 m c) t d
/-- Input buffer 7 before the body. -/
theorem before0_7 (c : Dev nD) (t : Fin cfg0.N) (d) : (dats m 0 c).before 7 t d = iblk m c 7 t :=
  before0_7_of m (dats m 0 c) (A_eq m c 7) (after0_7 m c) t d
/-- Input buffer 8 before the body. -/
theorem before0_8 (c : Dev nD) (t : Fin cfg0.N) (d) : (dats m 0 c).before 8 t d = iblk m c 8 t :=
  before0_8_of m (dats m 0 c) (A_eq m c 8) (after0_8 m c) t d
/-- Input buffer 9 before the body. -/
theorem before0_9 (c : Dev nD) (t : Fin cfg0.N) (d) : (dats m 0 c).before 9 t d = iblk m c 9 t :=
  before0_9_of m (dats m 0 c) (A_eq m c 9) (after0_9 m c) t d
/-- Input buffer 10 before the body. -/
theorem before0_10 (c : Dev nD) (t : Fin cfg0.N) (d) : (dats m 0 c).before 10 t d = iblk m c 10 t :=
  before0_10_of m (dats m 0 c) (A_eq m c 10) (after0_10 m c) t d
/-- Input buffer 11 before the body. -/
theorem before0_11 (c : Dev nD) (t : Fin cfg0.N) (d) : (dats m 0 c).before 11 t d = iblk m c 11 t :=
  before0_11_of m (dats m 0 c) (A_eq m c 11) (after0_11 m c) t d
/-- Input buffer 12 before the body. -/
theorem before0_12 (c : Dev nD) (t : Fin cfg0.N) (d) : (dats m 0 c).before 12 t d = iblk m c 12 t :=
  before0_12_of m (dats m 0 c) (A_eq m c 12) (after0_12 m c) t d
/-- Input buffer 13 before the body. -/
theorem before0_13 (c : Dev nD) (t : Fin cfg0.N) (d) : (dats m 0 c).before 13 t d = iblk m c 13 t :=
  before0_13_of m (dats m 0 c) (A_eq m c 13) (after0_13 m c) t d
/-- Input buffer 14 before the body. -/
theorem before0_14 (c : Dev nD) (t : Fin cfg0.N) (d) : (dats m 0 c).before 14 t d = iblk m c 14 t :=
  before0_14_of m (dats m 0 c) (A_eq m c 14) (after0_14 m c) t d
/-- Input buffer 15 before the body. -/
theorem before0_15 (c : Dev nD) (t : Fin cfg0.N) (d) : (dats m 0 c).before 15 t d = iblk m c 15 t :=
  before0_15_of m (dats m 0 c) (A_eq m c 15) (after0_15 m c) t d
/-- Input buffer 16 before the body. -/
theorem before0_16 (c : Dev nD) (t : Fin cfg0.N) (d) : (dats m 0 c).before 16 t d = iblk m c 16 t :=
  before0_16_of m (dats m 0 c) (A_eq m c 16) (after0_16 m c) t d
/-- Input buffer 17 before the body. -/
theorem before0_17 (c : Dev nD) (t : Fin cfg0.N) (d) : (dats m 0 c).before 17 t d = iblk m c 17 t :=
  before0_17_of m (dats m 0 c) (A_eq m c 17) (after0_17 m c) t d
/-- Input buffer 18 before the body. -/
theorem before0_18 (c : Dev nD) (t : Fin cfg0.N) (d) : (dats m 0 c).before 18 t d = iblk m c 18 t :=
  before0_18_of m (dats m 0 c) (A_eq m c 18) (after0_18 m c) t d
/-- Input buffer 19 before the body. -/
theorem before0_19 (c : Dev nD) (t : Fin cfg0.N) (d) : (dats m 0 c).before 19 t d = iblk m c 19 t :=
  before0_19_of m (dats m 0 c) (A_eq m c 19) (after0_19 m c) t d
/-- Input buffer 20 before the body. -/
theorem before0_20 (c : Dev nD) (t : Fin cfg0.N) (d) : (dats m 0 c).before 20 t d = iblk m c 20 t :=
  before0_20_of m (dats m 0 c) (A_eq m c 20) (after0_20 m c) t d
/-- Input buffer 21 before the body. -/
theorem before0_21 (c : Dev nD) (t : Fin cfg0.N) (d) : (dats m 0 c).before 21 t d = iblk m c 21 t :=
  before0_21_of m (dats m 0 c) (A_eq m c 21) (after0_21 m c) t d
/-- Input buffer 22 before the body. -/
theorem before0_22 (c : Dev nD) (t : Fin cfg0.N) (d) : (dats m 0 c).before 22 t d = iblk m c 22 t :=
  before0_22_of m (dats m 0 c) (A_eq m c 22) (after0_22 m c) t d
/-- Input buffer 23 before the body. -/
theorem before0_23 (c : Dev nD) (t : Fin cfg0.N) (d) : (dats m 0 c).before 23 t d = iblk m c 23 t :=
  before0_23_of m (dats m 0 c) (A_eq m c 23) (after0_23 m c) t d
/-- Input buffer 24 before the body. -/
theorem before0_24 (c : Dev nD) (t : Fin cfg0.N) (d) : (dats m 0 c).before 24 t d = iblk m c 24 t :=
  before0_24_of m (dats m 0 c) (A_eq m c 24) (after0_24 m c) t d
/-- Input buffer 25 before the body. -/
theorem before0_25 (c : Dev nD) (t : Fin cfg0.N) (d) : (dats m 0 c).before 25 t d = iblk m c 25 t :=
  before0_25_of m (dats m 0 c) (A_eq m c 25) (after0_25 m c) t d
/-- Input buffer 26 before the body. -/
theorem before0_26 (c : Dev nD) (t : Fin cfg0.N) (d) : (dats m 0 c).before 26 t d = iblk m c 26 t :=
  before0_26_of m (dats m 0 c) (A_eq m c 26) (after0_26 m c) t d
/-- Input buffer 27 before the body. -/
theorem before0_27 (c : Dev nD) (t : Fin cfg0.N) (d) : (dats m 0 c).before 27 t d = iblk m c 27 t :=
  before0_27_of m (dats m 0 c) (A_eq m c 27) (after0_27 m c) t d
/-- Input buffer 28 before the body. -/
theorem before0_28 (c : Dev nD) (t : Fin cfg0.N) (d) : (dats m 0 c).before 28 t d = iblk m c 28 t :=
  before0_28_of m (dats m 0 c) (A_eq m c 28) (after0_28 m c) t d
/-- Input buffer 29 before the body. -/
theorem before0_29 (c : Dev nD) (t : Fin cfg0.N) (d) : (dats m 0 c).before 29 t d = iblk m c 29 t :=
  before0_29_of m (dats m 0 c) (A_eq m c 29) (after0_29 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t))

set_option maxHeartbeats 4400000 in
/-- The body at any point, from its blocks to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [HS0]; · iexact HS0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  iexact H42

/-- The launch's table names this body at every point. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends, with every array as the data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)) :=
  frame_of m ρ (dats m) (A_eq m) (run_main m ρ)

/-- The arguments end as they were and every semaphore at zero. -/
theorem frame : θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)) ∧ r.2.sem = fun _ => 0) :=
  θ_run_and (unchanged m ρ) ((θ_run defs _ _).mono (fun _ h => h.2) (run_main_quiescent m ρ))

set_option maxHeartbeats 2000000 in
/-- The run with each claimed output's array named, and the arguments as they were. -/
theorem run_blocks : θ_run defs (onTc (τ := τ) (main (F := F))) ⟨m, fun _ => 0, ρ⟩ (fun r => ∀ c : Dev nD,
        r.2.mem ((c.tc : Thread nD τ).loc main_v70_0) = (dats m 0 c).arrAt 30 cfg0.N
        ∧ r.2.mem ((c.tc : Thread nD τ).loc main_v70_1) = (dats m 0 c).arrAt 31 cfg0.N
        ∧ r.2.mem ((c.tc : Thread nD τ).loc main_v70_4) = (dats m 0 c).arrAt 34 cfg0.N
        ∧ r.2.mem ((c.tc : Thread nD τ).loc main_v70_5) = (dats m 0 c).arrAt 35 cfg0.N
        ∧ r.2.mem ((c.tc : Thread nD τ).loc main_v70_7) = (dats m 0 c).arrAt 37 cfg0.N
        ∧ r.2.mem ((c.tc : Thread nD τ).loc main_v70_8) = (dats m 0 c).arrAt 38 cfg0.N
        ∧ r.2.mem ((c.tc : Thread nD τ).loc main_v70_11) = (dats m 0 c).arrAt 41 cfg0.N
        ∧ r.2.mem ((c.tc : Thread nD τ).loc main_v70_12) = (dats m 0 c).arrAt 42 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)) :=
  (θ_run defs _ _).mono (fun r h c => ⟨(h.1 c).1 30, (h.1 c).1 31, (h.1 c).1 34, (h.1 c).1 35, (h.1 c).1 37, (h.1 c).1 38, (h.1 c).1 41, (h.1 c).1 42, h.2 c⟩)
    (θ_run_and (run_main m ρ) (unchanged m ρ))

end Cert.ProjIdeal.Gen

end
-- ==== Proof.TailRow.lean ====
/-
  The tail of one token, as functions of its rows: the output projection and residual, the norm, and the gated feed-forward part.
-/
module

public import Idealize.ShloMosaic.Lib.Pointwise
public import Idealize.ShloMosaic.PureOps.Ideal

@[expose] public section

noncomputable section

namespace Cert.TailRow

open Idealize.ShloMosaic

/-- The two branches' outputs side by side. -/
def mixRow (a b : Fin 512 → EReal) (k : Fin 1024) : EReal :=
  if h : k.val < 512 then a ⟨k.val, h⟩ else b ⟨k.val - 512, by omega⟩

/-- The residual plus the projected branches. -/
def hidRow (x mix : Fin 1024 → EReal) (w : Fin 1024 → Fin 1024 → EReal) (n : Fin 1024) : EReal :=
  x n + ∑ k, mix k * w k n

/-- The norm with its gain. -/
def normRow (h g : Fin 1024 → EReal) (n : Fin 1024) : EReal :=
  h n * Ideal.rsqrt (Ideal.div (∑ k, h k * h k) (Ideal.ofBits .f32 0x44800000#32) + Ideal.ofBits .f32 0x358637BD#32) * g n

/-- One entry of the gated hidden layer, from its gate and its other factor's columns. -/
def actOf (u wg wu : Fin 1024 → EReal) : EReal :=
  (∑ k, u k * wg k) * Ideal.logistic (∑ k, u k * wg k) * ∑ k, u k * wu k

/-- The tail of one token. -/
def tailRow (x mix : Fin 1024 → EReal) (w : Fin 1024 → Fin 1024 → EReal) (g : Fin 1024 → EReal) (wg wu : Fin 1024 → Fin 2816 → EReal)
    (wd : Fin 2816 → Fin 1024 → EReal) (n : Fin 1024) : EReal :=
  hidRow x mix w n + ∑ f, actOf (normRow (hidRow x mix w) g) (fun k => wg k f) (fun k => wu k f) * wd f n

/-- The summand of hidden column `i`, zero past the last. -/
def term (u : Fin 1024 → EReal) (wg wu : Fin 1024 → Fin 2816 → EReal) (wd : Fin 2816 → EReal) (i : ℕ) : EReal :=
  if h : i < 2816 then actOf u (fun k => wg k ⟨i, h⟩) (fun k => wu k ⟨i, h⟩) * wd ⟨i, h⟩ else 0

/-- The summands of all columns add up to the feed-forward part. -/
theorem sum_term (u : Fin 1024 → EReal) (wg wu : Fin 1024 → Fin 2816 → EReal) (wd : Fin 2816 → EReal) :
    ∑ i ∈ Finset.range 2816, term u wg wu wd i = ∑ f, actOf u (fun k => wg k f) (fun k => wu k f) * wd f := by
  rw [Finset.sum_range]
  exact Finset.sum_congr rfl fun f _ => dif_pos f.isLt

end Cert.TailRow

end
-- ==== Proof.ProjRow.lean ====
/-
  The input projection of one token, as functions of its row: the projected columns, the latent, the rotated key, the values,
  and the mix with the row before it.
-/
module

public import proofs.«01_k».proof.Proof.TailRow

@[expose] public section

noncomputable section

namespace Cert.ProjRow

open Idealize.ShloMosaic Cert.TailRow

/-- The reciprocal root mean square of `n` entries, the mean taken by dividing by `d`. -/
def scale {n : ℕ} (h : Fin n → EReal) (d : EReal) : EReal :=
  Ideal.rsqrt (Ideal.div (∑ k, h k * h k) d + Ideal.ofBits .f32 0x358637BD#32)

/-- The normed row times one column of the projection. -/
def projCol (x g w : Fin 1024 → EReal) : EReal := ∑ k, normRow x g k * w k

/-- The projected row. -/
def projRow (x g : Fin 1024 → EReal) (w : Fin 1024 → Fin 2208 → EReal) (j : Fin 2208) : EReal :=
  projCol x g fun k => w k j

/-- The latent: 128 columns from 256 on, normed. -/
def latentRow (p : Fin 2208 → EReal) (g : Fin 128 → EReal) (j : Fin 128) : EReal :=
  p ⟨256 + j.val, by omega⟩ * scale (fun k : Fin 128 => p ⟨256 + k.val, by omega⟩) (Ideal.ofBits .f32 0x43000000#32) * g j

/-- The key before the rotation: 32 columns from 384 on, normed. -/
def keyRow (p : Fin 2208 → EReal) (g : Fin 32 → EReal) (j : Fin 32) : EReal :=
  p ⟨384 + j.val, by omega⟩ * scale (fun k : Fin 32 => p ⟨384 + k.val, by omega⟩) (Ideal.ofBits .f32 0x42000000#32) * g j

/-- The rotation of a key by the angles of its position. -/
def rotRow (n : Fin 32 → EReal) (ang : Fin 16 → EReal) (j : Fin 32) : EReal :=
  if h : j.val < 16 then n j * Ideal.cos (ang ⟨j.val, h⟩) - n ⟨j.val + 16, by omega⟩ * Ideal.sin (ang ⟨j.val, h⟩)
  else n ⟨j.val - 16, by omega⟩ * Ideal.sin (ang ⟨j.val - 16, by omega⟩) + n j * Ideal.cos (ang ⟨j.val - 16, by omega⟩)

/-- The values: of each head's 128 columns of the product the last 64. -/
def valueRow (l : Fin 128 → EReal) (w : Fin 128 → Fin 1024 → EReal) (j : Fin 512) : EReal :=
  ∑ k, l k * w k ⟨j.val / 64 * 128 + (64 + j.val % 64), by omega⟩

/-- The recurrence's columns: those from 416 on. -/
def recRow (p : Fin 2208 → EReal) (j : Fin 1792) : EReal := p ⟨416 + j.val, by omega⟩

/-- A row mixed with the one before it. -/
def mixCol (prev p mu : EReal) : EReal := p + (prev - p) * mu

/-- The gate of the keys. -/
def gateCol (l : Fin 64 → EReal) (a0 : EReal) (a2 : Fin 64 → EReal) : EReal := Ideal.logistic (a0 + ∑ k, l k * a2 k)

/-- A key of the recurrence, gated. -/
def gatedCol (k a ka : EReal) : EReal := k * (1 + (a - 1) * ka)

end Cert.ProjRow

end
-- ==== Proof.ProjPay.lean ====
/-
  The values that the projection kernel's body computes, each as a formula at one index of its vectors.
-/
module

public import proofs.«01_k».proof.Proof.Gen.ProjIdeal.Skeleton
public import proofs.«01_k».proof.Proof.ProjRow

@[expose] public section

noncomputable section

namespace Cert.ProjIdeal.Gen

open Idealize.ShloMosaic Idealize.SL.Sem Cert.TailRow Cert.ProjRow
open Facts

/-- An entry of the projected rows. -/
theorem pay2_apply (x : Vec Ideal S1x32x1024 .f32) (g : Vec Ideal S1x1024 .f32) (w : Vec Ideal S1024x2304 .bf16) (r : Fin 32) (j : Fin 2304) :
    k0_pay2 x g w (ix2 r j) = projCol (fun k => x (ix3 0 r k)) (fun k => g (ix2 0 k)) fun k => w (ix2 k j) := by
  unfold projCol normRow
  pointwise [k0_pay2]

/-- An entry of the latents. -/
theorem pay10_apply (p : FVec Ideal S32x2304 .f32) (g : Vec Ideal S1x128 .f32) (r : Fin 32) (j : Fin 128) :
    k0_pay10 p g (ix2 r j)
      = p (ix2 r ⟨256 + j.val, by omega⟩) * scale (fun k : Fin 128 => p (ix2 r ⟨256 + k.val, by omega⟩)) (Ideal.ofBits .f32 0x43000000#32) * g (ix2 0 j) := by
  unfold scale
  pointwise [k0_pay10]

/-- The latents as stored. -/
theorem pay11_apply (p : FVec Ideal S32x2304 .f32) (g : Vec Ideal S1x128 .f32) (r : Fin 32) (j : Fin 128) :
    k0_pay11 p g (ix3 0 r j) = k0_pay10 p g (ix2 r j) := by
  unfold k0_pay11
  generalize k0_pay10 p g = l
  pointwise

/-- The columns of the key and of its exchanged halves. -/
theorem pay13_apply (p : FVec Ideal S32x2304 .f32) (r : Fin 32) (j : Fin 128) :
    k0_pay13 p (ix2 r j) = p (ix2 r ⟨384 + j.val, by omega⟩) := by
  pointwise [k0_pay13]

/-- The comparison of a column's number with 32. -/
theorem lane_word : ∀ x : Fin 128, IntOp.cmpi .slt (BitVec.ofNat 32 x.val) 32#32 = if x.val < 32 then 1#1 else 0#1 := by
  decide +kernel

/-- The sum of the squares of the key's 32 columns: the block's other 96 are masked. -/
theorem pay14_apply (p : FVec Ideal S32x2304 .f32) (r : Fin 32) :
    k0_pay14 p (ix2 r 0) = ∑ k : Fin 32, p (ix2 r ⟨384 + k.val, by omega⟩) * p (ix2 r ⟨384 + k.val, by omega⟩) := by
  have e : k0_pay14 p (ix2 r 0)
      = ∑ x : Fin (32 + 96), Scalar.select (IntOp.cmpi .slt (BitVec.ofNat 32 x.val) 32#32) (k0_pay13 p (ix2 r x) * k0_pay13 p (ix2 r x)) (0 : EReal) := by
    unfold k0_pay14
    generalize k0_pay13 p = b
    pointwise
  rw [e, Fin.sum_univ_add]
  have h1 : ∀ k : Fin 32, Scalar.select (IntOp.cmpi .slt (BitVec.ofNat 32 (Fin.castAdd 96 k).val) 32#32)
      (k0_pay13 p (ix2 r (Fin.castAdd 96 k)) * k0_pay13 p (ix2 r (Fin.castAdd 96 k))) (0 : EReal)
      = p (ix2 r ⟨384 + k.val, by omega⟩) * p (ix2 r ⟨384 + k.val, by omega⟩) := by
    intro k
    rw [lane_word (Fin.castAdd 96 k), if_pos (show (Fin.castAdd 96 k).val < 32 from k.isLt), pay13_apply]
    rfl
  have h2 : ∀ k : Fin 96, Scalar.select (IntOp.cmpi .slt (BitVec.ofNat 32 (Fin.natAdd 32 k).val) 32#32)
      (k0_pay13 p (ix2 r (Fin.natAdd 32 k)) * k0_pay13 p (ix2 r (Fin.natAdd 32 k))) (0 : EReal) = 0 := by
    intro k
    rw [lane_word (Fin.natAdd 32 k), if_neg (show ¬ (Fin.natAdd 32 k).val < 32 by simp)]
    rfl
  rw [Finset.sum_congr rfl fun k _ => h1 k, Finset.sum_congr rfl fun k _ => h2 k, Finset.sum_const_zero, add_zero]

/-- The rotated keys. -/
theorem pay16_apply (b : FVec Ideal S32x128 .f32) (q : FVec Ideal S32x1 .f32) (d : EReal) (g : Vec Ideal S1x128 .f32) (cs : Vec Ideal S32x128 .f32)
    (h : Vec Ideal S1x128 .f32) (sn : Vec Ideal S32x128 .f32) (r : Fin 32) (j : Fin 32) :
    k0_pay16 b q d g cs h sn (ix3 0 r j)
      = Ideal.rsqrt (q (ix2 r 0) * d + Ideal.ofBits .f32 0x358637BD#32)
        * (b (ix2 r ⟨j.val, by omega⟩) * g (ix2 0 ⟨j.val, by omega⟩) * cs (ix2 r ⟨j.val, by omega⟩)
          + b (ix2 r ⟨j.val + 32, by omega⟩) * h (ix2 0 ⟨j.val, by omega⟩) * sn (ix2 r ⟨j.val, by omega⟩)) := by
  have e : ∀ h, (⟨(j.val + 128 - 96) % 128, h⟩ : Fin 128) = ⟨j.val + 32, by omega⟩ := fun h => Fin.ext (by show (j.val + 128 - 96) % 128 = j.val + 32; omega)
  pointwise [k0_pay16, k0_pay15]
  rw [e]

/-- The values. -/
theorem pay25_apply (l : FVec Ideal S32x128 .bf16) (w : Vec Ideal S128x512 .bf16) (r : Fin 32) (j : Fin 512) :
    k0_pay25 (k0_pay24 l w) (ix3 0 r j) = ∑ k, l (ix2 r k) * w (ix2 k j) := by
  pointwise [k0_pay25, k0_pay24]

/-- The last row's columns of the recurrence. -/
theorem pay30_apply (p : FVec Ideal S32x2304 .f32) (j : Fin 1792) : k0_pay30 p (ix3 0 0 j) = p (ix2 31 ⟨512 + j.val, by omega⟩) := by
  pointwise [k0_pay30, k0_pay28, k0_pay26]

/-- The carried row, from the argument. -/
theorem pay27_apply (s : Vec Ideal S1x1x1792 .f32) (j : Fin 1792) : k0_pay27 s (ix2 0 j) = s (ix3 0 0 j) := by
  pointwise [k0_pay27]

/-- The comparison of a row's number with 0. -/
theorem row_word : ∀ r : Fin 32, IntOp.cmpi .eq (BitVec.ofNat 32 r.val) 0#32 = if r.val < 1 then 1#1 else 0#1 := by
  decide +kernel

/-- An entry of the mixed rows. -/
theorem pay31_apply (p : FVec Ideal S32x2304 .f32) (s mu : Vec Ideal S1x1792 .f32) (r : Fin 32) (j : Fin 1792) :
    k0_pay31 p s mu (ix2 r j)
      = mixCol (if h : r.val < 1 then s (ix2 0 j) else p (ix2 ⟨r.val - 1, by omega⟩ ⟨512 + j.val, by omega⟩)) (p (ix2 r ⟨512 + j.val, by omega⟩)) (mu (ix2 0 j)) := by
  unfold mixCol
  pointwise [k0_pay31, k0_pay26]
  rw [row_word r]
  by_cases h : r.val < 1
  · rw [if_pos h, dif_pos h]
    rfl
  · rw [if_neg h, dif_neg h]
    have e : ∀ h', (⟨(r.val + 32 - 1) % 32, h'⟩ : Fin 32) = ⟨r.val - 1, by omega⟩ := fun h' => Fin.ext (by show (r.val + 32 - 1) % 32 = r.val - 1; omega)
    rw [e]
    rfl

/-- The recurrence's first 512 mixed columns. -/
theorem pay46_apply (p : FVec Ideal S32x2304 .f32) (s mu : Vec Ideal S1x1792 .f32) (r : Fin 32) (j : Fin 512) :
    k0_pay46 (k0_pay32 p s mu) (ix3 0 r j) = k0_pay31 p s mu (ix2 r ⟨j.val, by omega⟩) := by
  unfold k0_pay46 k0_pay32
  generalize k0_pay31 p s mu = z
  pointwise

/-- The third 512 mixed columns. -/
theorem pay48_apply (p : FVec Ideal S32x2304 .f32) (s mu : Vec Ideal S1x1792 .f32) (r : Fin 32) (j : Fin 512) :
    k0_pay48 (k0_pay34 p s mu) (ix3 0 r j) = k0_pay31 p s mu (ix2 r ⟨1024 + j.val, by omega⟩) := by
  unfold k0_pay48 k0_pay34
  generalize k0_pay31 p s mu = z
  pointwise

/-- The last 128 mixed columns. -/
theorem pay36_apply (p : FVec Ideal S32x2304 .f32) (s mu : Vec Ideal S1x1792 .f32) (r : Fin 32) (j : Fin 128) :
    k0_pay36 p s mu (ix3 0 r j) = k0_pay31 p s mu (ix2 r ⟨1664 + j.val, by omega⟩) := by
  unfold k0_pay36
  generalize k0_pay31 p s mu = z
  pointwise

/-- The gate's columns of the mixed rows. -/
theorem pay35_apply (p : FVec Ideal S32x2304 .f32) (s mu : Vec Ideal S1x1792 .f32) (r : Fin 32) (j : Fin 128) :
    k0_pay35 p s mu (ix2 r j) = k0_pay31 p s mu (ix2 r ⟨1536 + j.val, by omega⟩) := by
  unfold k0_pay35
  generalize k0_pay31 p s mu = z
  pointwise

/-- An entry of the gate. -/
theorem pay39_apply (l : FVec Ideal S32x128 .f32) (w : Vec Ideal S128x512 .bf16) (a0 : Vec Ideal S1x512 .f32) (r : Fin 32) (j : Fin 512) :
    k0_pay39 l w a0 (ix2 r j) = Ideal.logistic (a0 (ix2 0 j) + ∑ k, l (ix2 r k) * w (ix2 k j)) := by
  pointwise [k0_pay39]

/-- The gated keys. -/
theorem pay47_apply (p : FVec Ideal S32x2304 .f32) (s mu : Vec Ideal S1x1792 .f32) (a : FVec Ideal S32x512 .f32) (ka : Vec Ideal S1x512 .f32) (r : Fin 32) (j : Fin 512) :
    k0_pay47 (k0_pay33 p s mu) a ka (ix3 0 r j) = gatedCol (k0_pay31 p s mu (ix2 r ⟨512 + j.val, by omega⟩)) (a (ix2 r j)) (ka (ix2 0 j)) := by
  unfold k0_pay47 k0_pay33 gatedCol
  generalize k0_pay31 p s mu = z
  pointwise

end Cert.ProjIdeal.Gen

end
-- ==== Proof.ProjHost.lean ====
/-
  The arrays the projection prepares before its launch, each as a formula of the arguments at one index.
-/
module

public import proofs.«01_k».proof.Proof.Gen.ProjIdeal.Frame.Runs
public import proofs.«01_k».proof.Proof.ProjRow
public import Idealize.ShloMosaic.Lib.StableHlo.Run

@[expose] public section

noncomputable section

namespace Cert.ProjIdeal.Gen

open Idealize.ShloMosaic Idealize.ShloMosaic.TcCoe Idealize.SL.Sem Idealize.ShloMosaic.StableHlo Cert.ProjRow
open Facts

/-- A column of the rotated 32 with the two halves exchanged. -/
def swap (j : Fin 32) : Fin 32 := if h : j.val < 16 then ⟨j.val + 16, by omega⟩ else ⟨j.val - 16, by omega⟩

/-- The exchanged columns' numbers, as the program prepares them. -/
def swapIdx : IVec S32x1 32 :=
  broadcastInDim S32x1 ![0] bcast_S32_S32x1_0 (select (constantI S32 1 0#1)
    (addi (fun i => lit0 (S32.rowMajor i)) (broadcastInDim S32 ![] bcast_S_S32 (constantI S_ 32 32#32))) (fun i => lit0 (S32.rowMajor i)))

/-- They are the exchanged columns' numbers. -/
theorem swapIdx_apply : ∀ j : Fin 32, min (swapIdx (ix2 j 0)).toInt.toNat 31 = (swap j).val := by
  intro j
  have e : swapIdx (ix2 j 0) = lit0 j := by
    unfold swapIdx
    pointwise
    exact congrArg lit0 (Fin.ext (Shape.rowMajor_val_one _))
  rw [e]
  revert j
  decide +kernel

/-- Columns gathered by number. -/
theorem gather_cols (x : FVec Ideal S1024x32 .f32) (idx : IVec S32x1 32) (k : Fin 1024) (j : Fin 32) :
    Host.gather gather_S1024x32_S32x1_S1024x32_0_1_n_n_1_1_10241 x idx (ix2 k j) = x (ix2 k ⟨min (idx (ix2 j 0)).toInt.toNat 31, by omega⟩) := by
  unfold Host.gather
  congr 1
  funext a
  refine Fin.ext ?_
  match a with
  | ⟨0, _⟩ =>
    show GatherDims.start _ _ idx 0 + GatherDims.batchCoord _ _ 0 + GatherDims.offCoord _ _ 0 = k.val
    rw [GatherDims.batchCoord_eq_zero _ _ _ List.not_mem_nil]
    unfold GatherDims.start
    rw [dif_neg (show ¬ (0 : Fin 2) ∈ gather_S1024x32_S32x1_S1024x32_0_1_n_n_1_1_10241.startIndexMap by decide)]
    simp only [Nat.add_zero, Nat.zero_add]
    rfl
  | ⟨1, _⟩ =>
    show GatherDims.start _ _ idx 1 + GatherDims.batchCoord _ _ 1 + GatherDims.offCoord _ _ 1 = min (idx (ix2 j 0)).toInt.toNat 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x32_S32x1_S1024x32_0_1_n_n_1_1_10241.startIndexMap from List.mem_singleton.mpr rfl)]
    have hsi : gather_S1024x32_S32x1_S1024x32_0_1_n_n_1_1_10241.siIdx (ix2 k j) ⟨List.idxOf (1 : Fin 2) gather_S1024x32_S32x1_S1024x32_0_1_n_n_1_1_10241.startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

/-- Entries gathered by number. -/
theorem gather_row (x : FVec Ideal S32 .f32) (idx : IVec S32x1 32) (j : Fin 32) :
    Host.gather gather_S32_S32x1_S32_n_0_n_n_0_1_1 x idx (ix1 j) = x (ix1 ⟨min (idx (ix2 j 0)).toInt.toNat 31, by omega⟩) := by
  unfold Host.gather
  congr 1
  funext a
  obtain rfl : a = 0 := Subsingleton.elim _ _
  refine Fin.ext ?_
  show GatherDims.start _ _ idx 0 + GatherDims.batchCoord _ _ 0 + GatherDims.offCoord _ _ 0 = min (idx (ix2 j 0)).toInt.toNat 31
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S32_S32x1_S32_n_0_n_n_0_1_1.startIndexMap from List.mem_singleton.mpr rfl)]
  have hsi : gather_S32_S32x1_S32_n_0_n_n_0_1_1.siIdx (ix1 j) ⟨List.idxOf (0 : Fin 1) gather_S32_S32x1_S32_n_0_n_n_0_1_1.startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-- The projection's weights, widened: after the first 416 columns the exchanged halves of the last 32 of them,
    64 columns of zeros, then the recurrence's columns. -/
def wide (w : FVec Ideal S1024x2208 .f32) : FVec Ideal S1024x2304 .bf16 :=
  truncf .bf16 (concatenate S1024x2304 1 [⟨S1024x512, concatenate S1024x512 1 [⟨S1024x448, concatenate S1024x448 1
      [⟨S1024x416, extractStridedSlice S1024x416 ![0, 0] w slices_S1024x2208_S1024x416_0_0⟩,
       ⟨S1024x32, Host.gather gather_S1024x32_S32x1_S1024x32_0_1_n_n_1_1_10241 (extractStridedSlice S1024x32 ![0, 384] w slices_S1024x2208_S1024x32_0_384) swapIdx⟩]
      concatenates_S1024x416_S1024x32_S1024x448_d1⟩,
     ⟨S1024x64, broadcastInDim S1024x64 ![] bcast_S_S1024x64 (constant S_ .f32 0x00000000#32)⟩] concatenates_S1024x448_S1024x64_S1024x512_d1⟩,
   ⟨S1024x1792, extractStridedSlice S1024x1792 ![0, 416] w slices_S1024x2208_S1024x1792_0_416⟩] concatenates_S1024x512_S1024x1792_S1024x2304_d1) bitsLt_bf16_f32

/-- A column of the first 416. -/
theorem wide_low (w : FVec Ideal S1024x2208 .f32) (k : Fin 1024) (j : Fin 416) : wide w (ix2 k ⟨j.val, by omega⟩) = w (ix2 k ⟨j.val, by omega⟩) := by
  unfold wide
  generalize Host.gather gather_S1024x32_S32x1_S1024x32_0_1_n_n_1_1_10241 (extractStridedSlice S1024x32 ![0, 384] w slices_S1024x2208_S1024x32_0_384) swapIdx = z
  pointwise
  rw [dif_pos (show j.val < 512 by omega), dif_pos (show j.val < 448 by omega)]

/-- An exchanged column. -/
theorem wide_swap (w : FVec Ideal S1024x2208 .f32) (k : Fin 1024) (j : Fin 32) :
    wide w (ix2 k ⟨416 + j.val, by omega⟩) = w (ix2 k ⟨384 + (swap j).val, by omega⟩) := by
  have e : Host.gather gather_S1024x32_S32x1_S1024x32_0_1_n_n_1_1_10241 (extractStridedSlice S1024x32 ![0, 384] w slices_S1024x2208_S1024x32_0_384) swapIdx (ix2 k j)
      = w (ix2 k ⟨384 + (swap j).val, by omega⟩) := by
    rw [gather_cols]
    simp only [swapIdx_apply]
    pointwise
  rw [← e]
  unfold wide
  generalize Host.gather gather_S1024x32_S32x1_S1024x32_0_1_n_n_1_1_10241 (extractStridedSlice S1024x32 ![0, 384] w slices_S1024x2208_S1024x32_0_384) swapIdx = z
  pointwise
  rw [dif_pos (show 416 + j.val < 512 by omega), dif_pos (show 416 + j.val < 448 by omega)]

/-- A column of the recurrence. -/
theorem wide_high (w : FVec Ideal S1024x2208 .f32) (k : Fin 1024) (j : Fin 1792) :
    wide w (ix2 k ⟨512 + j.val, by omega⟩) = w (ix2 k ⟨416 + j.val, by omega⟩) := by
  unfold wide
  generalize Host.gather gather_S1024x32_S32x1_S1024x32_0_1_n_n_1_1_10241 (extractStridedSlice S1024x32 ![0, 384] w slices_S1024x2208_S1024x32_0_384) swapIdx = z
  pointwise

/-- The values' columns of the up projection. -/
def valueCols (w : FVec Ideal S128x1024 .f32) : FVec Ideal S128x512 .bf16 :=
  truncf .bf16 (shapeCast S128x512 (extractStridedSlice S128x8x64 ![0, 0, 64] (shapeCast S128x8x128 w shapeCasts_S128x1024_S128x8x128)
    slices_S128x8x128_S128x8x64_0_0_64) shapeCasts_S128x8x64_S128x512) bitsLt_bf16_f32

/-- A column of them. -/
theorem valueCols_apply (w : FVec Ideal S128x1024 .f32) (k : Fin 128) (j : Fin 512) :
    valueCols w (ix2 k j) = w (ix2 k ⟨j.val / 64 * 128 + (64 + j.val % 64), by omega⟩) := by
  pointwise [valueCols]

/-- The gain of the keys, filled up with zeros. -/
def keyGain (g : FVec Ideal S32 .f32) : FVec Ideal S1x128 .f32 :=
  shapeCast S1x128 (concatenate S128 0 [⟨S32, g⟩, ⟨S96, broadcastInDim S96 ![] bcast_S_S96 (constant S_ .f32 0x00000000#32)⟩] concatenates_S32_S96_S128_d0) shapeCasts_S128_S1x128

/-- Its first 32 entries. -/
theorem keyGain_apply (g : FVec Ideal S32 .f32) (j : Fin 32) : keyGain g (ix2 0 ⟨j.val, by omega⟩) = g (ix1 j) := by
  pointwise [keyGain]

/-- The gain of the keys with its halves exchanged. -/
def swapGain (g : FVec Ideal S32 .f32) : FVec Ideal S32 .f32 := Host.gather gather_S32_S32x1_S32_n_0_n_n_0_1_1 g swapIdx

/-- An entry of it. -/
theorem swapGain_apply (g : FVec Ideal S32 .f32) (j : Fin 32) : swapGain g (ix1 j) = g (ix1 (swap j)) := by
  unfold swapGain
  rw [gather_row]
  simp only [swapIdx_apply]

/-- The matrix of the gate below 64 rows of zeros. -/
def gateRows (w : FVec Ideal S64x512 .f32) : FVec Ideal S128x512 .bf16 :=
  truncf .bf16 (concatenate S128x512 0 [⟨S64x512, broadcastInDim S64x512 ![] bcast_S_S64x512 (constant S_ .f32 0x00000000#32)⟩, ⟨S64x512, w⟩]
    concatenates_S64x512_S64x512_S128x512_d0) bitsLt_bf16_f32

/-- A row of the zeros. -/
theorem gateRows_low (w : FVec Ideal S64x512 .f32) (k : Fin 64) (j : Fin 512) : gateRows w (ix2 (Fin.castAdd 64 k) j) = 0 := by
  pointwise [gateRows]
  exact dif_pos k.isLt

/-- A row of the matrix. -/
theorem gateRows_high (w : FVec Ideal S64x512 .f32) (k : Fin 64) (j : Fin 512) : gateRows w (ix2 (Fin.natAdd 64 k) j) = w (ix2 k j) := by
  pointwise [gateRows]
  rw [dif_neg (show ¬ (Fin.natAdd 64 k).val < 64 by show ¬ 64 + k.val < 64; omega)]
  exact congrArg (fun q => w (ix2 q j)) (Fin.ext (by show 64 + k.val - 64 = k.val; omega))

/-- The factors of the key's columns. -/
def cosines (a : FVec Ideal S32x16 .f32) : FVec Ideal S32x128 .f32 :=
  concatenate S32x128 1 [⟨S32x32, concatenate S32x32 1 [⟨S32x16, Host.cos a⟩, ⟨S32x16, Host.cos a⟩] concatenates_S32x16_S32x16_S32x32_d1⟩,
    ⟨S32x96, broadcastInDim S32x96 ![] bcast_S_S32x96 (constant S_ .f32 0x00000000#32)⟩] concatenates_S32x32_S32x96_S32x128_d1

/-- The factors of the exchanged columns. -/
def sines (a : FVec Ideal S32x16 .f32) : FVec Ideal S32x128 .f32 :=
  concatenate S32x128 1 [⟨S32x32, concatenate S32x32 1 [⟨S32x16, Host.negf (Host.sin a)⟩, ⟨S32x16, Host.sin a⟩] concatenates_S32x16_S32x16_S32x32_d1⟩,
    ⟨S32x96, broadcastInDim S32x96 ![] bcast_S_S32x96 (constant S_ .f32 0x00000000#32)⟩] concatenates_S32x32_S32x96_S32x128_d1

/-- A factor of the key's columns. -/
theorem cosines_apply (a : FVec Ideal S32x16 .f32) (r j : Fin 32) :
    cosines a (ix2 r ⟨j.val, by omega⟩) = Ideal.cos (a (ix2 r (if h : j.val < 16 then ⟨j.val, h⟩ else ⟨j.val - 16, by omega⟩))) := by
  pointwise [cosines]
  split <;> rfl

/-- A factor of the exchanged columns. -/
theorem sines_apply (a : FVec Ideal S32x16 .f32) (r j : Fin 32) :
    sines a (ix2 r ⟨j.val, by omega⟩)
      = if h : j.val < 16 then -Ideal.sin (a (ix2 r ⟨j.val, h⟩)) else Ideal.sin (a (ix2 r ⟨j.val - 16, by omega⟩)) := by
  pointwise [sines]

/-- The angles of the sample's positions. -/
def angles : FVec Ideal S32x16 .f32 :=
  mulf (broadcastInDim S32x16 ![0, 1] bcast_S32x1_S32x16_0_1 (broadcastInDim S32x1 ![0] bcast_S32_S32x1_0
      (sitofp .f32 (addi (broadcastInDim S32 ![] bcast_S_S32 (constantI S_ 32 4096#32)) (iotaInDim S32 32 0)))))
    (broadcastInDim S32x16 ![0, 1] bcast_S1x16_S32x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

section Prepared

variable (m : (ℓ : Loc nD τ sig) → Buf (Elt Ideal) ℓ) (c : Dev nD)

/-- The widened weights as the launch finds them. -/
theorem V_main_v12 : (V m c main_v12 : Vec Ideal S1024x2304 .bf16) = wide (m ((c : Thread nD τ).loc main_arg3) : Vec Ideal S1024x2208 .f32) := by
  simp only [V, hostOps0, List.flatten_cons, List.flatten_nil, List.append_nil, List.cons_append, List.nil_append, TRef.unary, TRef.binary, TRef.toBuf, TRef.ofBuf, cast_eq]
  after_results_simp
  refine congrArg₂ (fun a b => truncf (F := Ideal) .bf16 (concatenate S1024x2304 1 [⟨S1024x512, a⟩, ⟨S1024x1792, b⟩] concatenates_S1024x512_S1024x1792_S1024x2304_d1) bitsLt_bf16_f32) ?_ ?_
  · after_results_simp
    refine congrArg₂ (fun a b => concatenate S1024x512 1 [⟨S1024x448, a⟩, ⟨S1024x64, b⟩] concatenates_S1024x448_S1024x64_S1024x512_d1) ?_ ?_
    · after_results_simp
      refine congrArg₂ (fun a b => concatenate S1024x448 1 [⟨S1024x416, a⟩, ⟨S1024x32, b⟩] concatenates_S1024x416_S1024x32_S1024x448_d1) ?_ ?_
      · after_results_simp
      · after_results_simp
        rfl
    · after_results_simp
  · after_results_simp

/-- The values' columns as the launch finds them. -/
theorem V_main_v16 : (V m c main_v16 : Vec Ideal S128x512 .bf16) = valueCols (m ((c : Thread nD τ).loc main_arg16) : Vec Ideal S128x1024 .f32) := by
  simp only [V, hostOps0, List.flatten_cons, List.flatten_nil, List.append_nil, List.cons_append, List.nil_append, TRef.unary, TRef.binary, TRef.toBuf, TRef.ofBuf, cast_eq]
  after_results_simp
  rfl

/-- The gate's matrix as the launch finds it. -/
theorem V_main_v31 : (V m c main_v31 : Vec Ideal S128x512 .bf16) = gateRows (m ((c : Thread nD τ).loc main_arg21) : Vec Ideal S64x512 .f32) := by
  simp only [V, hostOps0, List.flatten_cons, List.flatten_nil, List.append_nil, List.cons_append, List.nil_append, TRef.unary, TRef.binary, TRef.toBuf, TRef.ofBuf, cast_eq]
  after_results_simp
  refine congrArg₂ (fun a b => truncf (F := Ideal) .bf16 (concatenate S128x512 0 [⟨S64x512, a⟩, ⟨S64x512, b⟩] concatenates_S64x512_S64x512_S128x512_d0) bitsLt_bf16_f32) ?_ ?_
  · after_results_simp
  · after_results_simp

/-- The keys' gain as the launch finds it. -/
theorem V_main_v34 : (V m c main_v34 : Vec Ideal S1x128 .f32) = keyGain (m ((c : Thread nD τ).loc main_arg11) : Vec Ideal S32 .f32) := by
  simp only [V, hostOps0, List.flatten_cons, List.flatten_nil, List.append_nil, List.cons_append, List.nil_append, TRef.unary, TRef.binary, TRef.toBuf, TRef.ofBuf, cast_eq]
  after_results_simp
  refine congrArg (fun a => shapeCast S1x128 a shapeCasts_S128_S1x128) ?_
  refine congrArg₂ (fun a b => concatenate S128 0 [⟨S32, a⟩, ⟨S96, b⟩] concatenates_S32_S96_S128_d0) ?_ ?_
  · after_results_simp
  · after_results_simp

/-- The keys' exchanged gain as the launch finds it. -/
theorem V_main_v35 : (V m c main_v35 : Vec Ideal S1x128 .f32) = keyGain (swapGain (m ((c : Thread nD τ).loc main_arg11) : Vec Ideal S32 .f32)) := by
  simp only [V, hostOps0, List.flatten_cons, List.flatten_nil, List.append_nil, List.cons_append, List.nil_append, TRef.unary, TRef.binary, TRef.toBuf, TRef.ofBuf, cast_eq]
  after_results_simp
  refine congrArg (fun a => shapeCast S1x128 a shapeCasts_S128_S1x128) ?_
  refine congrArg₂ (fun a b => concatenate S128 0 [⟨S32, a⟩, ⟨S96, b⟩] concatenates_S32_S96_S128_d0) ?_ ?_
  · after_results_simp
    rfl
  · after_results_simp

/-- The cosines as the launch finds them. -/
theorem V_main_v68 : (V m c main_v68 : Vec Ideal S32x128 .f32) = cosines angles := by
  simp only [V, hostOps0, List.flatten_cons, List.flatten_nil, List.append_nil, List.cons_append, List.nil_append, TRef.unary, TRef.binary, TRef.toBuf, TRef.ofBuf, cast_eq]
  after_results_simp
  refine congrArg₂ (fun a b => concatenate S32x128 1 [⟨S32x32, a⟩, ⟨S32x96, b⟩] concatenates_S32x32_S32x96_S32x128_d1) ?_ ?_
  · after_results_simp
    refine congrArg₂ (fun a b => concatenate S32x32 1 [⟨S32x16, a⟩, ⟨S32x16, b⟩] concatenates_S32x16_S32x16_S32x32_d1) ?_ ?_
    · after_results_simp
      rfl
    · after_results_simp
      rfl
  · after_results_simp

/-- The sines as the launch finds them. -/
theorem V_main_v69 : (V m c main_v69 : Vec Ideal S32x128 .f32) = sines angles := by
  simp only [V, hostOps0, List.flatten_cons, List.flatten_nil, List.append_nil, List.cons_append, List.nil_append, TRef.unary, TRef.binary, TRef.toBuf, TRef.ofBuf, cast_eq]
  after_results_simp
  refine congrArg₂ (fun a b => concatenate S32x128 1 [⟨S32x32, a⟩, ⟨S32x96, b⟩] concatenates_S32x32_S32x96_S32x128_d1) ?_ ?_
  · after_results_simp
    refine congrArg₂ (fun a b => concatenate S32x32 1 [⟨S32x16, a⟩, ⟨S32x16, b⟩] concatenates_S32x16_S32x16_S32x32_d1) ?_ ?_
    · after_results_simp
      rfl
    · after_results_simp
      rfl
  · after_results_simp

/-- The carried rows as the launch finds them. -/
theorem V_main_v41 : (V m c main_v41 : Vec Ideal S32x1x1792 .f32) = broadcastInDim S32x1x1792 ![0, 2] bcast_S32x1792_S32x1x1792_0_2 (m ((c : Thread nD τ).loc main_arg1) : Vec Ideal S32x1792 .f32) := by
  simp only [V, hostOps0, List.flatten_cons, List.flatten_nil, List.append_nil, List.cons_append, List.nil_append, TRef.unary, TRef.binary, TRef.toBuf, TRef.ofBuf, cast_eq]
  after_results_simp

/-- The gain of the norm as the launch finds it. -/
theorem V_main_v32 : (V m c main_v32 : Vec Ideal S1x1024 .f32) = shapeCast S1x1024 (m ((c : Thread nD τ).loc main_arg2) : Vec Ideal S1024 .f32) shapeCasts_S1024_S1x1024 := by
  simp only [V, hostOps0, List.flatten_cons, List.flatten_nil, List.append_nil, List.cons_append, List.nil_append, TRef.unary, TRef.binary, TRef.toBuf, TRef.ofBuf, cast_eq]
  after_results_simp
  rfl

/-- The gain of the latents as the launch finds it. -/
theorem V_main_v33 : (V m c main_v33 : Vec Ideal S1x128 .f32) = shapeCast S1x128 (m ((c : Thread nD τ).loc main_arg10) : Vec Ideal S128 .f32) shapeCasts_S128_S1x128 := by
  simp only [V, hostOps0, List.flatten_cons, List.flatten_nil, List.append_nil, List.cons_append, List.nil_append, TRef.unary, TRef.binary, TRef.toBuf, TRef.ofBuf, cast_eq]
  after_results_simp
  rfl

/-- The mixing weights as the launch finds them. -/
theorem V_main_v36 : (V m c main_v36 : Vec Ideal S1x1792 .f32) = shapeCast S1x1792 (m ((c : Thread nD τ).loc main_arg17) : Vec Ideal S1792 .f32) shapeCasts_S1792_S1x1792 := by
  simp only [V, hostOps0, List.flatten_cons, List.flatten_nil, List.append_nil, List.cons_append, List.nil_append, TRef.unary, TRef.binary, TRef.toBuf, TRef.ofBuf, cast_eq]
  after_results_simp
  rfl

/-- The gate's bias as the launch finds it. -/
theorem V_main_v38 : (V m c main_v38 : Vec Ideal S1x512 .f32) = shapeCast S1x512 (m ((c : Thread nD τ).loc main_arg20) : Vec Ideal S512 .f32) shapeCasts_S512_S1x512 := by
  simp only [V, hostOps0, List.flatten_cons, List.flatten_nil, List.append_nil, List.cons_append, List.nil_append, TRef.unary, TRef.binary, TRef.toBuf, TRef.ofBuf, cast_eq]
  after_results_simp
  rfl

/-- The gate's weights as the launch finds them. -/
theorem V_main_v40 : (V m c main_v40 : Vec Ideal S1x512 .f32) = shapeCast S1x512 (m ((c : Thread nD τ).loc main_arg23) : Vec Ideal S512 .f32) shapeCasts_S512_S1x512 := by
  simp only [V, hostOps0, List.flatten_cons, List.flatten_nil, List.append_nil, List.cons_append, List.nil_append, TRef.unary, TRef.binary, TRef.toBuf, TRef.ofBuf, cast_eq]
  after_results_simp
  rfl

/-- A vector as one row. -/
theorem row1024_read (x : Vec Ideal S1024 .f32) (n : Fin 1024) : shapeCast S1x1024 x shapeCasts_S1024_S1x1024 (ix2 0 n) = x (ix1 n) := by
  pointwise

/-- A vector as one row. -/
theorem row128_read (x : Vec Ideal S128 .f32) (n : Fin 128) : shapeCast S1x128 x shapeCasts_S128_S1x128 (ix2 0 n) = x (ix1 n) := by
  pointwise

/-- A vector as one row. -/
theorem row1792_read (x : Vec Ideal S1792 .f32) (n : Fin 1792) : shapeCast S1x1792 x shapeCasts_S1792_S1x1792 (ix2 0 n) = x (ix1 n) := by
  pointwise

/-- A vector as one row. -/
theorem row512_read (x : Vec Ideal S512 .f32) (n : Fin 512) : shapeCast S1x512 x shapeCasts_S512_S1x512 (ix2 0 n) = x (ix1 n) := by
  pointwise

/-- The carried rows, a block of one each. -/
theorem carried_read (x : Vec Ideal S32x1792 .f32) (i : Fin 32) (n : Fin 1792) :
    broadcastInDim S32x1x1792 ![0, 2] bcast_S32x1792_S32x1x1792_0_2 x (ix3 i 0 n) = x (ix2 i n) := by
  pointwise

end Prepared

end Cert.ProjIdeal.Gen

end
-- ==== Proof.ProjReference.lean ====
/-
  The input projection's reference, read in stages, each as a formula at one index.
-/
module

public import proofs.«01_k».proof.Proof.Gen.ProjReferenceIdeal.Run
public import proofs.«01_k».proof.Proof.ProjRow

@[expose] public section

noncomputable section

namespace Cert.ProjReferenceIdeal.Value

open Cert.ProjReferenceIdeal Cert.ProjReferenceIdeal.Gen Idealize.ShloMosaic Idealize.ShloMosaic.TcCoe Idealize.SL.Sem Cert.TailRow Cert.ProjRow
open Facts

/-- The rows of the activations, normed. -/
def normed (x : FVec Ideal S32x32x1024 .f32) (g : FVec Ideal S1024 .f32) : FVec Ideal S32x32x1024 .f32 :=
  mulf (mulf x (broadcastInDim S32x32x1024 ![0, 1, 2] bcast_S32x32x1_S32x32x1024_0_1_2 (Host.rsqrt (addf (Host.divf (broadcastInDim S32x32x1 ![0, 1] bcast_S32x32_S32x32x1_0_1
      (Host.reduceAdd (mulf x x) (constant S_ .f32 0x00000000#32) reducesTo_S32x32x1024_S32x32_d2 h_S_)) (broadcastInDim S32x32x1 ![] bcast_S_S32x32x1 (constant S_ .f32 0x44800000#32)))
      (broadcastInDim S32x32x1 ![] bcast_S_S32x32x1 (constant S_ .f32 0x358637BD#32))))))
    (broadcastInDim S32x32x1024 ![0, 1, 2] bcast_S1x1x1024_S32x32x1024_0_1_2 (broadcastInDim S1x1x1024 ![2] bcast_S1024_S1x1x1024_2 g))

/-- The projected activations. -/
def projected (u : FVec Ideal S32x32x1024 .f32) (w : FVec Ideal S1024x2208 .f32) : FVec Ideal S32x32x2208 .f32 :=
  Host.dotGeneral dot_S32x32x1024_S1024x2208_S32x32x2208_2_0_01_1_n_n none u w

/-- The latents. -/
def latents (p : FVec Ideal S32x32x2208 .f32) (g : FVec Ideal S128 .f32) : FVec Ideal S32x32x128 .f32 :=
  let l := extractStridedSlice S32x32x128 ![0, 0, 256] (extractStridedSlice S32x32x416 ![0, 0, 0] p slices_S32x32x2208_S32x32x416_0_0_0) slices_S32x32x416_S32x32x128_0_0_256
  mulf (mulf l (broadcastInDim S32x32x128 ![0, 1, 2] bcast_S32x32x1_S32x32x128_0_1_2 (Host.rsqrt (addf (Host.divf (broadcastInDim S32x32x1 ![0, 1] bcast_S32x32_S32x32x1_0_1
      (Host.reduceAdd (mulf l l) (constant S_ .f32 0x00000000#32) reducesTo_S32x32x128_S32x32_d2 h_S_)) (broadcastInDim S32x32x1 ![] bcast_S_S32x32x1 (constant S_ .f32 0x43000000#32)))
      (broadcastInDim S32x32x1 ![] bcast_S_S32x32x1 (constant S_ .f32 0x358637BD#32))))))
    (broadcastInDim S32x32x128 ![0, 1, 2] bcast_S1x1x128_S32x32x128_0_1_2 (broadcastInDim S1x1x128 ![2] bcast_S128_S1x1x128_2 g))

/-- The keys before the rotation. -/
def keys (p : FVec Ideal S32x32x2208 .f32) (g : FVec Ideal S32 .f32) : FVec Ideal S32x32x32 .f32 :=
  let l := extractStridedSlice S32x32x32 ![0, 0, 384] (extractStridedSlice S32x32x416 ![0, 0, 0] p slices_S32x32x2208_S32x32x416_0_0_0) slices_S32x32x416_S32x32x32_0_0_384
  mulf (mulf l (broadcastInDim S32x32x32 ![0, 1, 2] bcast_S32x32x1_S32x32x32_0_1_2 (Host.rsqrt (addf (Host.divf (broadcastInDim S32x32x1 ![0, 1] bcast_S32x32_S32x32x1_0_1
      (Host.reduceAdd (mulf l l) (constant S_ .f32 0x00000000#32) reducesTo_S32x32x32_S32x32_d2 h_S_)) (broadcastInDim S32x32x1 ![] bcast_S_S32x32x1 (constant S_ .f32 0x42000000#32)))
      (broadcastInDim S32x32x1 ![] bcast_S_S32x32x1 (constant S_ .f32 0x358637BD#32))))))
    (broadcastInDim S32x32x32 ![0, 1, 2] bcast_S1x1x32_S32x32x32_0_1_2 (broadcastInDim S1x1x32 ![2] bcast_S32_S1x1x32_2 g))

/-- The angles of the sample's positions. -/
def angles : FVec Ideal S32x16 .f32 :=
  mulf (broadcastInDim S32x16 ![0, 1] bcast_S32x1_S32x16_0_1 (broadcastInDim S32x1 ![0] bcast_S32_S32x1_0
      (sitofp .f32 (addi (broadcastInDim S32 ![] bcast_S_S32 (constantI S_ 32 4096#32)) (iotaInDim S32 32 0)))))
    (broadcastInDim S32x16 ![0, 1] bcast_S1x16_S32x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- The keys rotated by given angles. -/
def rotated (n : FVec Ideal S32x32x32 .f32) (a : FVec Ideal S32x16 .f32) : FVec Ideal S32x32x32 .f32 :=
  let n1 := extractStridedSlice S32x32x16 ![0, 0, 0] n slices_S32x32x32_S32x32x16_0_0_0
  let n2 := extractStridedSlice S32x32x16 ![0, 0, 16] n slices_S32x32x32_S32x32x16_0_0_16
  let cs := broadcastInDim S32x32x16 ![0, 1, 2] bcast_S1x32x16_S32x32x16_0_1_2 (broadcastInDim S1x32x16 ![1, 2] bcast_S32x16_S1x32x16_1_2 (Host.cos a))
  let sn := broadcastInDim S32x32x16 ![0, 1, 2] bcast_S1x32x16_S32x32x16_0_1_2 (broadcastInDim S1x32x16 ![1, 2] bcast_S32x16_S1x32x16_1_2 (Host.sin a))
  concatenate S32x32x32 2 [⟨S32x32x16, subf (mulf n1 cs) (mulf n2 sn)⟩, ⟨S32x32x16, addf (mulf n1 sn) (mulf n2 cs)⟩] concatenates_S32x32x16_S32x32x16_S32x32x32_d2

/-- The values. -/
def values (l : FVec Ideal S32x32x128 .f32) (w : FVec Ideal S128x1024 .f32) : FVec Ideal S32x32x512 .bf16 :=
  truncf .bf16 (shapeCast S32x32x512 (extractStridedSlice S32x32x8x64 ![0, 0, 0, 64]
    (shapeCast S32x32x8x128 (Host.dotGeneral dot_S32x32x128_S128x1024_S32x32x1024_2_0_01_1_n_n none l w) shapeCasts_S32x32x1024_S32x32x8x128)
    slices_S32x32x8x128_S32x32x8x64_0_0_0_64) shapeCasts_S32x32x8x64_S32x32x512) bitsLt_bf16_f32

/-- The recurrence's columns. -/
def recurrent (p : FVec Ideal S32x32x2208 .f32) : FVec Ideal S32x32x1792 .f32 :=
  extractStridedSlice S32x32x1792 ![0, 0, 416] p slices_S32x32x2208_S32x32x1792_0_0_416

/-- The recurrence's columns mixed with the row before, the first row's being the carried one. -/
def mixed (q : FVec Ideal S32x32x1792 .f32) (s : FVec Ideal S32x1792 .f32) (mu : FVec Ideal S1792 .f32) : FVec Ideal S32x32x1792 .f32 :=
  addf q (mulf (subf (concatenate S32x32x1792 1 [⟨S32x1x1792, (broadcastInDim S32x1x1792 ![0, 2] bcast_S32x1792_S32x1x1792_0_2 s)⟩,
      ⟨S32x31x1792, (extractStridedSlice S32x31x1792 ![0, 0, 0] q slices_S32x32x1792_S32x31x1792_0_0_0)⟩] concatenates_S32x1x1792_S32x31x1792_S32x32x1792_d1) q)
    (broadcastInDim S32x32x1792 ![0, 1, 2] bcast_S1x1x1792_S32x32x1792_0_1_2 (broadcastInDim S1x1x1792 ![2] bcast_S1792_S1x1x1792_2 mu)))

/-- The gate of the recurrence's keys. -/
def gates (z : FVec Ideal S32x32x1792 .f32) (a0 : FVec Ideal S512 .f32) (a2 : FVec Ideal S64x512 .f32) : FVec Ideal S32x32x512 .f32 :=
  Host.divf (broadcastInDim S32x32x512 ![] bcast_S_S32x32x512 (constant S_ .f32 0x3F800000#32))
    (addf (broadcastInDim S32x32x512 ![] bcast_S_S32x32x512 (constant S_ .f32 0x3F800000#32)) (Host.exp (Host.negf
      (addf (broadcastInDim S32x32x512 ![0, 1, 2] bcast_S1x1x512_S32x32x512_0_1_2 (broadcastInDim S1x1x512 ![2] bcast_S512_S1x1x512_2 a0))
        (Host.dotGeneral dot_S32x32x64_S64x512_S32x32x512_2_0_01_1_n_n none (extractStridedSlice S32x32x64 ![0, 0, 1600] z slices_S32x32x1792_S32x32x64_0_0_1600) a2)))))

/-- The recurrence's keys, gated. -/
def gatedKeys (z : FVec Ideal S32x32x1792 .f32) (a : FVec Ideal S32x32x512 .f32) (ka : FVec Ideal S512 .f32) : FVec Ideal S32x32x512 .f32 :=
  mulf (extractStridedSlice S32x32x512 ![0, 0, 512] z slices_S32x32x1792_S32x32x512_0_0_512)
    (addf (broadcastInDim S32x32x512 ![] bcast_S_S32x32x512 (constant S_ .f32 0x3F800000#32))
      (mulf (subf a (broadcastInDim S32x32x512 ![] bcast_S_S32x32x512 (constant S_ .f32 0x3F800000#32)))
        (broadcastInDim S32x32x512 ![0, 1, 2] bcast_S1x1x512_S32x32x512_0_1_2 (broadcastInDim S1x1x512 ![2] bcast_S512_S1x1x512_2 ka))))

/-- An entry of the normed activations. -/
theorem normed_apply (x : FVec Ideal S32x32x1024 .f32) (g : FVec Ideal S1024 .f32) (i s : Fin 32) (n : Fin 1024) :
    normed x g (ix3 i s n) = normRow (fun k => x (ix3 i s k)) (fun k => g (ix1 k)) n := by
  unfold normRow
  pointwise [normed]

/-- An entry of a product with the projection's weights. -/
theorem projected_apply (u : FVec Ideal S32x32x1024 .f32) (w : FVec Ideal S1024x2208 .f32) (i s : Fin 32) (j : Fin 2208) :
    projected u w (ix3 i s j) = ∑ k, u (ix3 i s k) * w (ix2 k j) := by
  pointwise [projected]

/-- An entry of the projected activations. -/
theorem projection_apply (x : FVec Ideal S32x32x1024 .f32) (g : FVec Ideal S1024 .f32) (w : FVec Ideal S1024x2208 .f32) (i s : Fin 32) (j : Fin 2208) :
    projected (normed x g) w (ix3 i s j) = projRow (fun k => x (ix3 i s k)) (fun k => g (ix1 k)) (fun k j => w (ix2 k j)) j := by
  unfold projRow projCol
  simp only [projected_apply, normed_apply]

/-- An entry of the latents. -/
theorem latents_apply (p : FVec Ideal S32x32x2208 .f32) (g : FVec Ideal S128 .f32) (i s : Fin 32) (j : Fin 128) :
    latents p g (ix3 i s j) = latentRow (fun j => p (ix3 i s j)) (fun k => g (ix1 k)) j := by
  unfold latentRow scale
  pointwise [latents]

/-- An entry of the keys before the rotation. -/
theorem keys_apply (p : FVec Ideal S32x32x2208 .f32) (g : FVec Ideal S32 .f32) (i s j : Fin 32) :
    keys p g (ix3 i s j) = keyRow (fun j => p (ix3 i s j)) (fun k => g (ix1 k)) j := by
  unfold keyRow scale
  pointwise [keys]

/-- An entry of the rotated keys. -/
theorem rotated_apply (n : FVec Ideal S32x32x32 .f32) (a : FVec Ideal S32x16 .f32) (i s j : Fin 32) :
    rotated n a (ix3 i s j) = rotRow (fun j => n (ix3 i s j)) (fun k => a (ix2 s k)) j := by
  have e : ∀ h : ¬ j.val < 16, (⟨16 + (j.val - 16), by omega⟩ : Fin 32) = j := fun h => Fin.ext (by show 16 + (j.val - 16) = j.val; omega)
  unfold rotRow
  pointwise [rotated]
  split
  · rw [show (⟨16 + j.val, _⟩ : Fin 32) = ⟨j.val + 16, by omega⟩ from Fin.ext (Nat.add_comm _ _)]
  · rename_i h
    rw [e h]

/-- An entry of the values. -/
theorem values_apply (l : FVec Ideal S32x32x128 .f32) (w : FVec Ideal S128x1024 .f32) (i s : Fin 32) (j : Fin 512) :
    values l w (ix3 i s j) = valueRow (fun k => l (ix3 i s k)) (fun k j => w (ix2 k j)) j := by
  unfold valueRow
  pointwise [values]

/-- An entry of the recurrence's columns. -/
theorem recurrent_apply (p : FVec Ideal S32x32x2208 .f32) (i s : Fin 32) (j : Fin 1792) :
    recurrent p (ix3 i s j) = recRow (fun j => p (ix3 i s j)) j := by
  unfold recRow
  pointwise [recurrent]

/-- An entry of the mixed rows. -/
theorem mixed_apply (q : FVec Ideal S32x32x1792 .f32) (z : FVec Ideal S32x1792 .f32) (mu : FVec Ideal S1792 .f32) (i s : Fin 32) (j : Fin 1792) :
    mixed q z mu (ix3 i s j)
      = mixCol (if h : s.val < 1 then z (ix2 i j) else q (ix3 i ⟨s.val - 1, by omega⟩ j)) (q (ix3 i s j)) (mu (ix1 j)) := by
  unfold mixCol
  pointwise [mixed]

/-- An entry of the gate. -/
theorem gates_apply (z : FVec Ideal S32x32x1792 .f32) (a0 : FVec Ideal S512 .f32) (a2 : FVec Ideal S64x512 .f32) (i s : Fin 32) (j : Fin 512) :
    gates z a0 a2 (ix3 i s j) = gateCol (fun k => z (ix3 i s ⟨1600 + k.val, by omega⟩)) (a0 (ix1 j)) fun k => a2 (ix2 k j) := by
  unfold gateCol Ideal.logistic
  pointwise [gates]

/-- An entry of the gated keys. -/
theorem gatedKeys_apply (z : FVec Ideal S32x32x1792 .f32) (a : FVec Ideal S32x32x512 .f32) (ka : FVec Ideal S512 .f32) (i s : Fin 32) (j : Fin 512) :
    gatedKeys z a ka (ix3 i s j) = gatedCol (z (ix3 i s ⟨512 + j.val, by omega⟩)) (a (ix3 i s j)) (ka (ix1 j)) := by
  unfold gatedCol
  pointwise [gatedKeys]

end Cert.ProjReferenceIdeal.Value

end
-- ==== Proof.ProjValue.lean ====
/-
  What the projection's body leaves of the argument's blocks, entry by entry: the reference's entries.
-/
module

public import proofs.«01_k».proof.Proof.ProjPay
public import proofs.«01_k».proof.Proof.ProjHost
public import proofs.«01_k».proof.Proof.ProjBody
public import proofs.«01_k».proof.Proof.ProjReference

@[expose] public section

noncomputable section

namespace Cert.ProjIdeal.Gen

open Idealize.ShloMosaic Idealize.ShloMosaic.TcCoe Idealize.SL.Sem Idealize.ShloMosaic.StableHlo Cert.TailRow Cert.ProjRow
open Facts

variable (m : (ℓ : Loc nD τ sig) → Buf (Elt Ideal) ℓ) (c : Dev nD) (t : Fin cfg0.N)

/-- The batch of grid point `t`, its first coordinate. -/
def point : Fin 32 := grid0.coords t 0

/-- The batch as the index maps compute it. -/
theorem point_word : (BitVec.ofNat 32 (point t).val).toNat = (point t).val := by
  rw [BitVec.toNat_ofNat]
  exact Nat.mod_eq_of_lt (by have := (point t).isLt; omega)

/-- The second coordinate, of one value, as the index maps compute it. -/
theorem second_word : (BitVec.ofNat 32 (grid0.coords t 1).val).toNat = 0 := by
  have h : (grid0.coords t 1).val < 1 := (grid0.coords t 1).isLt
  rw [Nat.lt_one_iff.mp h]
  rfl

/-- The activations' block is one batch. -/
theorem iblk0_apply (r : Fin 32) (n : Fin 1024) :
    (iblk m c 0 t : Vec Ideal S1x32x1024 .f32) (ix3 0 r n) = m ((c : Thread nD τ).loc main_arg0) (ix3 (point t) r n) := by
  show (V m c main_arg0 : Vec Ideal S32x32x1024 .f32) (((cfg0.win 0).blk t).view.emb (ix3 0 r n)) = _
  have e : ((cfg0.win 0).blk t).view.emb (ix3 0 r n) = ix3 (point t) r n := by
    refine funext fun a => Fin.ext ?_
    refine (win0_0.rect_emb_val t (ix3 0 r n) a).trans ?_
    fin_cases a
    · show (BitVec.ofNat 32 (point t).val).toNat * 1 + 0 = (point t).val
      rw [point_word]; omega
    · show (BitVec.ofNat 32 (grid0.coords t 1).val).toNat * 32 + r.val = r.val
      rw [second_word]; omega
    · show 0 * 1024 + n.val = n.val
      omega
  rw [e, V_main_arg0]

/-- The carried row's block is one batch's. -/
theorem iblk1_apply (n : Fin 1792) :
    (iblk m c 1 t : Vec Ideal S1x1x1792 .f32) (ix3 0 0 n) = m ((c : Thread nD τ).loc main_arg1) (ix2 (point t) n) := by
  show (V m c main_v41 : Vec Ideal S32x1x1792 .f32) (((cfg0.win 1).blk t).view.emb (ix3 0 0 n)) = _
  have e : ((cfg0.win 1).blk t).view.emb (ix3 0 0 n) = ix3 (point t) 0 n := by
    refine funext fun a => Fin.ext ?_
    refine (win0_1.rect_emb_val t (ix3 0 0 n) a).trans ?_
    fin_cases a
    · show (BitVec.ofNat 32 (point t).val).toNat * 1 + 0 = (point t).val
      rw [point_word]; omega
    · show 0 * 1 + 0 = 0
      omega
    · show 0 * 1792 + n.val = n.val
      omega
  rw [e, V_main_v41]
  exact carried_read _ _ _

/-- The cosines, a block of the whole matrix. -/
theorem iblk4_apply (r : Fin 32) (n : Fin 128) :
    (iblk m c 4 t : Vec Ideal S32x128 .f32) (ix2 r n) = cosines angles (ix2 r n) := by
  show (V m c main_v68 : Vec Ideal S32x128 .f32) (((cfg0.win 4).blk t).view.emb (ix2 r n)) = _
  have e : ((cfg0.win 4).blk t).view.emb (ix2 r n) = ix2 r n := by
    refine funext fun a => Fin.ext ?_
    refine (win0_4.rect_emb_val t (ix2 r n) a).trans ?_
    fin_cases a
    · show (BitVec.ofNat 32 (grid0.coords t 1).val).toNat * 32 + r.val = r.val
      rw [second_word]; omega
    · show 0 * 128 + n.val = n.val
      omega
  rw [e, V_main_v68]

/-- The sines, a block of the whole matrix. -/
theorem iblk5_apply (r : Fin 32) (n : Fin 128) :
    (iblk m c 5 t : Vec Ideal S32x128 .f32) (ix2 r n) = sines angles (ix2 r n) := by
  show (V m c main_v69 : Vec Ideal S32x128 .f32) (((cfg0.win 5).blk t).view.emb (ix2 r n)) = _
  have e : ((cfg0.win 5).blk t).view.emb (ix2 r n) = ix2 r n := by
    refine funext fun a => Fin.ext ?_
    refine (win0_5.rect_emb_val t (ix2 r n) a).trans ?_
    fin_cases a
    · show (BitVec.ofNat 32 (grid0.coords t 1).val).toNat * 32 + r.val = r.val
      rw [second_word]; omega
    · show 0 * 128 + n.val = n.val
      omega
  rw [e, V_main_v69]

/-- The norm's gain, a block of the whole row. -/
theorem iblk6_apply (n : Fin 1024) :
    (iblk m c 6 t : Vec Ideal S1x1024 .f32) (ix2 0 n) = m ((c : Thread nD τ).loc main_arg2) (ix1 n) := by
  show (V m c main_v32 : Vec Ideal S1x1024 .f32) (((cfg0.win 6).blk t).view.emb (ix2 0 n)) = _
  have e : ((cfg0.win 6).blk t).view.emb (ix2 0 n) = ix2 0 n := by
    refine funext fun a => Fin.ext ?_
    refine (win0_6.rect_emb_val t (ix2 0 n) a).trans ?_
    fin_cases a
    · show 0 * 1 + 0 = 0
      omega
    · show 0 * 1024 + n.val = n.val
      omega
  rw [e, V_main_v32]
  exact row1024_read _ n

/-- The weights, a block of the whole matrix. -/
theorem iblk7_apply (r : Fin 1024) (n : Fin 2304) :
    (iblk m c 7 t : Vec Ideal S1024x2304 .bf16) (ix2 r n) = wide (m ((c : Thread nD τ).loc main_arg3)) (ix2 r n) := by
  show (V m c main_v12 : Vec Ideal S1024x2304 .bf16) (((cfg0.win 7).blk t).view.emb (ix2 r n)) = _
  have e : ((cfg0.win 7).blk t).view.emb (ix2 r n) = ix2 r n := by
    refine funext fun a => Fin.ext ?_
    refine (win0_7.rect_emb_val t (ix2 r n) a).trans ?_
    fin_cases a
    · show 0 * 1024 + r.val = r.val
      omega
    · show 0 * 2304 + n.val = n.val
      omega
  rw [e, V_main_v12]

/-- The latents' gain, a block of the whole row. -/
theorem iblk14_apply (n : Fin 128) :
    (iblk m c 14 t : Vec Ideal S1x128 .f32) (ix2 0 n) = m ((c : Thread nD τ).loc main_arg10) (ix1 n) := by
  show (V m c main_v33 : Vec Ideal S1x128 .f32) (((cfg0.win 14).blk t).view.emb (ix2 0 n)) = _
  have e : ((cfg0.win 14).blk t).view.emb (ix2 0 n) = ix2 0 n := by
    refine funext fun a => Fin.ext ?_
    refine (win0_14.rect_emb_val t (ix2 0 n) a).trans ?_
    fin_cases a
    · show 0 * 1 + 0 = 0
      omega
    · show 0 * 128 + n.val = n.val
      omega
  rw [e, V_main_v33]
  exact row128_read _ n

/-- The keys' gain, a block of the whole row. -/
theorem iblk15_apply (n : Fin 128) :
    (iblk m c 15 t : Vec Ideal S1x128 .f32) (ix2 0 n) = keyGain (m ((c : Thread nD τ).loc main_arg11)) (ix2 0 n) := by
  show (V m c main_v34 : Vec Ideal S1x128 .f32) (((cfg0.win 15).blk t).view.emb (ix2 0 n)) = _
  have e : ((cfg0.win 15).blk t).view.emb (ix2 0 n) = ix2 0 n := by
    refine funext fun a => Fin.ext ?_
    refine (win0_15.rect_emb_val t (ix2 0 n) a).trans ?_
    fin_cases a
    · show 0 * 1 + 0 = 0
      omega
    · show 0 * 128 + n.val = n.val
      omega
  rw [e, V_main_v34]

/-- The keys' exchanged gain, a block of the whole row. -/
theorem iblk16_apply (n : Fin 128) :
    (iblk m c 16 t : Vec Ideal S1x128 .f32) (ix2 0 n) = keyGain (swapGain (m ((c : Thread nD τ).loc main_arg11))) (ix2 0 n) := by
  show (V m c main_v35 : Vec Ideal S1x128 .f32) (((cfg0.win 16).blk t).view.emb (ix2 0 n)) = _
  have e : ((cfg0.win 16).blk t).view.emb (ix2 0 n) = ix2 0 n := by
    refine funext fun a => Fin.ext ?_
    refine (win0_16.rect_emb_val t (ix2 0 n) a).trans ?_
    fin_cases a
    · show 0 * 1 + 0 = 0
      omega
    · show 0 * 128 + n.val = n.val
      omega
  rw [e, V_main_v35]

/-- The values' columns, a block of the whole matrix. -/
theorem iblk21_apply (r : Fin 128) (n : Fin 512) :
    (iblk m c 21 t : Vec Ideal S128x512 .bf16) (ix2 r n) = valueCols (m ((c : Thread nD τ).loc main_arg16)) (ix2 r n) := by
  show (V m c main_v16 : Vec Ideal S128x512 .bf16) (((cfg0.win 21).blk t).view.emb (ix2 r n)) = _
  have e : ((cfg0.win 21).blk t).view.emb (ix2 r n) = ix2 r n := by
    refine funext fun a => Fin.ext ?_
    refine (win0_21.rect_emb_val t (ix2 r n) a).trans ?_
    fin_cases a
    · show 0 * 128 + r.val = r.val
      omega
    · show 0 * 512 + n.val = n.val
      omega
  rw [e, V_main_v16]

/-- The mixing weights, a block of the whole row. -/
theorem iblk22_apply (n : Fin 1792) :
    (iblk m c 22 t : Vec Ideal S1x1792 .f32) (ix2 0 n) = m ((c : Thread nD τ).loc main_arg17) (ix1 n) := by
  show (V m c main_v36 : Vec Ideal S1x1792 .f32) (((cfg0.win 22).blk t).view.emb (ix2 0 n)) = _
  have e : ((cfg0.win 22).blk t).view.emb (ix2 0 n) = ix2 0 n := by
    refine funext fun a => Fin.ext ?_
    refine (win0_22.rect_emb_val t (ix2 0 n) a).trans ?_
    fin_cases a
    · show 0 * 1 + 0 = 0
      omega
    · show 0 * 1792 + n.val = n.val
      omega
  rw [e, V_main_v36]
  exact row1792_read _ n

/-- The gate's bias, a block of the whole row. -/
theorem iblk25_apply (n : Fin 512) :
    (iblk m c 25 t : Vec Ideal S1x512 .f32) (ix2 0 n) = m ((c : Thread nD τ).loc main_arg20) (ix1 n) := by
  show (V m c main_v38 : Vec Ideal S1x512 .f32) (((cfg0.win 25).blk t).view.emb (ix2 0 n)) = _
  have e : ((cfg0.win 25).blk t).view.emb (ix2 0 n) = ix2 0 n := by
    refine funext fun a => Fin.ext ?_
    refine (win0_25.rect_emb_val t (ix2 0 n) a).trans ?_
    fin_cases a
    · show 0 * 1 + 0 = 0
      omega
    · show 0 * 512 + n.val = n.val
      omega
  rw [e, V_main_v38]
  exact row512_read _ n

/-- The gate's matrix, a block of the whole matrix. -/
theorem iblk26_apply (r : Fin 128) (n : Fin 512) :
    (iblk m c 26 t : Vec Ideal S128x512 .bf16) (ix2 r n) = gateRows (m ((c : Thread nD τ).loc main_arg21)) (ix2 r n) := by
  show (V m c main_v31 : Vec Ideal S128x512 .bf16) (((cfg0.win 26).blk t).view.emb (ix2 r n)) = _
  have e : ((cfg0.win 26).blk t).view.emb (ix2 r n) = ix2 r n := by
    refine funext fun a => Fin.ext ?_
    refine (win0_26.rect_emb_val t (ix2 r n) a).trans ?_
    fin_cases a
    · show 0 * 128 + r.val = r.val
      omega
    · show 0 * 512 + n.val = n.val
      omega
  rw [e, V_main_v31]

/-- The gate's weights, a block of the whole row. -/
theorem iblk28_apply (n : Fin 512) :
    (iblk m c 28 t : Vec Ideal S1x512 .f32) (ix2 0 n) = m ((c : Thread nD τ).loc main_arg23) (ix1 n) := by
  show (V m c main_v40 : Vec Ideal S1x512 .f32) (((cfg0.win 28).blk t).view.emb (ix2 0 n)) = _
  have e : ((cfg0.win 28).blk t).view.emb (ix2 0 n) = ix2 0 n := by
    refine funext fun a => Fin.ext ?_
    refine (win0_28.rect_emb_val t (ix2 0 n) a).trans ?_
    fin_cases a
    · show 0 * 1 + 0 = 0
      omega
    · show 0 * 512 + n.val = n.val
      omega
  rw [e, V_main_v40]
  exact row512_read _ n

/-- The reference's projected activations. -/
def activations : FVec Ideal Cert.ProjReferenceIdeal.S32x32x2208 .f32 :=
  Cert.ProjReferenceIdeal.Value.projected (Cert.ProjReferenceIdeal.Value.normed (m ((c : Thread nD τ).loc main_arg0)) (m ((c : Thread nD τ).loc main_arg2))) (m ((c : Thread nD τ).loc main_arg3))

/-- The projected block. -/
def block : FVec Ideal S32x2304 .f32 := k0_pay2 (iblk m c 0 t) (iblk m c 6 t) (iblk m c 7 t)

/-- An entry of the projected block whose column of the widened weights is one of the weights'. -/
theorem block_apply (r : Fin 32) (j : Fin 2304) (i : Fin 2208) (h : ∀ k, wide (m ((c : Thread nD τ).loc main_arg3)) (ix2 k j) = m ((c : Thread nD τ).loc main_arg3) (ix2 k i)) :
    block m c t (ix2 r j) = activations m c (ix3 (point t) r i) := by
  unfold block activations
  rw [pay2_apply, Cert.ProjReferenceIdeal.Value.projection_apply]
  simp only [iblk0_apply, iblk6_apply, iblk7_apply, h]
  rfl

/-- A column of the first 416. -/
theorem block_low (r : Fin 32) (j : Fin 416) : block m c t (ix2 r ⟨j.val, by omega⟩) = activations m c (ix3 (point t) r ⟨j.val, by omega⟩) :=
  block_apply m c t r _ _ fun k => wide_low _ k j

/-- An exchanged column. -/
theorem block_swap (r j : Fin 32) : block m c t (ix2 r ⟨416 + j.val, by omega⟩) = activations m c (ix3 (point t) r ⟨384 + (swap j).val, by omega⟩) :=
  block_apply m c t r _ _ fun k => wide_swap _ k j

/-- A column of the recurrence. -/
theorem block_high (r : Fin 32) (j : Fin 1792) : block m c t (ix2 r ⟨512 + j.val, by omega⟩) = activations m c (ix3 (point t) r ⟨416 + j.val, by omega⟩) :=
  block_apply m c t r _ _ fun k => wide_high _ k j

/-- The reference's latents. -/
def latentsOf : FVec Ideal Cert.ProjReferenceIdeal.S32x32x128 .f32 := Cert.ProjReferenceIdeal.Value.latents (activations m c) (m ((c : Thread nD τ).loc main_arg10))

/-- An entry of the block's latents. -/
theorem pay10_latents (r : Fin 32) (j : Fin 128) : k0_pay10 (block m c t) (iblk m c 14 t) (ix2 r j) = latentsOf m c (ix3 (point t) r j) := by
  unfold latentsOf
  rw [pay10_apply, Cert.ProjReferenceIdeal.Value.latents_apply]
  unfold latentRow
  rw [iblk14_apply]
  have e : ∀ k : Fin 128, block m c t (ix2 r ⟨256 + k.val, by omega⟩) = activations m c (ix3 (point t) r ⟨256 + k.val, by omega⟩) :=
    fun k => block_low m c t r ⟨256 + k.val, by omega⟩
  simp only [e]

/-- The latents. -/
theorem out30_apply (r : Fin 32) (j : Fin 128) :
    out30 (iblk m c 0 t) (iblk m c 6 t) (iblk m c 7 t) (iblk m c 14 t) (ix3 0 r j) = latentsOf m c (ix3 (point t) r j) :=
  (pay11_apply _ _ r j).trans (pay10_latents m c t r j)

/-- The reference's values. -/
def valuesOf : FVec Ideal Cert.ProjReferenceIdeal.S32x32x512 .bf16 := Cert.ProjReferenceIdeal.Value.values (latentsOf m c) (m ((c : Thread nD τ).loc main_arg16))

/-- The values. -/
theorem out34_apply (r : Fin 32) (j : Fin 512) :
    out34 (iblk m c 0 t) (iblk m c 6 t) (iblk m c 7 t) (iblk m c 14 t) (iblk m c 21 t) (ix3 0 r j) = valuesOf m c (ix3 (point t) r j) := by
  unfold valuesOf
  refine (pay25_apply _ _ r j).trans ?_
  rw [Cert.ProjReferenceIdeal.Value.values_apply]
  unfold valueRow
  refine Finset.sum_congr rfl fun k _ => ?_
  rw [iblk21_apply, valueCols_apply]
  exact congrArg (· * _) (pay10_latents m c t r k)

/-- The reference's mixed rows. -/
def mixedOf : FVec Ideal Cert.ProjReferenceIdeal.S32x32x1792 .f32 :=
  Cert.ProjReferenceIdeal.Value.mixed (Cert.ProjReferenceIdeal.Value.recurrent (activations m c)) (m ((c : Thread nD τ).loc main_arg1)) (m ((c : Thread nD τ).loc main_arg17))

/-- An entry of the block's mixed rows. -/
theorem pay31_mixed (r : Fin 32) (j : Fin 1792) :
    k0_pay31 (block m c t) (k0_pay27 (iblk m c 1 t)) (iblk m c 22 t) (ix2 r j) = mixedOf m c (ix3 (point t) r j) := by
  unfold mixedOf
  rw [pay31_apply, Cert.ProjReferenceIdeal.Value.mixed_apply, iblk22_apply]
  simp only [Cert.ProjReferenceIdeal.Value.recurrent_apply, recRow, block_high, pay27_apply, iblk1_apply]

/-- The receptance's columns. -/
theorem out35_apply (r : Fin 32) (j : Fin 512) :
    out35 (iblk m c 0 t) (iblk m c 1 t) (iblk m c 6 t) (iblk m c 7 t) (iblk m c 22 t) (ix3 0 r j) = mixedOf m c (ix3 (point t) r ⟨j.val, by omega⟩) :=
  (pay46_apply _ _ _ r j).trans (pay31_mixed m c t r _)

/-- The values' columns of the recurrence. -/
theorem out38_apply (r : Fin 32) (j : Fin 512) :
    out38 (iblk m c 0 t) (iblk m c 1 t) (iblk m c 6 t) (iblk m c 7 t) (iblk m c 22 t) (ix3 0 r j) = mixedOf m c (ix3 (point t) r ⟨1024 + j.val, by omega⟩) :=
  (pay48_apply _ _ _ r j).trans (pay31_mixed m c t r _)

/-- The output gate's columns. -/
theorem out41_apply (r : Fin 32) (j : Fin 128) :
    out41 (iblk m c 0 t) (iblk m c 1 t) (iblk m c 6 t) (iblk m c 7 t) (iblk m c 22 t) (ix3 0 r j) = mixedOf m c (ix3 (point t) r ⟨1664 + j.val, by omega⟩) :=
  (pay36_apply _ _ _ r j).trans (pay31_mixed m c t r _)

/-- The carried row. -/
theorem out42_apply (j : Fin 1792) :
    out42 (iblk m c 0 t) (iblk m c 6 t) (iblk m c 7 t) (ix3 0 0 j)
      = Cert.ProjReferenceIdeal.Value.recurrent (activations m c) (ix3 (point t) 31 j) :=
  (pay30_apply _ j).trans ((block_high m c t 31 j).trans (Cert.ProjReferenceIdeal.Value.recurrent_apply _ _ _ _).symm)

/-- The reference's gate. -/
def gatesOf : FVec Ideal Cert.ProjReferenceIdeal.S32x32x512 .f32 := Cert.ProjReferenceIdeal.Value.gates (mixedOf m c) (m ((c : Thread nD τ).loc main_arg20)) (m ((c : Thread nD τ).loc main_arg21))

/-- An entry of the block's gate: the first 64 rows of its matrix are zeros. -/
theorem pay39_gates (r : Fin 32) (j : Fin 512) :
    k0_pay39 (k0_pay35 (block m c t) (k0_pay27 (iblk m c 1 t)) (iblk m c 22 t)) (iblk m c 26 t) (iblk m c 25 t) (ix2 r j) = gatesOf m c (ix3 (point t) r j) := by
  unfold gatesOf
  rw [pay39_apply, Cert.ProjReferenceIdeal.Value.gates_apply]
  unfold gateCol
  simp only [pay35_apply, pay31_mixed, iblk25_apply, iblk26_apply]
  refine congrArg (fun s => Ideal.logistic (_ + s)) ?_
  refine (Fin.sum_univ_add (a := 64) (b := 64) _).trans ?_
  simp only [gateRows_low, gateRows_high, mul_zero, Finset.sum_const_zero, zero_add]
  refine Finset.sum_congr rfl fun k _ => ?_
  refine congrArg (· * _) (congrArg (fun q => mixedOf m c (ix3 (point t) r q)) (Fin.ext ?_))
  show 1536 + (64 + k.val) = 1600 + k.val
  omega

/-- The reference's gated keys. -/
def gatedOf : FVec Ideal Cert.ProjReferenceIdeal.S32x32x512 .f32 := Cert.ProjReferenceIdeal.Value.gatedKeys (mixedOf m c) (gatesOf m c) (m ((c : Thread nD τ).loc main_arg23))

/-- The gated keys. -/
theorem out37_apply (r : Fin 32) (j : Fin 512) :
    out37 (iblk m c 0 t) (iblk m c 1 t) (iblk m c 6 t) (iblk m c 7 t) (iblk m c 22 t) (iblk m c 25 t) (iblk m c 26 t) (iblk m c 28 t) (ix3 0 r j)
      = gatedOf m c (ix3 (point t) r j) := by
  unfold gatedOf
  refine (pay47_apply _ _ _ _ _ r j).trans ?_
  rw [Cert.ProjReferenceIdeal.Value.gatedKeys_apply, iblk28_apply]
  exact congrArg₂ (fun a b => gatedCol a b _) (pay31_mixed m c t r _) (pay39_gates m c t r j)

end Cert.ProjIdeal.Gen

end
-- ==== Proof.ProjRotation.lean ====
/-
  The rotation of a normed row of keys, with the reciprocal root taken out of the sum.
-/
module

public import proofs.«01_k».proof.Proof.ProjRow
public import proofs.«01_k».proof.Proof.ProjHost

@[expose] public section

noncomputable section

namespace Cert.ProjRow

open Idealize.ShloMosaic Cert.ProjIdeal.Gen

/-- The word of a 32nd. -/
theorem ofBits_32nd : Ideal.ofBits .f32 0x3D000000#32 = ((1 / 32 : ℝ) : EReal) := by
  simp [Ideal.ofBits, Ideal.ieee, -EReal.coe_mul]
  norm_num

/-- The word of 32. -/
theorem ofBits_32 : Ideal.ofBits .f32 0x42000000#32 = ((32 : ℝ) : EReal) := by
  simp [Ideal.ofBits, Ideal.ieee, -EReal.coe_mul]
  norm_num

/-- The norm's small number is positive. -/
theorem ofBits_small : ∃ e : ℝ, 0 < e ∧ Ideal.ofBits .f32 0x358637BD#32 = (e : EReal) := by
  refine ⟨8796093 * 2 ^ (-43 : ℤ), by norm_num, ?_⟩
  simp [Ideal.ofBits, Ideal.ieee, -EReal.coe_mul]

/-- A product with a 32nd is the quotient by 32. -/
theorem mul_32nd (q : EReal) : q * Ideal.ofBits .f32 0x3D000000#32 = Ideal.div q (Ideal.ofBits .f32 0x42000000#32) := by
  rw [ofBits_32nd, ofBits_32, Ideal.div_coe (by norm_num)]

/-- A square is not negative. -/
theorem square_nonneg (x : EReal) : 0 ≤ x * x := by
  induction x using EReal.rec with
  | bot => simp
  | top => simp
  | coe r => exact_mod_cast mul_self_nonneg r

/-- The reciprocal root of a number not below zero plus the norm's small number is not negative and no infinity. -/
theorem root_range (q : EReal) (hq : 0 ≤ q) :
    0 ≤ Ideal.rsqrt (q + Ideal.ofBits .f32 0x358637BD#32) ∧ Ideal.rsqrt (q + Ideal.ofBits .f32 0x358637BD#32) ≠ ⊤ := by
  obtain ⟨e, he, h⟩ := ofBits_small
  rw [h]
  induction q using EReal.rec with
  | bot => simp at hq
  | top => rw [EReal.top_add_coe, Ideal.rsqrt_top]; exact ⟨le_rfl, EReal.zero_ne_top⟩
  | coe r =>
    have hr : 0 ≤ r := by exact_mod_cast hq
    rw [← EReal.coe_add, Ideal.rsqrt_coe, if_neg (by linarith), if_neg (by linarith)]
    exact ⟨EReal.coe_nonneg.mpr (inv_nonneg.mpr (Real.sqrt_nonneg _)), EReal.coe_ne_top _⟩

/-- The rotation of a normed row, with the reciprocal root taken out. -/
theorem rotation_eq (p : Fin 2208 → EReal) (g : Fin 32 → EReal) (a : Fin 16 → EReal) (j : Fin 32) :
    Ideal.rsqrt ((∑ k : Fin 32, p ⟨384 + k.val, by omega⟩ * p ⟨384 + k.val, by omega⟩) * Ideal.ofBits .f32 0x3D000000#32 + Ideal.ofBits .f32 0x358637BD#32)
        * (p ⟨384 + j.val, by omega⟩ * g j * Ideal.cos (a (if h : j.val < 16 then ⟨j.val, h⟩ else ⟨j.val - 16, by omega⟩))
          + p ⟨384 + (swap j).val, by omega⟩ * g (swap j) * (if h : j.val < 16 then -Ideal.sin (a ⟨j.val, h⟩) else Ideal.sin (a ⟨j.val - 16, by omega⟩)))
      = rotRow (keyRow p g) a j := by
  have hs : 0 ≤ (∑ k : Fin 32, p ⟨384 + k.val, by omega⟩ * p ⟨384 + k.val, by omega⟩) * Ideal.ofBits .f32 0x3D000000#32 := by
    refine mul_nonneg (Finset.sum_nonneg fun k _ => square_nonneg _) ?_
    rw [ofBits_32nd]
    exact EReal.coe_nonneg.mpr (by norm_num)
  obtain ⟨h0, ht⟩ := root_range _ hs
  rw [EReal.left_distrib_of_nonneg_of_ne_top h0 ht]
  unfold rotRow keyRow scale
  rw [← mul_32nd]
  generalize Ideal.rsqrt _ = s
  have hc : ∀ x y z : EReal, s * (x * y * z) = x * s * y * z := fun x y z => by rw [← mul_assoc, ← mul_assoc, mul_comm s x]
  by_cases h : j.val < 16
  · have e : swap j = ⟨j.val + 16, by omega⟩ := by simp only [swap, h, dite_true]
    simp only [h, dite_true, e]
    rw [hc, hc, mul_neg, sub_eq_add_neg]
  · have e : swap j = ⟨j.val - 16, by omega⟩ := by simp only [swap, h, dite_false]
    simp only [h, dite_false, e]
    rw [hc, hc, add_comm]

end Cert.ProjRow

end
-- ==== Proof.ProjKeys.lean ====
/-
  What the projection's body leaves of the argument's blocks as the rotated keys, entry by entry: the reference's entries.
-/
module

public import proofs.«01_k».proof.Proof.ProjValue
public import proofs.«01_k».proof.Proof.ProjRotation

@[expose] public section

noncomputable section

namespace Cert.ProjIdeal.Gen

open Idealize.ShloMosaic Idealize.ShloMosaic.TcCoe Idealize.SL.Sem Idealize.ShloMosaic.StableHlo Cert.TailRow Cert.ProjRow
open Facts

variable (m : (ℓ : Loc nD τ sig) → Buf (Elt Ideal) ℓ) (c : Dev nD) (t : Fin cfg0.N)

/-- The reference's rotated keys. -/
def keysOf : FVec Ideal Cert.ProjReferenceIdeal.S32x32x32 .f32 :=
  Cert.ProjReferenceIdeal.Value.rotated (Cert.ProjReferenceIdeal.Value.keys (activations m c) (m ((c : Thread nD τ).loc main_arg11))) Cert.ProjReferenceIdeal.Value.angles

/-- The reference's angles are the program's. -/
theorem angles_eq : Cert.ProjReferenceIdeal.Value.angles = angles := rfl

/-- The rotated keys. -/
theorem out31_apply (r j : Fin 32) :
    out31 (iblk m c 0 t) (iblk m c 4 t) (iblk m c 5 t) (iblk m c 6 t) (iblk m c 7 t) (iblk m c 15 t) (iblk m c 16 t) (ix3 0 r j)
      = keysOf m c (ix3 (point t) r j) := by
  unfold keysOf
  refine (pay16_apply (k0_pay13 (block m c t)) (k0_pay14 (block m c t)) (Ideal.ofBits .f32 0x3D000000#32) (iblk m c 15 t) (iblk m c 4 t) (iblk m c 16 t) (iblk m c 5 t) r j).trans ?_
  rw [Cert.ProjReferenceIdeal.Value.rotated_apply]
  have e : ∀ k : Fin 32, block m c t (ix2 r ⟨384 + k.val, by omega⟩) = activations m c (ix3 (point t) r ⟨384 + k.val, by omega⟩) :=
    fun k => block_low m c t r ⟨384 + k.val, by omega⟩
  have b0 : k0_pay13 (block m c t) (ix2 r ⟨j.val, by omega⟩) = activations m c (ix3 (point t) r ⟨384 + j.val, by omega⟩) :=
    (pay13_apply _ r _).trans (e j)
  have b1 : k0_pay13 (block m c t) (ix2 r ⟨j.val + 32, by omega⟩) = activations m c (ix3 (point t) r ⟨384 + (swap j).val, by omega⟩) :=
    (pay13_apply _ r _).trans ((congrArg (fun q => block m c t (ix2 r q)) (Fin.ext (by show 384 + (j.val + 32) = 416 + j.val; omega))).trans (block_swap m c t r j))
  have b2 : k0_pay14 (block m c t) (ix2 r 0) = ∑ k : Fin 32, activations m c (ix3 (point t) r ⟨384 + k.val, by omega⟩) * activations m c (ix3 (point t) r ⟨384 + k.val, by omega⟩) :=
    (pay14_apply _ r).trans (by simp only [e])
  rw [b2, b0, b1, iblk4_apply, iblk5_apply, iblk15_apply, iblk16_apply, keyGain_apply, keyGain_apply, swapGain_apply, cosines_apply, sines_apply]
  simp only [Cert.ProjReferenceIdeal.Value.keys_apply, angles_eq]
  generalize activations m c = p
  generalize angles = a
  exact rotation_eq (fun i => p (ix3 (point t) r i)) (fun k => m ((c : Thread nD τ).loc main_arg11) (ix1 k)) (fun k => a (ix2 r k)) j

end Cert.ProjIdeal.Gen

end
-- ==== Proof.ProjResults.lean ====
/-
  The input projection's reference: its results as its stages.
-/
module

public import proofs.«01_k».proof.Proof.ProjReference

@[expose] public section

noncomputable section

namespace Cert.ProjReferenceIdeal.Value

open Cert.ProjReferenceIdeal Cert.ProjReferenceIdeal.Gen Idealize.ShloMosaic Idealize.ShloMosaic.TcCoe Idealize.SL.Sem Cert.TailRow Cert.ProjRow
open Facts

/-- The receptance: the first 512 mixed columns. -/
def receptance (z : FVec Ideal S32x32x1792 .f32) : FVec Ideal S32x32x512 .f32 :=
  extractStridedSlice S32x32x512 ![0, 0, 0] z slices_S32x32x1792_S32x32x512_0_0_0

/-- The recurrence's values: the 512 mixed columns from the 1024th on. -/
def recurrentValues (z : FVec Ideal S32x32x1792 .f32) : FVec Ideal S32x32x512 .f32 :=
  extractStridedSlice S32x32x512 ![0, 0, 1024] z slices_S32x32x1792_S32x32x512_0_0_1024

/-- The output gate's latent: the last 128 mixed columns. -/
def gateLatent (z : FVec Ideal S32x32x1792 .f32) : FVec Ideal S32x32x128 .f32 :=
  extractStridedSlice S32x32x128 ![0, 0, 1664] z slices_S32x32x1792_S32x32x128_0_0_1664

/-- The row carried to the next call: the recurrence's last row. -/
def lastRow (q : FVec Ideal S32x32x1792 .f32) : FVec Ideal S32x1x1792 .f32 :=
  extractStridedSlice S32x1x1792 ![0, 31, 0] q slices_S32x32x1792_S32x1x1792_0_31_0

/-- An entry of the receptance. -/
theorem receptance_apply (z : FVec Ideal S32x32x1792 .f32) (i r : Fin 32) (j : Fin 512) : receptance z (ix3 i r j) = z (ix3 i r ⟨j.val, by omega⟩) := by
  pointwise [receptance]

/-- An entry of the recurrence's values. -/
theorem recurrentValues_apply (z : FVec Ideal S32x32x1792 .f32) (i r : Fin 32) (j : Fin 512) :
    recurrentValues z (ix3 i r j) = z (ix3 i r ⟨1024 + j.val, by omega⟩) := by
  pointwise [recurrentValues]

/-- An entry of the output gate's latent. -/
theorem gateLatent_apply (z : FVec Ideal S32x32x1792 .f32) (i r : Fin 32) (j : Fin 128) :
    gateLatent z (ix3 i r j) = z (ix3 i r ⟨1664 + j.val, by omega⟩) := by
  pointwise [gateLatent]

/-- An entry of the carried row. -/
theorem lastRow_apply (q : FVec Ideal S32x32x1792 .f32) (i : Fin 32) (j : Fin 1792) : lastRow q (ix3 i 0 j) = q (ix3 i 31 j) := by
  pointwise [lastRow]

variable (m : (ℓ : Loc nD τ sig) → Buf (Elt Ideal) ℓ) (ρ : Dev nD → PrngReg)

/-- The projected activations of a device's arguments. -/
def columns (c : Dev nD) : FVec Ideal S32x32x2208 .f32 := projected (normed (m ((c : Thread nD τ).loc main_arg0)) (m ((c : Thread nD τ).loc main_arg2))) (m ((c : Thread nD τ).loc main_arg3))

/-- The mixed columns of a device's arguments. -/
def mixedColumns (c : Dev nD) : FVec Ideal S32x32x1792 .f32 := mixed (recurrent (columns m c)) (m ((c : Thread nD τ).loc main_arg1)) (m ((c : Thread nD τ).loc main_arg17))

/-- The reference ends with each result at its stage and its arguments unchanged. -/
theorem run_stages : θ_run defs (onTc (τ := τ) (main (F := Ideal))) ⟨m, fun _ => 0, ρ⟩ fun r => ∀ c : Dev nD,
    r.2.mem ((c.tc : Thread nD τ).loc main_v29) = latents (columns m c) (m ((c : Thread nD τ).loc main_arg10))
    ∧ r.2.mem ((c.tc : Thread nD τ).loc main_v77) = rotated (keys (columns m c) (m ((c : Thread nD τ).loc main_arg11))) angles
    ∧ r.2.mem ((c.tc : Thread nD τ).loc main_v113) = values (latents (columns m c) (m ((c : Thread nD τ).loc main_arg10))) (m ((c : Thread nD τ).loc main_arg16))
    ∧ r.2.mem ((c.tc : Thread nD τ).loc main_v90) = receptance (mixedColumns m c)
    ∧ r.2.mem ((c.tc : Thread nD τ).loc main_v112) = gatedKeys (mixedColumns m c) (gates (mixedColumns m c) (m ((c : Thread nD τ).loc main_arg20)) (m ((c : Thread nD τ).loc main_arg21))) (m ((c : Thread nD τ).loc main_arg23))
    ∧ r.2.mem ((c.tc : Thread nD τ).loc main_v92) = recurrentValues (mixedColumns m c)
    ∧ r.2.mem ((c.tc : Thread nD τ).loc main_v94) = gateLatent (mixedColumns m c)
    ∧ r.2.mem ((c.tc : Thread nD τ).loc main_v114) = lastRow (recurrent (columns m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24) :=
  (θ_run defs _ _).mono (fun _ h c => ⟨(h c).1, (h c).2.1, (h c).2.2.1, (h c).2.2.2.1, (h c).2.2.2.2.1, (h c).2.2.2.2.2.1, (h c).2.2.2.2.2.2.1,
    (h c).2.2.2.2.2.2.2.1, (h c).2.2.2.2.2.2.2.2⟩) (run (F := Ideal) m ρ)

end Cert.ProjReferenceIdeal.Value

end
-- ==== Proof.ProjEqual.lean ====
/-
  The projection's results: the arrays the kernel leaves are the reference's stages.
-/
module

public import proofs.«01_k».proof.Proof.ProjFrame
public import proofs.«01_k».proof.Proof.ProjKeys
public import proofs.«01_k».proof.Proof.ProjResults

@[expose] public section

noncomputable section

namespace Cert.ProjIdeal.Gen

open Idealize.ShloMosaic Idealize.ShloMosaic.TcCoe Idealize.SL.Sem Idealize.ShloMosaic.StableHlo Cert.TailRow Cert.ProjRow
open Facts

variable (m : (ℓ : Loc nD τ sig) → Buf (Elt Ideal) ℓ) (c : Dev nD) (t : Fin cfg0.N)

/-- The grid point of a batch. -/
def pointOf (b : Fin 32) : Fin cfg0.N := ⟨b.val, b.isLt⟩

/-- Its batch. -/
theorem point_pointOf : ∀ b : Fin 32, point (pointOf b) = b := by
  decide +kernel

/-- The latents: a grid point's block is its batch. -/
theorem emb30 (r : Fin 32) (n : Fin 128) : ((cfg0.win 30).blk t).view.emb (ix3 0 r n) = ix3 (point t) r n := by
  refine funext fun a => Fin.ext ?_
  refine (win0_30.rect_emb_val t (ix3 0 r n) a).trans ?_
  fin_cases a
  · show (BitVec.ofNat 32 (point t).val).toNat * 1 + 0 = (point t).val
    rw [point_word]; omega
  · show (BitVec.ofNat 32 (grid0.coords t 1).val).toNat * 32 + r.val = r.val
    rw [second_word]; omega
  · show 0 * 128 + n.val = n.val
    omega

/-- The latents: every grid point's block is written back. -/
theorem flush30 : ∀ t : Fin cfg0.N, (cfg0.win 30).flush t = true := by
  decide +kernel

/-- The latents: every entry is in some grid point's block. -/
theorem cover30 (i : S32x32x128.Idx) : ∃ t, (cfg0.win 30).flush t = true ∧ i ∈ ((cfg0.win 30).blk t).view.set := by
  obtain ⟨q, r, n, rfl⟩ : ∃ q r n, i = ix3 (n0 := 32) (n1 := 32) (n2 := 128) q r n := ⟨i 0, i 1, i 2, eq_ix3 i⟩
  refine ⟨pointOf q, flush30 _, ?_⟩
  have := ((cfg0.win 30).blk (pointOf q)).view.emb_mem_set (ix3 (0 : Fin 1) r n)
  rwa [emb30, point_pointOf] at this

/-- The latents: a grid point's block is the batch of an array if each of its entries is. -/
theorem block30_eq (O : Vec Ideal S1x32x128 .f32) (G : Vec Ideal S32x32x128 .f32) (h : ∀ r n, O (ix3 0 r n) = G (ix3 (point t) r n)) :
    (cfg0.win 30).cut (grid0.coords t) O = ((cfg0.win 30).blk t).view.read (Elt Ideal) G := by
  funext y
  obtain ⟨q, r, n, rfl⟩ : ∃ q r n, y = ix3 (n0 := 1) (n1 := 32) (n2 := 128) q r n := ⟨y 0, y 1, y 2, eq_ix3 (n0 := 1) (n1 := 32) (n2 := 128) y⟩
  obtain rfl : q = 0 := Subsingleton.elim _ _
  show O (ix3 0 r n) = G (((cfg0.win 30).blk t).view.emb (ix3 0 r n))
  rw [emb30]
  exact h r n

/-- The latents: the kernel's array is the reference's. -/
theorem arr30 : (dats m 0 c).arrAt 30 cfg0.N = latentsOf m c := by
  refine (dats m 0 c).arrAt_eq_of_cover 30 (latentsOf m c) (fun t _ => ?_) cover30
  show (cfg0.win 30).cut (grid0.coords t) ((dats m 0 c).after 30 t) = _
  rw [after0_30]
  exact block30_eq t _ _ (out30_apply m c t)

/-- The rotated keys: a grid point's block is its batch. -/
theorem emb31 (r : Fin 32) (n : Fin 32) : ((cfg0.win 31).blk t).view.emb (ix3 0 r n) = ix3 (point t) r n := by
  refine funext fun a => Fin.ext ?_
  refine (win0_31.rect_emb_val t (ix3 0 r n) a).trans ?_
  fin_cases a
  · show (BitVec.ofNat 32 (point t).val).toNat * 1 + 0 = (point t).val
    rw [point_word]; omega
  · show (BitVec.ofNat 32 (grid0.coords t 1).val).toNat * 32 + r.val = r.val
    rw [second_word]; omega
  · show 0 * 32 + n.val = n.val
    omega

/-- The rotated keys: every grid point's block is written back. -/
theorem flush31 : ∀ t : Fin cfg0.N, (cfg0.win 31).flush t = true := by
  decide +kernel

/-- The rotated keys: every entry is in some grid point's block. -/
theorem cover31 (i : S32x32x32.Idx) : ∃ t, (cfg0.win 31).flush t = true ∧ i ∈ ((cfg0.win 31).blk t).view.set := by
  obtain ⟨q, r, n, rfl⟩ : ∃ q r n, i = ix3 (n0 := 32) (n1 := 32) (n2 := 32) q r n := ⟨i 0, i 1, i 2, eq_ix3 i⟩
  refine ⟨pointOf q, flush31 _, ?_⟩
  have := ((cfg0.win 31).blk (pointOf q)).view.emb_mem_set (ix3 (0 : Fin 1) r n)
  rwa [emb31, point_pointOf] at this

/-- The rotated keys: a grid point's block is the batch of an array if each of its entries is. -/
theorem block31_eq (O : Vec Ideal S1x32x32 .f32) (G : Vec Ideal S32x32x32 .f32) (h : ∀ r n, O (ix3 0 r n) = G (ix3 (point t) r n)) :
    (cfg0.win 31).cut (grid0.coords t) O = ((cfg0.win 31).blk t).view.read (Elt Ideal) G := by
  funext y
  obtain ⟨q, r, n, rfl⟩ : ∃ q r n, y = ix3 (n0 := 1) (n1 := 32) (n2 := 32) q r n := ⟨y 0, y 1, y 2, eq_ix3 (n0 := 1) (n1 := 32) (n2 := 32) y⟩
  obtain rfl : q = 0 := Subsingleton.elim _ _
  show O (ix3 0 r n) = G (((cfg0.win 31).blk t).view.emb (ix3 0 r n))
  rw [emb31]
  exact h r n

/-- The rotated keys: the kernel's array is the reference's. -/
theorem arr31 : (dats m 0 c).arrAt 31 cfg0.N = keysOf m c := by
  refine (dats m 0 c).arrAt_eq_of_cover 31 (keysOf m c) (fun t _ => ?_) cover31
  show (cfg0.win 31).cut (grid0.coords t) ((dats m 0 c).after 31 t) = _
  rw [after0_31]
  exact block31_eq t _ _ (out31_apply m c t)

/-- The values: a grid point's block is its batch. -/
theorem emb34 (r : Fin 32) (n : Fin 512) : ((cfg0.win 34).blk t).view.emb (ix3 0 r n) = ix3 (point t) r n := by
  refine funext fun a => Fin.ext ?_
  refine (win0_34.rect_emb_val t (ix3 0 r n) a).trans ?_
  fin_cases a
  · show (BitVec.ofNat 32 (point t).val).toNat * 1 + 0 = (point t).val
    rw [point_word]; omega
  · show (BitVec.ofNat 32 (grid0.coords t 1).val).toNat * 32 + r.val = r.val
    rw [second_word]; omega
  · show 0 * 512 + n.val = n.val
    omega

/-- The values: every grid point's block is written back. -/
theorem flush34 : ∀ t : Fin cfg0.N, (cfg0.win 34).flush t = true := by
  decide +kernel

/-- The values: every entry is in some grid point's block. -/
theorem cover34 (i : S32x32x512.Idx) : ∃ t, (cfg0.win 34).flush t = true ∧ i ∈ ((cfg0.win 34).blk t).view.set := by
  obtain ⟨q, r, n, rfl⟩ : ∃ q r n, i = ix3 (n0 := 32) (n1 := 32) (n2 := 512) q r n := ⟨i 0, i 1, i 2, eq_ix3 i⟩
  refine ⟨pointOf q, flush34 _, ?_⟩
  have := ((cfg0.win 34).blk (pointOf q)).view.emb_mem_set (ix3 (0 : Fin 1) r n)
  rwa [emb34, point_pointOf] at this

/-- The values: a grid point's block is the batch of an array if each of its entries is. -/
theorem block34_eq (O : Vec Ideal S1x32x512 .bf16) (G : Vec Ideal S32x32x512 .bf16) (h : ∀ r n, O (ix3 0 r n) = G (ix3 (point t) r n)) :
    (cfg0.win 34).cut (grid0.coords t) O = ((cfg0.win 34).blk t).view.read (Elt Ideal) G := by
  funext y
  obtain ⟨q, r, n, rfl⟩ : ∃ q r n, y = ix3 (n0 := 1) (n1 := 32) (n2 := 512) q r n := ⟨y 0, y 1, y 2, eq_ix3 (n0 := 1) (n1 := 32) (n2 := 512) y⟩
  obtain rfl : q = 0 := Subsingleton.elim _ _
  show O (ix3 0 r n) = G (((cfg0.win 34).blk t).view.emb (ix3 0 r n))
  rw [emb34]
  exact h r n

/-- The values: the kernel's array is the reference's. -/
theorem arr34 : (dats m 0 c).arrAt 34 cfg0.N = valuesOf m c := by
  refine (dats m 0 c).arrAt_eq_of_cover 34 (valuesOf m c) (fun t _ => ?_) cover34
  show (cfg0.win 34).cut (grid0.coords t) ((dats m 0 c).after 34 t) = _
  rw [after0_34]
  exact block34_eq t _ _ (out34_apply m c t)

/-- The receptance: a grid point's block is its batch. -/
theorem emb35 (r : Fin 32) (n : Fin 512) : ((cfg0.win 35).blk t).view.emb (ix3 0 r n) = ix3 (point t) r n := by
  refine funext fun a => Fin.ext ?_
  refine (win0_35.rect_emb_val t (ix3 0 r n) a).trans ?_
  fin_cases a
  · show (BitVec.ofNat 32 (point t).val).toNat * 1 + 0 = (point t).val
    rw [point_word]; omega
  · show (BitVec.ofNat 32 (grid0.coords t 1).val).toNat * 32 + r.val = r.val
    rw [second_word]; omega
  · show 0 * 512 + n.val = n.val
    omega

/-- The receptance: every grid point's block is written back. -/
theorem flush35 : ∀ t : Fin cfg0.N, (cfg0.win 35).flush t = true := by
  decide +kernel

/-- The receptance: every entry is in some grid point's block. -/
theorem cover35 (i : S32x32x512.Idx) : ∃ t, (cfg0.win 35).flush t = true ∧ i ∈ ((cfg0.win 35).blk t).view.set := by
  obtain ⟨q, r, n, rfl⟩ : ∃ q r n, i = ix3 (n0 := 32) (n1 := 32) (n2 := 512) q r n := ⟨i 0, i 1, i 2, eq_ix3 i⟩
  refine ⟨pointOf q, flush35 _, ?_⟩
  have := ((cfg0.win 35).blk (pointOf q)).view.emb_mem_set (ix3 (0 : Fin 1) r n)
  rwa [emb35, point_pointOf] at this

/-- The receptance: a grid point's block is the batch of an array if each of its entries is. -/
theorem block35_eq (O : Vec Ideal S1x32x512 .f32) (G : Vec Ideal S32x32x512 .f32) (h : ∀ r n, O (ix3 0 r n) = G (ix3 (point t) r n)) :
    (cfg0.win 35).cut (grid0.coords t) O = ((cfg0.win 35).blk t).view.read (Elt Ideal) G := by
  funext y
  obtain ⟨q, r, n, rfl⟩ : ∃ q r n, y = ix3 (n0 := 1) (n1 := 32) (n2 := 512) q r n := ⟨y 0, y 1, y 2, eq_ix3 (n0 := 1) (n1 := 32) (n2 := 512) y⟩
  obtain rfl : q = 0 := Subsingleton.elim _ _
  show O (ix3 0 r n) = G (((cfg0.win 35).blk t).view.emb (ix3 0 r n))
  rw [emb35]
  exact h r n

/-- The receptance: the kernel's array is the reference's. -/
theorem arr35 : (dats m 0 c).arrAt 35 cfg0.N = Cert.ProjReferenceIdeal.Value.receptance (mixedOf m c) := by
  refine (dats m 0 c).arrAt_eq_of_cover 35 (Cert.ProjReferenceIdeal.Value.receptance (mixedOf m c)) (fun t _ => ?_) cover35
  show (cfg0.win 35).cut (grid0.coords t) ((dats m 0 c).after 35 t) = _
  rw [after0_35]
  exact block35_eq t _ _ (fun r n => (out35_apply m c t r n).trans (Cert.ProjReferenceIdeal.Value.receptance_apply _ _ r n).symm)

/-- The gated keys: a grid point's block is its batch. -/
theorem emb37 (r : Fin 32) (n : Fin 512) : ((cfg0.win 37).blk t).view.emb (ix3 0 r n) = ix3 (point t) r n := by
  refine funext fun a => Fin.ext ?_
  refine (win0_37.rect_emb_val t (ix3 0 r n) a).trans ?_
  fin_cases a
  · show (BitVec.ofNat 32 (point t).val).toNat * 1 + 0 = (point t).val
    rw [point_word]; omega
  · show (BitVec.ofNat 32 (grid0.coords t 1).val).toNat * 32 + r.val = r.val
    rw [second_word]; omega
  · show 0 * 512 + n.val = n.val
    omega

/-- The gated keys: every grid point's block is written back. -/
theorem flush37 : ∀ t : Fin cfg0.N, (cfg0.win 37).flush t = true := by
  decide +kernel

/-- The gated keys: every entry is in some grid point's block. -/
theorem cover37 (i : S32x32x512.Idx) : ∃ t, (cfg0.win 37).flush t = true ∧ i ∈ ((cfg0.win 37).blk t).view.set := by
  obtain ⟨q, r, n, rfl⟩ : ∃ q r n, i = ix3 (n0 := 32) (n1 := 32) (n2 := 512) q r n := ⟨i 0, i 1, i 2, eq_ix3 i⟩
  refine ⟨pointOf q, flush37 _, ?_⟩
  have := ((cfg0.win 37).blk (pointOf q)).view.emb_mem_set (ix3 (0 : Fin 1) r n)
  rwa [emb37, point_pointOf] at this

/-- The gated keys: a grid point's block is the batch of an array if each of its entries is. -/
theorem block37_eq (O : Vec Ideal S1x32x512 .f32) (G : Vec Ideal S32x32x512 .f32) (h : ∀ r n, O (ix3 0 r n) = G (ix3 (point t) r n)) :
    (cfg0.win 37).cut (grid0.coords t) O = ((cfg0.win 37).blk t).view.read (Elt Ideal) G := by
  funext y
  obtain ⟨q, r, n, rfl⟩ : ∃ q r n, y = ix3 (n0 := 1) (n1 := 32) (n2 := 512) q r n := ⟨y 0, y 1, y 2, eq_ix3 (n0 := 1) (n1 := 32) (n2 := 512) y⟩
  obtain rfl : q = 0 := Subsingleton.elim _ _
  show O (ix3 0 r n) = G (((cfg0.win 37).blk t).view.emb (ix3 0 r n))
  rw [emb37]
  exact h r n

/-- The gated keys: the kernel's array is the reference's. -/
theorem arr37 : (dats m 0 c).arrAt 37 cfg0.N = gatedOf m c := by
  refine (dats m 0 c).arrAt_eq_of_cover 37 (gatedOf m c) (fun t _ => ?_) cover37
  show (cfg0.win 37).cut (grid0.coords t) ((dats m 0 c).after 37 t) = _
  rw [after0_37]
  exact block37_eq t _ _ (out37_apply m c t)

/-- The recurrence's values: a grid point's block is its batch. -/
theorem emb38 (r : Fin 32) (n : Fin 512) : ((cfg0.win 38).blk t).view.emb (ix3 0 r n) = ix3 (point t) r n := by
  refine funext fun a => Fin.ext ?_
  refine (win0_38.rect_emb_val t (ix3 0 r n) a).trans ?_
  fin_cases a
  · show (BitVec.ofNat 32 (point t).val).toNat * 1 + 0 = (point t).val
    rw [point_word]; omega
  · show (BitVec.ofNat 32 (grid0.coords t 1).val).toNat * 32 + r.val = r.val
    rw [second_word]; omega
  · show 0 * 512 + n.val = n.val
    omega

/-- The recurrence's values: every grid point's block is written back. -/
theorem flush38 : ∀ t : Fin cfg0.N, (cfg0.win 38).flush t = true := by
  decide +kernel

/-- The recurrence's values: every entry is in some grid point's block. -/
theorem cover38 (i : S32x32x512.Idx) : ∃ t, (cfg0.win 38).flush t = true ∧ i ∈ ((cfg0.win 38).blk t).view.set := by
  obtain ⟨q, r, n, rfl⟩ : ∃ q r n, i = ix3 (n0 := 32) (n1 := 32) (n2 := 512) q r n := ⟨i 0, i 1, i 2, eq_ix3 i⟩
  refine ⟨pointOf q, flush38 _, ?_⟩
  have := ((cfg0.win 38).blk (pointOf q)).view.emb_mem_set (ix3 (0 : Fin 1) r n)
  rwa [emb38, point_pointOf] at this

/-- The recurrence's values: a grid point's block is the batch of an array if each of its entries is. -/
theorem block38_eq (O : Vec Ideal S1x32x512 .f32) (G : Vec Ideal S32x32x512 .f32) (h : ∀ r n, O (ix3 0 r n) = G (ix3 (point t) r n)) :
    (cfg0.win 38).cut (grid0.coords t) O = ((cfg0.win 38).blk t).view.read (Elt Ideal) G := by
  funext y
  obtain ⟨q, r, n, rfl⟩ : ∃ q r n, y = ix3 (n0 := 1) (n1 := 32) (n2 := 512) q r n := ⟨y 0, y 1, y 2, eq_ix3 (n0 := 1) (n1 := 32) (n2 := 512) y⟩
  obtain rfl : q = 0 := Subsingleton.elim _ _
  show O (ix3 0 r n) = G (((cfg0.win 38).blk t).view.emb (ix3 0 r n))
  rw [emb38]
  exact h r n

/-- The recurrence's values: the kernel's array is the reference's. -/
theorem arr38 : (dats m 0 c).arrAt 38 cfg0.N = Cert.ProjReferenceIdeal.Value.recurrentValues (mixedOf m c) := by
  refine (dats m 0 c).arrAt_eq_of_cover 38 (Cert.ProjReferenceIdeal.Value.recurrentValues (mixedOf m c)) (fun t _ => ?_) cover38
  show (cfg0.win 38).cut (grid0.coords t) ((dats m 0 c).after 38 t) = _
  rw [after0_38]
  exact block38_eq t _ _ (fun r n => (out38_apply m c t r n).trans (Cert.ProjReferenceIdeal.Value.recurrentValues_apply _ _ r n).symm)

/-- The output gate's latent: a grid point's block is its batch. -/
theorem emb41 (r : Fin 32) (n : Fin 128) : ((cfg0.win 41).blk t).view.emb (ix3 0 r n) = ix3 (point t) r n := by
  refine funext fun a => Fin.ext ?_
  refine (win0_41.rect_emb_val t (ix3 0 r n) a).trans ?_
  fin_cases a
  · show (BitVec.ofNat 32 (point t).val).toNat * 1 + 0 = (point t).val
    rw [point_word]; omega
  · show (BitVec.ofNat 32 (grid0.coords t 1).val).toNat * 32 + r.val = r.val
    rw [second_word]; omega
  · show 0 * 128 + n.val = n.val
    omega

/-- The output gate's latent: every grid point's block is written back. -/
theorem flush41 : ∀ t : Fin cfg0.N, (cfg0.win 41).flush t = true := by
  decide +kernel

/-- The output gate's latent: every entry is in some grid point's block. -/
theorem cover41 (i : S32x32x128.Idx) : ∃ t, (cfg0.win 41).flush t = true ∧ i ∈ ((cfg0.win 41).blk t).view.set := by
  obtain ⟨q, r, n, rfl⟩ : ∃ q r n, i = ix3 (n0 := 32) (n1 := 32) (n2 := 128) q r n := ⟨i 0, i 1, i 2, eq_ix3 i⟩
  refine ⟨pointOf q, flush41 _, ?_⟩
  have := ((cfg0.win 41).blk (pointOf q)).view.emb_mem_set (ix3 (0 : Fin 1) r n)
  rwa [emb41, point_pointOf] at this

/-- The output gate's latent: a grid point's block is the batch of an array if each of its entries is. -/
theorem block41_eq (O : Vec Ideal S1x32x128 .f32) (G : Vec Ideal S32x32x128 .f32) (h : ∀ r n, O (ix3 0 r n) = G (ix3 (point t) r n)) :
    (cfg0.win 41).cut (grid0.coords t) O = ((cfg0.win 41).blk t).view.read (Elt Ideal) G := by
  funext y
  obtain ⟨q, r, n, rfl⟩ : ∃ q r n, y = ix3 (n0 := 1) (n1 := 32) (n2 := 128) q r n := ⟨y 0, y 1, y 2, eq_ix3 (n0 := 1) (n1 := 32) (n2 := 128) y⟩
  obtain rfl : q = 0 := Subsingleton.elim _ _
  show O (ix3 0 r n) = G (((cfg0.win 41).blk t).view.emb (ix3 0 r n))
  rw [emb41]
  exact h r n

/-- The output gate's latent: the kernel's array is the reference's. -/
theorem arr41 : (dats m 0 c).arrAt 41 cfg0.N = Cert.ProjReferenceIdeal.Value.gateLatent (mixedOf m c) := by
  refine (dats m 0 c).arrAt_eq_of_cover 41 (Cert.ProjReferenceIdeal.Value.gateLatent (mixedOf m c)) (fun t _ => ?_) cover41
  show (cfg0.win 41).cut (grid0.coords t) ((dats m 0 c).after 41 t) = _
  rw [after0_41]
  exact block41_eq t _ _ (fun r n => (out41_apply m c t r n).trans (Cert.ProjReferenceIdeal.Value.gateLatent_apply _ _ r n).symm)

/-- The carried row: a grid point's block is its batch. -/
theorem emb42 (n : Fin 1792) : ((cfg0.win 42).blk t).view.emb (ix3 0 0 n) = ix3 (point t) 0 n := by
  refine funext fun a => Fin.ext ?_
  refine (win0_42.rect_emb_val t (ix3 0 0 n) a).trans ?_
  fin_cases a
  · show (BitVec.ofNat 32 (point t).val).toNat * 1 + 0 = (point t).val
    rw [point_word]; omega
  · show 0 * 1 + 0 = 0
    omega
  · show 0 * 1792 + n.val = n.val
    omega

/-- The carried row: every grid point's block is written back. -/
theorem flush42 : ∀ t : Fin cfg0.N, (cfg0.win 42).flush t = true := by
  decide +kernel

/-- The carried row: every entry is in some grid point's block. -/
theorem cover42 (i : S32x1x1792.Idx) : ∃ t, (cfg0.win 42).flush t = true ∧ i ∈ ((cfg0.win 42).blk t).view.set := by
  obtain ⟨q, r, n, rfl⟩ : ∃ q r n, i = ix3 (n0 := 32) (n1 := 1) (n2 := 1792) q r n := ⟨i 0, i 1, i 2, eq_ix3 i⟩
  refine ⟨pointOf q, flush42 _, ?_⟩
  obtain rfl : r = 0 := Subsingleton.elim _ _
  have := ((cfg0.win 42).blk (pointOf q)).view.emb_mem_set (ix3 (0 : Fin 1) (0 : Fin 1) n)
  rwa [emb42, point_pointOf] at this

/-- The carried row: a grid point's block is the batch of an array if each of its entries is. -/
theorem block42_eq (O : Vec Ideal S1x1x1792 .f32) (G : Vec Ideal S32x1x1792 .f32) (h : ∀ n, O (ix3 0 0 n) = G (ix3 (point t) 0 n)) :
    (cfg0.win 42).cut (grid0.coords t) O = ((cfg0.win 42).blk t).view.read (Elt Ideal) G := by
  funext y
  obtain ⟨q, r, n, rfl⟩ : ∃ q r n, y = ix3 (n0 := 1) (n1 := 1) (n2 := 1792) q r n := ⟨y 0, y 1, y 2, eq_ix3 (n0 := 1) (n1 := 1) (n2 := 1792) y⟩
  obtain rfl : q = 0 := Subsingleton.elim _ _
  obtain rfl : r = 0 := Subsingleton.elim _ _
  show O (ix3 0 0 n) = G (((cfg0.win 42).blk t).view.emb (ix3 0 0 n))
  rw [emb42]
  exact h n

/-- The carried row: the kernel's array is the reference's. -/
theorem arr42 : (dats m 0 c).arrAt 42 cfg0.N = Cert.ProjReferenceIdeal.Value.lastRow (Cert.ProjReferenceIdeal.Value.recurrent (activations m c)) := by
  refine (dats m 0 c).arrAt_eq_of_cover 42 (Cert.ProjReferenceIdeal.Value.lastRow (Cert.ProjReferenceIdeal.Value.recurrent (activations m c))) (fun t _ => ?_) cover42
  show (cfg0.win 42).cut (grid0.coords t) ((dats m 0 c).after 42 t) = _
  rw [after0_42]
  exact block42_eq t _ _ (fun n => (out42_apply m c t n).trans (Cert.ProjReferenceIdeal.Value.lastRow_apply _ _ n).symm)

end Cert.ProjIdeal.Gen

end
-- ==== Proof.Proj.lean ====
/-
  The input projection's claim: the kernel and the reference end with equal results.
-/
module

public import proofs.«01_k».proof.Defs
public import proofs.«01_k».proof.Proof.ProjEqual

@[expose] public section

noncomputable section

namespace Cert.Proof

open Idealize.ShloMosaic Idealize.ShloMosaic.TcCoe Idealize.SL.Sem

/-- The projection kernel and its reference end with the same results, their arguments unchanged. -/
theorem proj : algebraic_ProjIdeal_ProjReferenceIdeal (hProjIdeal := Cert.ProjIdeal.Gen.facts)
    (hProjReferenceIdeal := Cert.ProjReferenceIdeal.Gen.facts) := by
  intro m g m' g' _ hargs
  refine ⟨fun c => Cert.ProjIdeal.Gen.latentsOf m c, fun c => Cert.ProjIdeal.Gen.keysOf m c, fun c => Cert.ProjIdeal.Gen.valuesOf m c,
    fun c => Cert.ProjReferenceIdeal.Value.receptance (Cert.ProjIdeal.Gen.mixedOf m c), fun c => Cert.ProjIdeal.Gen.gatedOf m c,
    fun c => Cert.ProjReferenceIdeal.Value.recurrentValues (Cert.ProjIdeal.Gen.mixedOf m c),
    fun c => Cert.ProjReferenceIdeal.Value.gateLatent (Cert.ProjIdeal.Gen.mixedOf m c),
    fun c => Cert.ProjReferenceIdeal.Value.lastRow (Cert.ProjReferenceIdeal.Value.recurrent (Cert.ProjIdeal.Gen.activations m c)), ?_, ?_⟩
  · refine (θ_run _ _ _).mono (fun r h c => ?_) (Cert.ProjIdeal.Gen.run_blocks m g)
    exact ⟨(h c).1.trans (Cert.ProjIdeal.Gen.arr30 m c),
      (h c).2.1.trans (Cert.ProjIdeal.Gen.arr31 m c),
      (h c).2.2.1.trans (Cert.ProjIdeal.Gen.arr34 m c),
      (h c).2.2.2.1.trans (Cert.ProjIdeal.Gen.arr35 m c),
      (h c).2.2.2.2.1.trans (Cert.ProjIdeal.Gen.arr37 m c),
      (h c).2.2.2.2.2.1.trans (Cert.ProjIdeal.Gen.arr38 m c),
      (h c).2.2.2.2.2.2.1.trans (Cert.ProjIdeal.Gen.arr41 m c),
      (h c).2.2.2.2.2.2.2.1.trans (Cert.ProjIdeal.Gen.arr42 m c), (h c).2.2.2.2.2.2.2.2⟩
  · refine (θ_run _ _ _).mono (fun r h c => ?_) (Cert.ProjReferenceIdeal.Value.run_stages m' g')
    have e0 := (hargs c).1
    have e1 := (hargs c).2.1
    have e2 := (hargs c).2.2.1
    have e3 := (hargs c).2.2.2.1
    have e10 := (hargs c).2.2.2.2.2.2.2.2.2.2.1
    have e11 := (hargs c).2.2.2.2.2.2.2.2.2.2.2.1
    have e16 := (hargs c).2.2.2.2.2.2.2.2.2.2.2.2.2.2.2.2.1
    have e17 := (hargs c).2.2.2.2.2.2.2.2.2.2.2.2.2.2.2.2.2.1
    have e20 := (hargs c).2.2.2.2.2.2.2.2.2.2.2.2.2.2.2.2.2.2.2.2.1
    have e21 := (hargs c).2.2.2.2.2.2.2.2.2.2.2.2.2.2.2.2.2.2.2.2.2.1
    have e23 := (hargs c).2.2.2.2.2.2.2.2.2.2.2.2.2.2.2.2.2.2.2.2.2.2.2.1
    have hp : Cert.ProjReferenceIdeal.Value.columns m' c = Cert.ProjIdeal.Gen.activations m c := by
      unfold Cert.ProjReferenceIdeal.Value.columns
      rw [e0, e2, e3]
      rfl
    have hz : Cert.ProjReferenceIdeal.Value.mixedColumns m' c = Cert.ProjIdeal.Gen.mixedOf m c := by
      unfold Cert.ProjReferenceIdeal.Value.mixedColumns
      rw [hp, e1, e17]
      rfl
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
    · rw [hp, e10]; rfl
    · rw [hp, e11]; rfl
    · rw [hp, e10, e16]; rfl
    · rw [hz]
    · rw [hz, e20, e21, e23]; rfl
    · rw [hz]
    · rw [hz]
    · rw [hp]

end Cert.Proof

end
-- ==== Proof.ProjSame.lean ====
/-
  The input projection's two printed programs, the kernel's and the one for exact numbers, are the same; so the one's
  frame is the other's.
-/
module

public import proofs.«01_k».proof.Proof.Gen.Proj
public import proofs.«01_k».proof.Proof.ProjFrame

@[expose] public section

noncomputable section

namespace Cert.Proj.Gen

open Idealize.ShloMosaic Idealize.ShloMosaic.TcCoe Idealize.SL.Sem

variable {F : FTy → Type} [FloatOps F]

set_option smartUnfolding false in
/-- The signatures are the same. -/
theorem sig_eq : Cert.Proj.sig = Cert.ProjIdeal.sig := by
  with_unfolding_all rfl

set_option smartUnfolding false in
set_option maxHeartbeats 4000000 in
/-- The programs are the same. -/
theorem main_eq : (Cert.Proj.main (F := F)) = Cert.ProjIdeal.main (F := F) := by
  with_unfolding_all rfl

set_option smartUnfolding false in
set_option maxHeartbeats 4000000 in
/-- The arguments end as they were and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)) ∧ r.2.sem = fun _ => 0) := by
  with_unfolding_all exact Cert.ProjIdeal.Gen.frame m ρ

end Cert.Proj.Gen

end
-- ==== Proof.TailBody.lean ====
/-
  What one run of the tail kernel's body writes: the tail of each row of its blocks.
-/
module

public import proofs.«01_k».proof.Proof.TailRow
public import proofs.«01_k».proof.Proof.Gen.TailIdeal.Value

@[expose] public section

noncomputable section

namespace Cert.TailIdeal.Gen

open Idealize.ShloMosaic Idealize.SL.Sem Cert.TailRow
open Facts

/-- 256 columns of the gated hidden layer. -/
def gate (u : FVec Ideal S512x1024 .bf16) (a b : Vec Ideal S1024x256 .bf16) : FVec Ideal S512x256 .bf16 :=
  let G := matmul dot_S512x1024_S1024x256_S512x256_1_0_0_1_n_n none u (φ₂ := .bf16) (shapeCast S1024x256 a shapeCasts_S1024x256_S1024x256) (constant S512x256 .f32 0x00000000#32)
  let U := matmul dot_S512x1024_S1024x256_S512x256_1_0_0_1_n_n none u (φ₂ := .bf16) (shapeCast S1024x256 b shapeCasts_S1024x256_S1024x256) (constant S512x256 .f32 0x00000000#32)
  truncf .bf16 (mulf (mulf G (logistic G)) U) bitsLt_bf16_f32

/-- The accumulator with the product of 256 hidden columns added. -/
def addChunk (acc : FVec Ideal S512x1024 .f32) (p : FVec Ideal S512x256 .bf16) (d : Vec Ideal S256x1024 .bf16) : FVec Ideal S512x1024 .f32 :=
  addf acc (matmul dot_S512x256_S256x1024_S512x1024_1_0_0_1_n_n none p (φ₂ := .bf16) (shapeCast S256x1024 d shapeCasts_S256x1024_S256x1024) (constant S512x1024 .f32 0x00000000#32))

/-- An entry of the gated hidden layer. -/
theorem gate_apply (u : FVec Ideal S512x1024 .bf16) (a b : Vec Ideal S1024x256 .bf16) (r : Fin 512) (j : Fin 256) :
    gate u a b (ix2 r j) = actOf (fun k => u (ix2 r k)) (fun k => a (ix2 k j)) (fun k => b (ix2 k j)) := by
  unfold actOf
  pointwise [gate]

/-- An entry of the accumulator after 256 more hidden columns. -/
theorem addChunk_apply (acc : FVec Ideal S512x1024 .f32) (p : FVec Ideal S512x256 .bf16) (d : Vec Ideal S256x1024 .bf16) (r : Fin 512) (n : Fin 1024) :
    addChunk acc p d (ix2 r n) = acc (ix2 r n) + ∑ j : Fin 256, p (ix2 r j) * d (ix2 j n) := by
  pointwise [addChunk]

/-- The residual stream before the norm. -/
theorem pay1_apply (a b : Vec Ideal S512x512 .bf16) (x : Vec Ideal S512x1024 .f32) (w : Vec Ideal S1024x1024 .bf16) (r : Fin 512) (n : Fin 1024) :
    k0_pay1 a b x w (ix2 r n)
      = hidRow (fun k => x (ix2 r k)) (mixRow (fun k => a (ix2 r k)) fun k => b (ix2 r k)) (fun k n => w (ix2 k n)) n := by
  unfold hidRow mixRow
  pointwise [k0_pay1]

/-- The normed stream. -/
theorem pay2_apply (a b : Vec Ideal S512x512 .bf16) (x : Vec Ideal S512x1024 .f32) (w : Vec Ideal S1024x1024 .bf16) (g : Vec Ideal S1x1024 .f32) (r : Fin 512) (n : Fin 1024) :
    k0_pay2 a b x w g (ix2 r n) = normRow (fun k => k0_pay1 a b x w (ix2 r k)) (fun k => g (ix2 0 k)) n := by
  unfold normRow k0_pay2
  generalize k0_pay1 a b x w = h
  pointwise

/-- 256 columns of a weight matrix. -/
theorem cols_read (x : Vec Ideal S1024x2816 .bf16) (o : ℕ) (inb : ∀ a, ![0, o] a + S1024x256.size a ≤ S1024x2816.size a) (ho : o + 256 ≤ 2816) (k : Fin 1024) (j : Fin 256) :
    View.ld x (Rect.unit (s := S1024x2816) ![0, o] S1024x256.size inb) (ix2 k j) = x (ix2 k ⟨o + j.val, by omega⟩) := by
  refine congrArg x (funext fun a => Fin.ext ?_)
  fin_cases a
  · show 0 + 1 * k.val = k.val
    omega
  · show o + 1 * j.val = o + j.val
    omega

/-- 256 rows of a weight matrix. -/
theorem rows_read (x : Vec Ideal S2816x1024 .bf16) (o : ℕ) (inb : ∀ a, ![o, 0] a + S256x1024.size a ≤ S2816x1024.size a) (ho : o + 256 ≤ 2816) (j : Fin 256) (n : Fin 1024) :
    View.ld x (Rect.unit (s := S2816x1024) ![o, 0] S256x1024.size inb) (ix2 j n) = x (ix2 ⟨o + j.val, by omega⟩ n) := by
  refine congrArg x (funext fun a => Fin.ext ?_)
  fin_cases a
  · show o + 1 * j.val = o + j.val
    omega
  · show 0 + 1 * n.val = n.val
    omega

/-- One chunk extends the sum over the hidden columns by 256. -/
theorem chunk_step (u : FVec Ideal S512x1024 .bf16) (x5 x6 : Vec Ideal S1024x2816 .bf16) (x7 : Vec Ideal S2816x1024 .bf16) (H : EReal) (r : Fin 512) (n : Fin 1024)
    (acc : FVec Ideal S512x1024 .f32) (o : ℕ) (ia : ∀ a, ![0, o] a + S1024x256.size a ≤ S1024x2816.size a) (ib : ∀ a, ![o, 0] a + S256x1024.size a ≤ S2816x1024.size a)
    (ho : o + 256 ≤ 2816)
    (h : acc (ix2 r n) = H + ∑ i ∈ Finset.range o, term (fun k => u (ix2 r k)) (fun k f => x5 (ix2 k f)) (fun k f => x6 (ix2 k f)) (fun f => x7 (ix2 f n)) i) :
    addChunk acc (gate u (View.ld x5 (Rect.unit (s := S1024x2816) ![0, o] S1024x256.size ia)) (View.ld x6 (Rect.unit (s := S1024x2816) ![0, o] S1024x256.size ia)))
        (View.ld x7 (Rect.unit (s := S2816x1024) ![o, 0] S256x1024.size ib)) (ix2 r n)
      = H + ∑ i ∈ Finset.range (o + 256), term (fun k => u (ix2 r k)) (fun k f => x5 (ix2 k f)) (fun k f => x6 (ix2 k f)) (fun f => x7 (ix2 f n)) i := by
  rw [addChunk_apply, h, Finset.sum_range_add, add_assoc]
  congr 2
  rw [Finset.sum_range]
  refine Finset.sum_congr rfl fun j _ => ?_
  have hj : o + j.val < 2816 := by omega
  rw [term, dif_pos hj, gate_apply, rows_read x7 o ib ho]
  simp only [cols_read x5 o ia ho, cols_read x6 o ia ho]

/-- The first three chunks. -/
theorem pay4_eq (h : FVec Ideal S512x1024 .f32) (u : FVec Ideal S512x1024 .bf16) (p : FVec Ideal S512x256 .bf16) (d0 d1 d2 : Vec Ideal S256x1024 .bf16)
    (a1 b1 a2 b2 : Vec Ideal S1024x256 .bf16) :
    k0_pay4 h u p d0 a1 b1 d1 a2 b2 d2 = addChunk (addChunk (addChunk h p d0) (gate u a1 b1) d1) (gate u a2 b2) d2 := rfl

/-- The next three. -/
theorem pay7_eq (acc : FVec Ideal S512x1024 .f32) (u : FVec Ideal S512x1024 .bf16) (d3 d4 d5 : Vec Ideal S256x1024 .bf16)
    (a3 b3 a4 b4 a5 b5 : Vec Ideal S1024x256 .bf16) :
    k0_pay7 u acc (k0_pay5 u a3) (k0_pay6 b3) d3 a4 b4 d4 a5 b5 d5
      = addChunk (addChunk (addChunk acc (gate u a3 b3) d3) (gate u a4 b4) d4) (gate u a5 b5) d5 := rfl

/-- The next two. -/
theorem pay8_eq (acc : FVec Ideal S512x1024 .f32) (u : FVec Ideal S512x1024 .bf16) (d6 d7 : Vec Ideal S256x1024 .bf16)
    (a6 b6 a7 b7 : Vec Ideal S1024x256 .bf16) :
    k0_pay8 u acc a6 b6 d6 a7 b7 d7 = addChunk (addChunk acc (gate u a6 b6) d6) (gate u a7 b7) d7 := rfl

/-- The last three. -/
theorem pay10_eq (acc : FVec Ideal S512x1024 .f32) (u : FVec Ideal S512x1024 .bf16) (d8 d9 d10 : Vec Ideal S256x1024 .bf16)
    (a8 b8 a9 b9 a10 b10 : Vec Ideal S1024x256 .bf16) :
    k0_pay10 u acc (k0_pay9 u a8 b8) d8 a9 b9 d9 a10 b10 d10
      = addChunk (addChunk (addChunk acc (gate u a8 b8) d8) (gate u a9 b9) d9) (gate u a10 b10) d10 := rfl

/-- The hidden layer's first columns. -/
theorem pay3_eq (a b : Vec Ideal S512x512 .bf16) (x : Vec Ideal S512x1024 .f32) (w : Vec Ideal S1024x1024 .bf16) (g : Vec Ideal S1x1024 .f32) (a0 b0 : Vec Ideal S1024x256 .bf16) :
    k0_pay3 a b x w g a0 b0 = gate (k0_pay2 a b x w g) a0 b0 := rfl

/-- The origin of a block. -/
theorem origin2 : (![0, 0] : Fin 2 → ℕ) = fun _ => 0 := by
  funext a
  fin_cases a <;> rfl

/-- The body writes the tail of each row of its blocks. -/
theorem out_rows (x0 : Vec Ideal S512x1024 .f32) (x1 x2 : Vec Ideal S512x512 .bf16) (x3 : Vec Ideal S1024x1024 .bf16) (x4 : Vec Ideal S1x1024 .f32)
    (x5 x6 : Vec Ideal S1024x2816 .bf16) (x7 : Vec Ideal S2816x1024 .bf16) (r : Fin 512) (n : Fin 1024) :
    out0_8 x0 x1 x2 x3 x4 x5 x6 x7 (ix2 r n)
      = tailRow (fun k => x0 (ix2 r k)) (mixRow (fun k => x1 (ix2 r k)) fun k => x2 (ix2 r k)) (fun k n => x3 (ix2 k n)) (fun k => x4 (ix2 0 k))
        (fun k f => x5 (ix2 k f)) (fun k f => x6 (ix2 k f)) (fun f n => x7 (ix2 f n)) n := by
  unfold out0_8 k0_pay11
  rw [View.canon_unit_zero origin2, View.ld_unit_zero origin2, View.ld_unit_zero origin2, View.ld_unit_zero origin2, View.ld_unit_zero origin2,
    View.ld_unit_zero origin2, pay3_eq, pay4_eq, pay7_eq, pay8_eq, pay10_eq]
  have hu : ∀ k, k0_pay2 x1 x2 x0 x3 x4 (ix2 r k)
      = normRow (hidRow (fun k => x0 (ix2 r k)) (mixRow (fun k => x1 (ix2 r k)) fun k => x2 (ix2 r k)) fun k n => x3 (ix2 k n)) (fun k => x4 (ix2 0 k)) k := by
    intro k
    rw [pay2_apply]
    simp only [pay1_apply]
  have h0 := pay1_apply x1 x2 x0 x3 r n
  generalize k0_pay2 x1 x2 x0 x3 x4 = u at hu ⊢
  generalize k0_pay1 x1 x2 x0 x3 = h at h0 ⊢
  rw [← add_zero (hidRow _ _ _ n)] at h0
  have h1 := chunk_step u x5 x6 x7 _ r n h 0 inb_S1024x2816_S1024x256_0_0 inb_S2816x1024_S256x1024_0_0 (by omega) h0
  have h2 := chunk_step u x5 x6 x7 _ r n _ 256 inb_S1024x2816_S1024x256_0_256 inb_S2816x1024_S256x1024_256_0 (by omega) h1
  have h3 := chunk_step u x5 x6 x7 _ r n _ 512 inb_S1024x2816_S1024x256_0_512 inb_S2816x1024_S256x1024_512_0 (by omega) h2
  have h4 := chunk_step u x5 x6 x7 _ r n _ 768 inb_S1024x2816_S1024x256_0_768 inb_S2816x1024_S256x1024_768_0 (by omega) h3
  have h5 := chunk_step u x5 x6 x7 _ r n _ 1024 inb_S1024x2816_S1024x256_0_1024 inb_S2816x1024_S256x1024_1024_0 (by omega) h4
  have h6 := chunk_step u x5 x6 x7 _ r n _ 1280 inb_S1024x2816_S1024x256_0_1280 inb_S2816x1024_S256x1024_1280_0 (by omega) h5
  have h7 := chunk_step u x5 x6 x7 _ r n _ 1536 inb_S1024x2816_S1024x256_0_1536 inb_S2816x1024_S256x1024_1536_0 (by omega) h6
  have h8 := chunk_step u x5 x6 x7 _ r n _ 1792 inb_S1024x2816_S1024x256_0_1792 inb_S2816x1024_S256x1024_1792_0 (by omega) h7
  have h9 := chunk_step u x5 x6 x7 _ r n _ 2048 inb_S1024x2816_S1024x256_0_2048 inb_S2816x1024_S256x1024_2048_0 (by omega) h8
  have h10 := chunk_step u x5 x6 x7 _ r n _ 2304 inb_S1024x2816_S1024x256_0_2304 inb_S2816x1024_S256x1024_2304_0 (by omega) h9
  have h11 := chunk_step u x5 x6 x7 _ r n _ 2560 inb_S1024x2816_S1024x256_0_2560 inb_S2816x1024_S256x1024_2560_0 (by omega) h10
  refine h11.trans ?_
  rw [sum_term]
  simp only [hu]
  rfl

end Cert.TailIdeal.Gen

end
-- ==== Proof.TailReference.lean ====
/-
  The tail's reference, read in stages, each as a formula at one index: every token's row is the tail of its rows.
-/
module

public import proofs.«01_k».proof.Proof.Gen.TailReferenceIdeal.Run
public import proofs.«01_k».proof.Proof.TailRow

@[expose] public section

noncomputable section

namespace Cert.TailReferenceIdeal.Value

open Cert.TailReferenceIdeal Cert.TailReferenceIdeal.Gen Idealize.ShloMosaic Idealize.ShloMosaic.TcCoe Idealize.SL.Sem Cert.TailRow
open Facts

/-- The residual stream with the projected branches added. -/
def hidden (x : FVec Ideal S32x2048x1024 .f32) (a b : FVec Ideal S32x2048x512 .bf16) (w : FVec Ideal S1024x1024 .f32) : FVec Ideal S32x2048x1024 .f32 :=
  addf x (Host.dotGeneral dot_S32x2048x1024_S1024x1024_S32x2048x1024_2_0_01_1_n_n none (concatenate S32x2048x1024 2
    [⟨S32x2048x512, (extf .f32 a bitsLt_bf16_f32)⟩, ⟨S32x2048x512, (extf .f32 b bitsLt_bf16_f32)⟩] concatenates_S32x2048x512_S32x2048x512_S32x2048x1024_d2) w)

/-- The sums of the squares of a stream's rows. -/
def squares (h : FVec Ideal S32x2048x1024 .f32) : FVec Ideal S32x2048 .f32 :=
  Host.reduceAdd (mulf h h) (constant S_ .f32 0x00000000#32) reducesTo_S32x2048x1024_S32x2048_d2 h_S_

/-- A stream's rows divided by their root mean square, times the gain. -/
def normed (h : FVec Ideal S32x2048x1024 .f32) (q : FVec Ideal S32x2048 .f32) (g : FVec Ideal S1024 .f32) : FVec Ideal S32x2048x1024 .f32 :=
  mulf (mulf h (broadcastInDim S32x2048x1024 ![0, 1, 2] bcast_S32x2048x1_S32x2048x1024_0_1_2
      (Host.rsqrt (addf (Host.divf (broadcastInDim S32x2048x1 ![0, 1] bcast_S32x2048_S32x2048x1_0_1 q)
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

/-- A stream times one of the hidden layer's two matrices. -/
def factor (u : FVec Ideal S32x2048x1024 .f32) (w : FVec Ideal S1024x2816 .f32) : FVec Ideal S32x2048x2816 .f32 :=
  Host.dotGeneral dot_S32x2048x1024_S1024x2816_S32x2048x2816_2_0_01_1_n_n none u w

/-- The gated hidden layer. -/
def gated (a b : FVec Ideal S32x2048x2816 .f32) : FVec Ideal S32x2048x2816 .f32 :=
  mulf (mulf a (Host.divf (broadcastInDim S32x2048x2816 ![] bcast_S_S32x2048x2816 (constant S_ .f32 0x3F800000#32))
    (addf (broadcastInDim S32x2048x2816 ![] bcast_S_S32x2048x2816 (constant S_ .f32 0x3F800000#32)) (Host.exp (Host.negf a))))) b

/-- The stream with the hidden layer's product added, as one matrix. -/
def output (h : FVec Ideal S32x2048x1024 .f32) (p : FVec Ideal S32x2048x2816 .f32) (w : FVec Ideal S2816x1024 .f32) : FVec Ideal S65536x1024 .f32 :=
  shapeCast _ (addf h (Host.dotGeneral dot_S32x2048x2816_S2816x1024_S32x2048x1024_2_0_01_1_n_n none p w)) shapeCasts_S32x2048x1024_S65536x1024

/-- The normed residual stream. -/
def stream (x : FVec Ideal S32x2048x1024 .f32) (a b : FVec Ideal S32x2048x512 .bf16) (w : FVec Ideal S1024x1024 .f32) (g : FVec Ideal S1024 .f32) :
    FVec Ideal S32x2048x1024 .f32 :=
  normed (hidden x a b w) (squares (hidden x a b w)) g

/-- The stages together. -/
def tailOf (x : FVec Ideal S32x2048x1024 .f32) (a b : FVec Ideal S32x2048x512 .bf16) (w : FVec Ideal S1024x1024 .f32) (g : FVec Ideal S1024 .f32)
    (wg wu : FVec Ideal S1024x2816 .f32) (wd : FVec Ideal S2816x1024 .f32) : FVec Ideal S65536x1024 .f32 :=
  output (hidden x a b w) (gated (factor (stream x a b w g) wg) (factor (stream x a b w g) wu)) wd

/-- The reference's result is the composition of the stages. -/
theorem result_stages (m : (ℓ : Loc nD τ sig) → Buf (Elt Ideal) ℓ) (c : Dev nD) :
    (res_out0 m c : FVec Ideal S65536x1024 .f32)
      = tailOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  unfold tailOf stream output gated factor normed squares hidden
  rfl

/-- An entry of the residual stream. -/
theorem hidden_apply (x : FVec Ideal S32x2048x1024 .f32) (a b : FVec Ideal S32x2048x512 .bf16) (w : FVec Ideal S1024x1024 .f32) (i : Fin 32) (s : Fin 2048) (n : Fin 1024) :
    hidden x a b w (ix3 i s n)
      = hidRow (fun k => x (ix3 i s k)) (mixRow (fun k => a (ix3 i s k)) fun k => b (ix3 i s k)) (fun k n => w (ix2 k n)) n := by
  unfold hidRow mixRow
  pointwise [hidden]

/-- A row's sum of squares. -/
theorem squares_apply (h : FVec Ideal S32x2048x1024 .f32) (i : Fin 32) (s : Fin 2048) : squares h (ix2 i s) = ∑ k, h (ix3 i s k) * h (ix3 i s k) := by
  pointwise [squares]

/-- An entry of a normed stream. -/
theorem normed_apply (h : FVec Ideal S32x2048x1024 .f32) (q : FVec Ideal S32x2048 .f32) (g : FVec Ideal S1024 .f32) (i : Fin 32) (s : Fin 2048) (n : Fin 1024) :
    normed h q g (ix3 i s n) = h (ix3 i s n) * Ideal.rsqrt (Ideal.div (q (ix2 i s)) (Ideal.ofBits .f32 0x44800000#32) + Ideal.ofBits .f32 0x358637BD#32) * g (ix1 n) := by
  pointwise [normed]

/-- An entry of the normed residual stream. -/
theorem stream_apply (x : FVec Ideal S32x2048x1024 .f32) (a b : FVec Ideal S32x2048x512 .bf16) (w : FVec Ideal S1024x1024 .f32) (g : FVec Ideal S1024 .f32)
    (i : Fin 32) (s : Fin 2048) (n : Fin 1024) :
    stream x a b w g (ix3 i s n)
      = normRow (hidRow (fun k => x (ix3 i s k)) (mixRow (fun k => a (ix3 i s k)) fun k => b (ix3 i s k)) fun k n => w (ix2 k n)) (fun k => g (ix1 k)) n := by
  unfold stream normRow
  simp only [normed_apply, squares_apply, hidden_apply]

/-- An entry of a factor of the hidden layer. -/
theorem factor_apply (u : FVec Ideal S32x2048x1024 .f32) (w : FVec Ideal S1024x2816 .f32) (i : Fin 32) (s : Fin 2048) (f : Fin 2816) :
    factor u w (ix3 i s f) = ∑ k, u (ix3 i s k) * w (ix2 k f) := by
  pointwise [factor]

/-- An entry of the gated hidden layer. -/
theorem gated_apply (a b : FVec Ideal S32x2048x2816 .f32) (i : Fin 32) (s : Fin 2048) (f : Fin 2816) :
    gated a b (ix3 i s f) = a (ix3 i s f) * Ideal.logistic (a (ix3 i s f)) * b (ix3 i s f) := by
  unfold Ideal.logistic
  pointwise [gated]

/-- An entry of the output matrix: row `2048 * i + s` is row `s` of batch `i`. -/
theorem output_apply (h : FVec Ideal S32x2048x1024 .f32) (p : FVec Ideal S32x2048x2816 .f32) (w : FVec Ideal S2816x1024 .f32) (i : Fin 32) (s : Fin 2048) (n : Fin 1024) :
    output h p w (ix2 ⟨2048 * i.val + s.val, by omega⟩ n) = h (ix3 i s n) + ∑ f, p (ix3 i s f) * w (ix2 f n) := by
  pointwise [output]

/-- Every row of the reference's result is the tail of its token's rows. -/
theorem tailOf_apply (x : FVec Ideal S32x2048x1024 .f32) (a b : FVec Ideal S32x2048x512 .bf16) (w : FVec Ideal S1024x1024 .f32) (g : FVec Ideal S1024 .f32)
    (wg wu : FVec Ideal S1024x2816 .f32) (wd : FVec Ideal S2816x1024 .f32) (i : Fin 32) (s : Fin 2048) (n : Fin 1024) :
    tailOf x a b w g wg wu wd (ix2 ⟨2048 * i.val + s.val, by omega⟩ n)
      = tailRow (fun k => x (ix3 i s k)) (mixRow (fun k => a (ix3 i s k)) fun k => b (ix3 i s k)) (fun k n => w (ix2 k n)) (fun k => g (ix1 k))
        (fun k f => wg (ix2 k f)) (fun k f => wu (ix2 k f)) (fun f n => wd (ix2 f n)) n := by
  unfold tailOf tailRow actOf
  rw [output_apply]
  simp only [hidden_apply, gated_apply, factor_apply, stream_apply]

end Cert.TailReferenceIdeal.Value

end
-- ==== Proof.TailEqual.lean ====
/-
  The tail kernel's result array is the reference's.
-/
module

public import proofs.«01_k».proof.Proof.TailBody
public import proofs.«01_k».proof.Proof.TailReference
public import Idealize.ShloMosaic.Lib.StableHlo.Run

@[expose] public section

noncomputable section

namespace Cert.TailIdeal.Gen

open Idealize.ShloMosaic Idealize.ShloMosaic.TcCoe Idealize.SL.Sem Idealize.ShloMosaic.StableHlo Cert.TailRow
open Facts

variable (m : (ℓ : Loc nD τ sig) → Buf (Elt Ideal) ℓ) (c : Dev nD) (t : Fin cfg0.N)

/-- The number of grid point `t`, one coordinate. -/
def point : Fin 128 := grid0.coords t 0

/-- The number as the index maps compute it. -/
theorem point_word : (BitVec.ofNat 32 (point t).val).toNat = (point t).val := by
  rw [BitVec.toNat_ofNat]
  exact Nat.mod_eq_of_lt (by have := (point t).isLt; omega)

/-- The batch of row `r` of grid point `t`'s blocks. -/
def batchOf (r : Fin 512) : Fin 32 := ⟨(512 * (point t).val + r.val) / 2048, by have := (point t).isLt; omega⟩

/-- The place in its batch of row `r` of grid point `t`'s blocks. -/
def placeOf (r : Fin 512) : Fin 2048 := ⟨(512 * (point t).val + r.val) % 2048, by omega⟩

/-- The row of the whole arrays that is row `r` of grid point `t`'s blocks. -/
theorem row_eq (r : Fin 512) : 2048 * (batchOf t r).val + (placeOf t r).val = 512 * (point t).val + r.val := by
  show 2048 * ((512 * (point t).val + r.val) / 2048) + (512 * (point t).val + r.val) % 2048 = _
  omega

/-- The output projection as the launch finds it. -/
theorem V_main_v0 : (V m c main_v0 : Vec Ideal S1024x1024 .bf16) = truncf (F := Ideal) .bf16 (m ((c : Thread nD τ).loc main_arg3) : Vec Ideal S1024x1024 .f32) bitsLt_bf16_f32 := by
  simp only [V, hostOps0, List.flatten_cons, List.flatten_nil, List.append_nil, List.cons_append, List.nil_append, TRef.unary, TRef.binary, TRef.toBuf, TRef.ofBuf, cast_eq]
  after_results_simp

/-- The gate's matrix as the launch finds it. -/
theorem V_main_v2 : (V m c main_v2 : Vec Ideal S1024x2816 .bf16) = truncf (F := Ideal) .bf16 (m ((c : Thread nD τ).loc main_arg5) : Vec Ideal S1024x2816 .f32) bitsLt_bf16_f32 := by
  simp only [V, hostOps0, List.flatten_cons, List.flatten_nil, List.append_nil, List.cons_append, List.nil_append, TRef.unary, TRef.binary, TRef.toBuf, TRef.ofBuf, cast_eq]
  after_results_simp

/-- The other factor's matrix as the launch finds it. -/
theorem V_main_v3 : (V m c main_v3 : Vec Ideal S1024x2816 .bf16) = truncf (F := Ideal) .bf16 (m ((c : Thread nD τ).loc main_arg6) : Vec Ideal S1024x2816 .f32) bitsLt_bf16_f32 := by
  simp only [V, hostOps0, List.flatten_cons, List.flatten_nil, List.append_nil, List.cons_append, List.nil_append, TRef.unary, TRef.binary, TRef.toBuf, TRef.ofBuf, cast_eq]
  after_results_simp

/-- The down projection as the launch finds it. -/
theorem V_main_v4 : (V m c main_v4 : Vec Ideal S2816x1024 .bf16) = truncf (F := Ideal) .bf16 (m ((c : Thread nD τ).loc main_arg7) : Vec Ideal S2816x1024 .f32) bitsLt_bf16_f32 := by
  simp only [V, hostOps0, List.flatten_cons, List.flatten_nil, List.append_nil, List.cons_append, List.nil_append, TRef.unary, TRef.binary, TRef.toBuf, TRef.ofBuf, cast_eq]
  after_results_simp

/-- The gain as the launch finds it: one row. -/
theorem V_main_v1 : (V m c main_v1 : Vec Ideal S1x1024 .f32) = shapeCast S1x1024 (m ((c : Thread nD τ).loc main_arg4) : Vec Ideal S1024 .f32) shapeCasts_S1024_S1x1024 := by
  simp only [V, hostOps0, List.flatten_cons, List.flatten_nil, List.append_nil, List.cons_append, List.nil_append, TRef.unary, TRef.binary, TRef.toBuf, TRef.ofBuf, cast_eq]
  after_results_simp
  rfl

/-- The residual stream as the launch finds it: one matrix. -/
theorem V_main_v5 : (V m c main_v5 : Vec Ideal S65536x1024 .f32) = shapeCast S65536x1024 (m ((c : Thread nD τ).loc main_arg0) : Vec Ideal S32x2048x1024 .f32) shapeCasts_S32x2048x1024_S65536x1024 := by
  simp only [V, hostOps0, List.flatten_cons, List.flatten_nil, List.append_nil, List.cons_append, List.nil_append, TRef.unary, TRef.binary, TRef.toBuf, TRef.ofBuf, cast_eq]
  after_results_simp
  rfl

/-- The attention's output as the launch finds it: one matrix. -/
theorem V_main_v6 : (V m c main_v6 : Vec Ideal S65536x512 .bf16) = shapeCast S65536x512 (m ((c : Thread nD τ).loc main_arg1) : Vec Ideal S32x2048x512 .bf16) shapeCasts_S32x2048x512_S65536x512 := by
  simp only [V, hostOps0, List.flatten_cons, List.flatten_nil, List.append_nil, List.cons_append, List.nil_append, TRef.unary, TRef.binary, TRef.toBuf, TRef.ofBuf, cast_eq]
  after_results_simp
  rfl

/-- The recurrence's output as the launch finds it: one matrix. -/
theorem V_main_v7 : (V m c main_v7 : Vec Ideal S65536x512 .bf16) = shapeCast S65536x512 (m ((c : Thread nD τ).loc main_arg2) : Vec Ideal S32x2048x512 .bf16) shapeCasts_S32x2048x512_S65536x512 := by
  simp only [V, hostOps0, List.flatten_cons, List.flatten_nil, List.append_nil, List.cons_append, List.nil_append, TRef.unary, TRef.binary, TRef.toBuf, TRef.ofBuf, cast_eq]
  after_results_simp
  rfl

/-- The residual stream's rows as one matrix. -/
theorem wide_read (x : Vec Ideal S32x2048x1024 .f32) (i : Fin 32) (s : Fin 2048) (n : Fin 1024) :
    shapeCast S65536x1024 x shapeCasts_S32x2048x1024_S65536x1024 (ix2 ⟨2048 * i.val + s.val, by omega⟩ n) = x (ix3 i s n) := by
  pointwise

/-- A branch's rows as one matrix. -/
theorem half_read (x : Vec Ideal S32x2048x512 .bf16) (i : Fin 32) (s : Fin 2048) (n : Fin 512) :
    shapeCast S65536x512 x shapeCasts_S32x2048x512_S65536x512 (ix2 ⟨2048 * i.val + s.val, by omega⟩ n) = x (ix3 i s n) := by
  pointwise

/-- The gain as one row. -/
theorem gain_read (x : Vec Ideal S1024 .f32) (n : Fin 1024) : shapeCast S1x1024 x shapeCasts_S1024_S1x1024 (ix2 0 n) = x (ix1 n) := by
  pointwise

/-- The residual block holds 512 rows. -/
theorem iblk0_apply (r : Fin 512) (n : Fin 1024) :
    (iblk m c 0 t : Vec Ideal S512x1024 .f32) (ix2 r n) = m ((c : Thread nD τ).loc main_arg0) (ix3 (batchOf t r) (placeOf t r) n) := by
  show (V m c main_v5 : Vec Ideal S65536x1024 .f32) (((cfg0.win 0).blk t).view.emb (ix2 r n)) = _
  have e : ((cfg0.win 0).blk t).view.emb (ix2 r n) = ix2 ⟨2048 * (batchOf t r).val + (placeOf t r).val, by omega⟩ n := by
    refine funext fun a => Fin.ext ?_
    refine (win0_0.rect_emb_val t (ix2 r n) a).trans ?_
    fin_cases a
    · show (BitVec.ofNat 32 (point t).val).toNat * 512 + r.val = 2048 * (batchOf t r).val + (placeOf t r).val
      rw [point_word, row_eq]; omega
    · show 0 * 1024 + n.val = n.val
      omega
  rw [e, V_main_v5]
  exact wide_read _ _ _ _

/-- The attention's block holds 512 rows. -/
theorem iblk1_apply (r : Fin 512) (n : Fin 512) :
    (iblk m c 1 t : Vec Ideal S512x512 .bf16) (ix2 r n) = m ((c : Thread nD τ).loc main_arg1) (ix3 (batchOf t r) (placeOf t r) n) := by
  show (V m c main_v6 : Vec Ideal S65536x512 .bf16) (((cfg0.win 1).blk t).view.emb (ix2 r n)) = _
  have e : ((cfg0.win 1).blk t).view.emb (ix2 r n) = ix2 ⟨2048 * (batchOf t r).val + (placeOf t r).val, by omega⟩ n := by
    refine funext fun a => Fin.ext ?_
    refine (win0_1.rect_emb_val t (ix2 r n) a).trans ?_
    fin_cases a
    · show (BitVec.ofNat 32 (point t).val).toNat * 512 + r.val = 2048 * (batchOf t r).val + (placeOf t r).val
      rw [point_word, row_eq]; omega
    · show 0 * 512 + n.val = n.val
      omega
  rw [e, V_main_v6]
  exact half_read _ _ _ _

/-- The recurrence's block holds 512 rows. -/
theorem iblk2_apply (r : Fin 512) (n : Fin 512) :
    (iblk m c 2 t : Vec Ideal S512x512 .bf16) (ix2 r n) = m ((c : Thread nD τ).loc main_arg2) (ix3 (batchOf t r) (placeOf t r) n) := by
  show (V m c main_v7 : Vec Ideal S65536x512 .bf16) (((cfg0.win 2).blk t).view.emb (ix2 r n)) = _
  have e : ((cfg0.win 2).blk t).view.emb (ix2 r n) = ix2 ⟨2048 * (batchOf t r).val + (placeOf t r).val, by omega⟩ n := by
    refine funext fun a => Fin.ext ?_
    refine (win0_2.rect_emb_val t (ix2 r n) a).trans ?_
    fin_cases a
    · show (BitVec.ofNat 32 (point t).val).toNat * 512 + r.val = 2048 * (batchOf t r).val + (placeOf t r).val
      rw [point_word, row_eq]; omega
    · show 0 * 512 + n.val = n.val
      omega
  rw [e, V_main_v7]
  exact half_read _ _ _ _

/-- The projection's block is the whole matrix. -/
theorem iblk3_apply (r : Fin 1024) (n : Fin 1024) :
    (iblk m c 3 t : Vec Ideal S1024x1024 .bf16) (ix2 r n) = m ((c : Thread nD τ).loc main_arg3) (ix2 r n) := by
  show (V m c main_v0 : Vec Ideal S1024x1024 .bf16) (((cfg0.win 3).blk t).view.emb (ix2 r n)) = _
  have e : ((cfg0.win 3).blk t).view.emb (ix2 r n) = ix2 r n := by
    refine funext fun a => Fin.ext ?_
    refine (win0_3.rect_emb_val t (ix2 r n) a).trans ?_
    fin_cases a
    · show 0 * 1024 + r.val = r.val
      omega
    · show 0 * 1024 + n.val = n.val
      omega
  rw [e, V_main_v0]
  rfl

/-- The gate's block is the whole matrix. -/
theorem iblk5_apply (r : Fin 1024) (n : Fin 2816) :
    (iblk m c 5 t : Vec Ideal S1024x2816 .bf16) (ix2 r n) = m ((c : Thread nD τ).loc main_arg5) (ix2 r n) := by
  show (V m c main_v2 : Vec Ideal S1024x2816 .bf16) (((cfg0.win 5).blk t).view.emb (ix2 r n)) = _
  have e : ((cfg0.win 5).blk t).view.emb (ix2 r n) = ix2 r n := by
    refine funext fun a => Fin.ext ?_
    refine (win0_5.rect_emb_val t (ix2 r n) a).trans ?_
    fin_cases a
    · show 0 * 1024 + r.val = r.val
      omega
    · show 0 * 2816 + n.val = n.val
      omega
  rw [e, V_main_v2]
  rfl

/-- The other factor's block is the whole matrix. -/
theorem iblk6_apply (r : Fin 1024) (n : Fin 2816) :
    (iblk m c 6 t : Vec Ideal S1024x2816 .bf16) (ix2 r n) = m ((c : Thread nD τ).loc main_arg6) (ix2 r n) := by
  show (V m c main_v3 : Vec Ideal S1024x2816 .bf16) (((cfg0.win 6).blk t).view.emb (ix2 r n)) = _
  have e : ((cfg0.win 6).blk t).view.emb (ix2 r n) = ix2 r n := by
    refine funext fun a => Fin.ext ?_
    refine (win0_6.rect_emb_val t (ix2 r n) a).trans ?_
    fin_cases a
    · show 0 * 1024 + r.val = r.val
      omega
    · show 0 * 2816 + n.val = n.val
      omega
  rw [e, V_main_v3]
  rfl

/-- The down projection's block is the whole matrix. -/
theorem iblk7_apply (r : Fin 2816) (n : Fin 1024) :
    (iblk m c 7 t : Vec Ideal S2816x1024 .bf16) (ix2 r n) = m ((c : Thread nD τ).loc main_arg7) (ix2 r n) := by
  show (V m c main_v4 : Vec Ideal S2816x1024 .bf16) (((cfg0.win 7).blk t).view.emb (ix2 r n)) = _
  have e : ((cfg0.win 7).blk t).view.emb (ix2 r n) = ix2 r n := by
    refine funext fun a => Fin.ext ?_
    refine (win0_7.rect_emb_val t (ix2 r n) a).trans ?_
    fin_cases a
    · show 0 * 2816 + r.val = r.val
      omega
    · show 0 * 1024 + n.val = n.val
      omega
  rw [e, V_main_v4]
  rfl

/-- The gain's block is the gain. -/
theorem iblk4_apply (r : Fin 1) (n : Fin 1024) :
    (iblk m c 4 t : Vec Ideal S1x1024 .f32) (ix2 r n) = m ((c : Thread nD τ).loc main_arg4) (ix1 n) := by
  show (V m c main_v1 : Vec Ideal S1x1024 .f32) (((cfg0.win 4).blk t).view.emb (ix2 r n)) = _
  have e : ((cfg0.win 4).blk t).view.emb (ix2 r n) = ix2 r n := by
    refine funext fun a => Fin.ext ?_
    refine (win0_4.rect_emb_val t (ix2 r n) a).trans ?_
    fin_cases a
    · show 0 * 1 + r.val = r.val
      omega
    · show 0 * 1024 + n.val = n.val
      omega
  rw [e, V_main_v1]
  obtain rfl := Subsingleton.elim r 0
  exact gain_read _ n

/-- Where row `r` of the block of grid point `t` lies in the result. -/
theorem out_emb (r : Fin 512) (n : Fin 1024) :
    ((cfg0.win 8).blk t).view.emb (ix2 r n) = ix2 ⟨2048 * (batchOf t r).val + (placeOf t r).val, by omega⟩ n := by
  refine funext fun a => Fin.ext ?_
  refine (win0_8.rect_emb_val t (ix2 r n) a).trans ?_
  fin_cases a
  · show (BitVec.ofNat 32 (point t).val).toNat * 512 + r.val = 2048 * (batchOf t r).val + (placeOf t r).val
    rw [point_word, row_eq]; omega
  · show 0 * 1024 + n.val = n.val
    omega

/-- The reference's tail of the kernel's arguments. -/
def expected : FVec Ideal S65536x1024 .f32 :=
  Cert.TailReferenceIdeal.Value.tailOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- One entry of the block a grid point writes back is the reference's. -/
theorem out_expected (r : Fin 512) (n : Fin 1024) :
    out0_8 (iblk m c 0 t) (iblk m c 1 t) (iblk m c 2 t) (iblk m c 3 t) (iblk m c 4 t) (iblk m c 5 t) (iblk m c 6 t) (iblk m c 7 t) (ix2 r n)
      = expected m c (ix2 ⟨2048 * (batchOf t r).val + (placeOf t r).val, by omega⟩ n) := by
  unfold expected
  rw [out_rows, Cert.TailReferenceIdeal.Value.tailOf_apply]
  simp only [iblk0_apply, iblk1_apply, iblk2_apply, iblk3_apply, iblk4_apply, iblk5_apply, iblk6_apply, iblk7_apply]

/-- A block equal entry by entry to its part of an array is what is written of it. -/
theorem block_eq (O : Vec Ideal S512x1024 .f32) (G : Vec Ideal S65536x1024 .f32)
    (h : ∀ r n, O (ix2 r n) = G (ix2 ⟨2048 * (batchOf t r).val + (placeOf t r).val, by omega⟩ n)) :
    (cfg0.win 8).cut (grid0.coords t) O = ((cfg0.win 8).blk t).view.read (Elt Ideal) G := by
  funext y
  show O y = G (((cfg0.win 8).blk t).view.emb y)
  have e : (y : S512x1024.Idx) = ix2 (y 0) (y 1) := eq_ix2 (n0 := 512) (n1 := 1024) y
  exact (congrArg O e).trans ((h (y 0) (y 1)).trans (congrArg G ((out_emb t (y 0) (y 1)).symm.trans (congrArg _ e.symm))))

/-- Every grid point's block is written back. -/
theorem flush8 : ∀ t : Fin cfg0.N, (cfg0.win 8).flush t = true := by
  decide +kernel

/-- The points are numbered in order. -/
theorem point_val : ∀ k : Fin 128, (point ⟨k.val, k.isLt⟩).val = k.val := by
  decide +kernel

/-- Every entry of the result is in some grid point's block. -/
theorem out_cover (i : S65536x1024.Idx) : ∃ t, (cfg0.win 8).flush t = true ∧ i ∈ ((cfg0.win 8).blk t).view.set := by
  obtain ⟨q, n, rfl⟩ : ∃ q n, i = ix2 (n0 := 65536) (n1 := 1024) q n := ⟨i 0, i 1, eq_ix2 i⟩
  have ht : q.val / 512 < cfg0.N := by show _ < 128; omega
  refine ⟨⟨q.val / 512, ht⟩, flush8 _, ?_⟩
  have := ((cfg0.win 8).blk ⟨q.val / 512, ht⟩).view.emb_mem_set (ix2 (⟨q.val % 512, by omega⟩ : Fin 512) n)
  rw [out_emb] at this
  have hp : (point ⟨q.val / 512, ht⟩).val = q.val / 512 := point_val ⟨q.val / 512, by omega⟩
  have eq : (⟨2048 * (batchOf ⟨q.val / 512, ht⟩ ⟨q.val % 512, by omega⟩).val + (placeOf ⟨q.val / 512, ht⟩ ⟨q.val % 512, by omega⟩).val, by omega⟩ : Fin 65536) = q :=
    Fin.ext ((row_eq _ _).trans (by rw [hp]; show 512 * (q.val / 512) + q.val % 512 = q.val; omega))
  rwa [eq] at this

/-- The kernel's result array is the reference's. -/
theorem arr_expected : (dats m 0 c).arrAt 8 cfg0.N = expected m c := by
  refine (dats m 0 c).arrAt_eq_of_cover 8 (expected m c) (fun t _ => ?_) out_cover
  rw [Value.flushed8]
  exact block_eq t _ _ (out_expected m c t)

end Cert.TailIdeal.Gen

end
-- ==== Proof.Tail.lean ====
/-
  The tail's claim: the kernel and the reference end with equal results.
-/
module

public import proofs.«01_k».proof.Defs
public import proofs.«01_k».proof.Proof.TailEqual

@[expose] public section

noncomputable section

namespace Cert.Proof

open Idealize.ShloMosaic Idealize.ShloMosaic.TcCoe Idealize.SL.Sem

/-- The tail kernel and its reference end with the same result, their arguments unchanged. -/
theorem tail : algebraic_TailIdeal_TailReferenceIdeal (hTailIdeal := Cert.TailIdeal.Gen.facts)
    (hTailReferenceIdeal := Cert.TailReferenceIdeal.Gen.facts) := by
  intro m g m' g' _ hargs
  refine ⟨fun c => Cert.TailIdeal.Gen.expected m c, ?_, ?_⟩
  · refine (θ_run _ _ _).mono (fun r h c => ?_) (Cert.TailIdeal.Value.run_blocks m g)
    exact ⟨(h c).1.trans (Cert.TailIdeal.Gen.arr_expected m c), (h c).2⟩
  · refine (θ_run _ _ _).mono (fun r h c => ?_) (Cert.TailReferenceIdeal.Value.run (F := Ideal) m' g')
    obtain ⟨e0, e1, e2, e3, e4, e5, e6, e7⟩ := hargs c
    refine ⟨(h c).1.trans ((Cert.TailReferenceIdeal.Value.result_stages m' c).trans ?_), (h c).2⟩
    rw [e0, e1, e2, e3, e4, e5, e6, e7]
    rfl

end Cert.Proof

end
-- ==== Proof.lean ====
/-
  The certificate's claims, from the modules that prove them.
-/
module

public import proofs.«01_k».proof.Defs
public import proofs.«01_k».proof.Proof.Attention
public import proofs.«01_k».proof.Proof.Finite
public import proofs.«01_k».proof.Proof.Proj
public import proofs.«01_k».proof.Proof.ProjSame
public import proofs.«01_k».proof.Proof.Tail
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Proj
public import proofs.«01_k».proof.Proof.Gen.ProjIdeal
public import proofs.«01_k».proof.Proof.Gen.ProjReferenceIdeal
public import proofs.«01_k».proof.Proof.Gen.ProjReferenceIdeal.Run
public import proofs.«01_k».proof.Proof.Gen.ReferenceIdeal
public import proofs.«01_k».proof.Proof.Gen.ReferenceIdeal.Run
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Run

@[expose] public section

noncomputable section

namespace Cert.Proof

open Idealize.ShloMosaic Idealize.SL.Sem

/-- The attention's reference ends with its arguments unchanged and every counter at zero: it has no counters. -/
theorem frame_reference : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The tail's reference ends with its arguments unchanged and every counter at zero: it has no counters. -/
theorem frame_tail_reference : quiescent_TailReferenceIdeal (hTailReferenceIdeal := Cert.TailReferenceIdeal.Gen.facts) := fun m g _ =>
  (θ_run Cert.TailReferenceIdeal.defs _ _).mono (fun r h => ⟨fun c => (h c).2, sem_eq_zero_of_no_sems (by decide) r.2⟩)
    (Cert.TailReferenceIdeal.Value.run (F := Ideal) m g)

/-- The projection's reference ends with its arguments unchanged and every counter at zero: it has no counters. -/
theorem frame_proj_reference : quiescent_ProjReferenceIdeal (hProjReferenceIdeal := Cert.ProjReferenceIdeal.Gen.facts) := fun m g _ =>
  (θ_run Cert.ProjReferenceIdeal.defs _ _).mono (fun r h => ⟨fun c => (h c).2.2.2.2.2.2.2.2, sem_eq_zero_of_no_sems (by decide) r.2⟩)
    (Cert.ProjReferenceIdeal.Value.run (F := Ideal) m g)

/-- All the certificate's claims: the frames, what the ideal programs stand for, and the values. -/
theorem claim : Cert.Claim :=
  ⟨Cert.Kernel.Gen.facts, Cert.KernelIdeal.Gen.facts, Cert.ReferenceIdeal.Gen.facts, Cert.Tail.Gen.facts, Cert.TailIdeal.Gen.facts,
    Cert.TailReferenceIdeal.Gen.facts, Cert.Proj.Gen.facts, Cert.ProjIdeal.Gen.facts, Cert.ProjReferenceIdeal.Gen.facts, Cert.Pre_finite_scores.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Tail.Gen.frame m ρ,
    fun m ρ _ => Cert.TailIdeal.Gen.frame m ρ,
    frame_tail_reference,
    fun m ρ _ => Cert.Proj.Gen.frame m ρ,
    fun m ρ _ => Cert.ProjIdeal.Gen.frame m ρ,
    frame_proj_reference,
    IdealRules.named_const.statement Cert.KernelIdeal.κ "mask" .f32 0xF149F2CA#32 ⊥ rfl,
    attention,
    trivial,
    tail,
    trivial,
    proj⟩

end Cert.Proof

end
